-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_score_rows [hPre_finite_score_rows : Cert.Pre_finite_score_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_score_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_score_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_score_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_score_rows [hPre_finite_score_rows : Cert.Pre_finite_score_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_score_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_score_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_score_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_score_rows [hKernelIdeal : Cert.KernelIdeal.Facts] [hPre_finite_score_rows : Cert.Pre_finite_score_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_score_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_score_rows [hReferenceIdeal : Cert.ReferenceIdeal.Facts] [hPre_finite_score_rows : Cert.Pre_finite_score_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_score_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "qscale" .f32 0x3E38AA3B#32 (((Real.log 256)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_score_rows [hKernelIdeal : Cert.KernelIdeal.Facts] [hReferenceIdeal : Cert.ReferenceIdeal.Facts] [hPre_finite_score_rows : Cert.Pre_finite_score_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_score_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_score_rows : Cert.Pre_finite_score_rows.Facts),
    quiescent_Kernel (hKernel := hKernel)
    ∧ quiescent_KernelIdeal (hKernelIdeal := hKernelIdeal)
    ∧ quiescent_KernelIdeal_pre_finite_score_rows (hKernelIdeal := hKernelIdeal) (hPre_finite_score_rows := hPre_finite_score_rows)
    ∧ quiescent_ReferenceIdeal (hReferenceIdeal := hReferenceIdeal)
    ∧ quiescent_ReferenceIdeal_pre_finite_score_rows (hReferenceIdeal := hReferenceIdeal) (hPre_finite_score_rows := hPre_finite_score_rows)
    ∧ preserves_Kernel_KernelIdeal
    ∧ algebraic_KernelIdeal_ReferenceIdeal_pre_finite_score_rows (hKernelIdeal := hKernelIdeal) (hReferenceIdeal := hReferenceIdeal) (hPre_finite_score_rows := hPre_finite_score_rows)
-- ==== Pre_finite_score_rows.lean ====
abbrev S4x8192x1024 : Shape := ⟨3, ![4, 8192, 1024]⟩
abbrev S1x1024 : Shape := ⟨2, ![1, 1024]⟩
abbrev S1x1024x2304 : Shape := ⟨3, ![1, 1024, 2304]⟩
abbrev S1x64 : Shape := ⟨2, ![1, 64]⟩
abbrev S1x8 : Shape := ⟨2, ![1, 8]⟩
abbrev S1x3x512 : Shape := ⟨3, ![1, 3, 512]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S1x64 : S_.BroadcastsInDim S1x64 (![] : Fin 0 → Fin S1x64.rank)
  bcast_S_S1x8 : S_.BroadcastsInDim S1x8 (![] : Fin 0 → Fin S1x8.rank)

variable [Facts]

def fn {F : FTy → Type} [FloatOps F] (main_arg0 : FVec F S4x8192x1024 .f32) (main_arg1 : FVec F S1x1024 .f32) (main_arg2 : FVec F S1x1024x2304 .f32) (main_arg3 : FVec F S1x64 .f32) (main_arg4 : FVec F S1x64 .f32) (main_arg5 : FVec F S1x8 .f32) (main_arg6 : FVec F S1x3x512 .f32) (main_arg7 : FVec F S1x512 .f32) (main_arg8 : FVec F S1x512 .f32) (main_arg9 : FVec F S1x1024x1024 .f32) (main_arg10 : FVec F S1x1024 .f32) (main_arg11 : FVec F S1x1024x4096 .f32) (main_arg12 : FVec F S1x4096x1024 .f32) : IVec S1x64 1 × IVec S1x64 1 × IVec S1x8 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_cst_1 : FVec F S_ .f32 := constant S_ .f32 0x7F800000#32
  let main_v6 : FVec F S1x8 .f32 := broadcastInDim S1x8 ![] bcast_S_S1x8 main_cst_1
  let main_v7 : IVec S1x8 1 := cmpf .olt main_arg5 main_v6
  (main_v2, main_v5, main_v7)
-- ==== Kernel.lean ====
abbrev S4x8192x1024 : Shape := ⟨3, ![4, 8192, 1024]⟩
abbrev S1x1024 : Shape := ⟨2, ![1, 1024]⟩
abbrev S1x1024x2304 : Shape := ⟨3, ![1, 1024, 2304]⟩
abbrev S1x64 : Shape := ⟨2, ![1, 64]⟩
abbrev S1x8 : Shape := ⟨2, ![1, 8]⟩
abbrev S1x3x512 : Shape := ⟨3, ![1, 3, 512]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S32768x1024 : Shape := ⟨2, ![32768, 1024]⟩
abbrev S8 : Shape := ⟨1, ![8]⟩
abbrev S1024x2304 : Shape := ⟨2, ![1024, 2304]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S128x512 : Shape := ⟨2, ![128, 512]⟩
abbrev S8x512 : Shape := ⟨2, ![8, 512]⟩
abbrev S4x512x1024 : Shape := ⟨3, ![4, 512, 1024]⟩
abbrev S4 : Shape := ⟨1, ![4]⟩
abbrev S1 : Shape := ⟨1, ![1]⟩
abbrev S_ : Shape := ⟨0, ![]⟩
abbrev S1x512x1024 : Shape := ⟨3, ![1, 512, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x128 : Shape := ⟨2, ![512, 128]⟩
abbrev S1x128 : Shape := ⟨2, ![1, 128]⟩
abbrev S520x512 : Shape := ⟨2, ![520, 512]⟩
abbrev S1x1x512 : Shape := ⟨3, ![1, 1, 512]⟩
abbrev S128x128 : Shape := ⟨2, ![128, 128]⟩
abbrev S256x128 : Shape := ⟨2, ![256, 128]⟩
abbrev S256x512 : Shape := ⟨2, ![256, 512]⟩
abbrev S256x256 : Shape := ⟨2, ![256, 256]⟩
abbrev S128 : Shape := ⟨1, ![128]⟩
abbrev S128x1 : Shape := ⟨2, ![128, 1]⟩

abbrev nBuf : Space → Nat
  | .hbm => 20
  | .vmem => 21
  | .smem => 1
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S1x3x512, .f32⟩
  | .hbm, ⟨7, _⟩ => ⟨S1x512, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024x4096, .f32⟩
  | .hbm, ⟨12, _⟩ => ⟨S1x4096x1024, .f32⟩
  | .hbm, ⟨13, _⟩ => ⟨S32768x1024, .f32⟩
  | .hbm, ⟨14, _⟩ => ⟨S8, .f32⟩
  | .hbm, ⟨15, _⟩ => ⟨S1024x2304, .f32⟩
  | .hbm, ⟨16, _⟩ => ⟨S1024x1024, .f32⟩
  | .hbm, ⟨17, _⟩ => ⟨S1024x4096, .f32⟩
  | .hbm, ⟨18, _⟩ => ⟨S4096x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x64, .f32⟩
  | .local _ .vmem, ⟨4, _⟩ => ⟨S1x64, .f32⟩
  | .local _ .vmem, ⟨5, _⟩ => ⟨S1x3x512, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S128x512, .bf16⟩
  | .local _ .vmem, ⟨14, _⟩ => ⟨S8x512, .f32⟩
  | .local _ .vmem, ⟨15, _⟩ => ⟨S512x1024, .bf16⟩
  | .local _ .vmem, ⟨16, _⟩ => ⟨S1024x2304, .bf16⟩
  | .local _ .vmem, ⟨17, _⟩ => ⟨S1024x1024, .bf16⟩
  | .local _ .vmem, ⟨18, _⟩ => ⟨S1024x4096, .bf16⟩
  | .local _ .vmem, ⟨19, _⟩ => ⟨S4096x1024, .bf16⟩
  | .local _ .vmem, ⟨20, _⟩ => ⟨S4x512x1024, .f32⟩
  | .local _ .smem, ⟨0, _⟩ => ⟨S8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 256)⁻¹ : ℝ) : EReal)
  | _ => none
-- ==== ReferenceIdeal.lean ====
abbrev S4x8192x1024 : Shape := ⟨3, ![4, 8192, 1024]⟩
abbrev S1x1024 : Shape := ⟨2, ![1, 1024]⟩
abbrev S1x1024x2304 : Shape := ⟨3, ![1, 1024, 2304]⟩
abbrev S1x64 : Shape := ⟨2, ![1, 64]⟩
abbrev S1x8 : Shape := ⟨2, ![1, 8]⟩
abbrev S1x3x512 : Shape := ⟨3, ![1, 3, 512]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2304 : Shape := ⟨2, ![1024, 2304]⟩
abbrev S4x8192x2304 : Shape := ⟨3, ![4, 8192, 2304]⟩
abbrev S4x8192x512 : Shape := ⟨3, ![4, 8192, 512]⟩
abbrev S4x8192x8x64 : Shape := ⟨4, ![4, 8192, 8, 64]⟩
abbrev S4x8192x128 : Shape := ⟨3, ![4, 8192, 128]⟩
abbrev S4x8192x2x64 : Shape := ⟨4, ![4, 8192, 2, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x2 : Shape := ⟨3, ![4, 8192, 2]⟩
abbrev S4x8192x2x1 : Shape := ⟨4, ![4, 8192, 2, 1]⟩
abbrev S8 : Shape := ⟨1, ![8]⟩
abbrev S4x64x128x2x4x64 : Shape := ⟨6, ![4, 64, 128, 2, 4, 64]⟩
abbrev S4x8320x2x64 : Shape := ⟨4, ![4, 8320, 2, 64]⟩
abbrev S4x65x128x2x64 : Shape := ⟨5, ![4, 65, 128, 2, 64]⟩
abbrev S4x64x128x2x64 : Shape := ⟨5, ![4, 64, 128, 2, 64]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x4x1x1 : Shape := ⟨6, ![1, 1, 2, 4, 1, 1]⟩
abbrev S4x64x2x4x128x1 : Shape := ⟨6, ![4, 64, 2, 4, 128, 1]⟩
abbrev S4x64x2x4x128x257 : Shape := ⟨6, ![4, 64, 2, 4, 128, 257]⟩
abbrev S4x64x2x4x128 : Shape := ⟨5, ![4, 64, 2, 4, 128]⟩
abbrev S4x64x2x64x4x128 : Shape := ⟨6, ![4, 64, 2, 64, 4, 128]⟩
abbrev S3x512 : Shape := ⟨2, ![3, 512]⟩
abbrev S4x8194x512 : Shape := ⟨3, ![4, 8194, 512]⟩
abbrev S512 : Shape := ⟨1, ![512]⟩
abbrev S1x1x512 : Shape := ⟨3, ![1, 1, 512]⟩
abbrev S1024x1024 : Shape := ⟨2, ![1024, 1024]⟩
abbrev S1024x4096 : Shape := ⟨2, ![1024, 4096]⟩
abbrev S4x8192x4096 : Shape := ⟨3, ![4, 8192, 4096]⟩
abbrev S4096x1024 : Shape := ⟨2, ![4096, 1024]⟩
abbrev S32768x1024 : Shape := ⟨2, ![32768, 1024]⟩

abbrev nBuf : Space → Nat
  | .hbm => 250
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x2304, .f32⟩
  | 3 => ⟨S1x64, .f32⟩
  | 4 => ⟨S1x64, .f32⟩
  | 5 => ⟨S1x8, .f32⟩
  | 6 => ⟨S1x3x512, .f32⟩
  | 7 => ⟨S1x512, .f32⟩
  | 8 => ⟨S1x512, .f32⟩
  | 9 => ⟨S1x1024x1024, .f32⟩
  | 10 => ⟨S1x1024, .f32⟩
  | 11 => ⟨S1x1024x4096, .f32⟩
  | 12 => ⟨S1x4096x1024, .f32⟩
  | 13 => ⟨S1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S1024x2304, .f32⟩
  | 31 => ⟨S4x8192x2304, .f32⟩
  | 32 => ⟨S4x8192x512, .f32⟩
  | 33 => ⟨S4x8192x8x64, .f32⟩
  | 34 => ⟨S4x8192x128, .f32⟩
  | 35 => ⟨S4x8192x2x64, .f32⟩
  | 36 => ⟨S4x8192x128, .f32⟩
  | 37 => ⟨S4x8192x2x64, .f32⟩
  | 38 => ⟨S4x8192x512, .f32⟩
  | 39 => ⟨S4x8192x512, .f32⟩
  | 40 => ⟨S4x8192x512, .f32⟩
  | 41 => ⟨S64, .f32⟩
  | 42 => ⟨S4x8192x8x64, .f32⟩
  | 43 => ⟨S_, .f32⟩
  | 44 => ⟨S4x8192x8, .f32⟩
  | 45 => ⟨S4x8192x8x1, .f32⟩
  | 46 => ⟨S_, .f32⟩
  | 47 => ⟨S4x8192x8x1, .f32⟩
  | 48 => ⟨S4x8192x8x1, .f32⟩
  | 49 => ⟨S_, .f32⟩
  | 50 => ⟨S4x8192x8x1, .f32⟩
  | 51 => ⟨S4x8192x8x1, .f32⟩
  | 52 => ⟨S4x8192x8x1, .f32⟩
  | 53 => ⟨S4x8192x8x64, .f32⟩
  | 54 => ⟨S4x8192x8x64, .f32⟩
  | 55 => ⟨S1x1x1x64, .f32⟩
  | 56 => ⟨S4x8192x8x64, .f32⟩
  | 57 => ⟨S4x8192x8x64, .f32⟩
  | 58 => ⟨S64, .f32⟩
  | 59 => ⟨S4x8192x2x64, .f32⟩
  | 60 => ⟨S_, .f32⟩
  | 61 => ⟨S4x8192x2, .f32⟩
  | 62 => ⟨S4x8192x2x1, .f32⟩
  | 63 => ⟨S_, .f32⟩
  | 64 => ⟨S4x8192x2x1, .f32⟩
  | 65 => ⟨S4x8192x2x1, .f32⟩
  | 66 => ⟨S_, .f32⟩
  | 67 => ⟨S4x8192x2x1, .f32⟩
  | 68 => ⟨S4x8192x2x1, .f32⟩
  | 69 => ⟨S4x8192x2x1, .f32⟩
  | 70 => ⟨S4x8192x2x64, .f32⟩
  | 71 => ⟨S4x8192x2x64, .f32⟩
  | 72 => ⟨S1x1x1x64, .f32⟩
  | 73 => ⟨S4x8192x2x64, .f32⟩
  | 74 => ⟨S4x8192x2x64, .f32⟩
  | 75 => ⟨S8, .f32⟩
  | 76 => ⟨S4x64x128x2x4x64, .f32⟩
  | 77 => ⟨S_, .i32⟩
  | 78 => ⟨S_, .f32⟩
  | 79 => ⟨S4x8320x2x64, .f32⟩
  | 80 => ⟨S4x65x128x2x64, .f32⟩
  | 81 => ⟨S_, .i32⟩
  | 82 => ⟨S_, .f32⟩
  | 83 => ⟨S4x8320x2x64, .f32⟩
  | 84 => ⟨S4x65x128x2x64, .f32⟩
  | 85 => ⟨S4x64x128x2x64, .f32⟩
  | 86 => ⟨S4x64x128x2x64, .f32⟩
  | 87 => ⟨S4x64x256x2x64, .f32⟩
  | 88 => ⟨S4x64x128x2x64, .f32⟩
  | 89 => ⟨S4x64x128x2x64, .f32⟩
  | 90 => ⟨S4x64x256x2x64, .f32⟩
  | 91 => ⟨S4x64x2x256x128x4, .f32⟩
  | 92 => ⟨S4x64x2x4x128x256, .f32⟩
  | 93 => ⟨S_, .f32⟩
  | 94 => ⟨S4x64x2x4x128x256, .f32⟩
  | 95 => ⟨S4x64x2x4x128x256, .f32⟩
  | 96 => ⟨S64, .i32⟩
  | 97 => ⟨S64x1, .i32⟩
  | 98 => ⟨S_, .i32⟩
  | 99 => ⟨S64x1, .i32⟩
  | 100 => ⟨S64x1, .i32⟩
  | 101 => ⟨S128, .i32⟩
  | 102 => ⟨S1x128, .i32⟩
  | 103 => ⟨S64x128, .i32⟩
  | 104 => ⟨S64x128, .i32⟩
  | 105 => ⟨S64x128, .i32⟩
  | 106 => ⟨S_, .i32⟩
  | 107 => ⟨S64x1, .i32⟩
  | 108 => ⟨S64x1, .i32⟩
  | 109 => ⟨S256, .i32⟩
  | 110 => ⟨S1x256, .i32⟩
  | 111 => ⟨S64x256, .i32⟩
  | 112 => ⟨S64x256, .i32⟩
  | 113 => ⟨S64x256, .i32⟩
  | 114 => ⟨S64x128x1, .i32⟩
  | 115 => ⟨S64x1x256, .i32⟩
  | 116 => ⟨S64x128x256, .i32⟩
  | 117 => ⟨S64x128x256, .i32⟩
  | 118 => ⟨S64x128x256, .i32⟩
  | 119 => ⟨S_, .i32⟩
  | 120 => ⟨S64x128x256, .i32⟩
  | 121 => ⟨S64x128x256, .i1⟩
  | 122 => ⟨S_, .i32⟩
  | 123 => ⟨S64x128x256, .i32⟩
  | 124 => ⟨S64x128x256, .i1⟩
  | 125 => ⟨S64x128x256, .i1⟩
  | 126 => ⟨S64x1x256, .i32⟩
  | 127 => ⟨S_, .i32⟩
  | _ => ⟨S4x8192x1024, .f32⟩

abbrev hbmTy0_1 (i : Nat) : BufTy := match i % 128 with
  | 0 => ⟨S64x1x256, .i32⟩
  | 1 => ⟨S64x1x256, .i1⟩
  | 2 => ⟨S64x128x256, .i1⟩
  | 3 => ⟨S64x128x256, .i1⟩
  | 4 => ⟨S1x64x1x1x128x256, .i1⟩
  | 5 => ⟨S_, .f32⟩
  | 6 => ⟨S_, .f32⟩
  | 7 => ⟨S4x64x2x4x128x256, .i1⟩
  | 8 => ⟨S4x64x2x4x128x256, .f32⟩
  | 9 => ⟨S4x64x2x4x128x256, .f32⟩
  | 10 => ⟨S1x1x2x4x1x1, .f32⟩
  | 11 => ⟨S4x64x2x4x128x1, .f32⟩
  | 12 => ⟨S4x64x2x4x128x257, .f32⟩
  | 13 => ⟨S_, .f32⟩
  | 14 => ⟨S4x64x2x4x128, .f32⟩
  | 15 => ⟨S_, .f32⟩
  | 16 => ⟨S4x64x2x4x128, .f32⟩
  | 17 => ⟨S4x64x2x4x128, .f32⟩
  | 18 => ⟨S4x64x2x4x128x1, .f32⟩
  | 19 => ⟨S4x64x2x4x128x257, .f32⟩
  | 20 => ⟨S4x64x2x4x128x257, .f32⟩
  | 21 => ⟨S4x64x2x4x128x257, .f32⟩
  | 22 => ⟨S_, .f32⟩
  | 23 => ⟨S4x64x2x4x128, .f32⟩
  | 24 => ⟨S4x64x2x4x128x1, .f32⟩
  | 25 => ⟨S4x64x2x4x128x257, .f32⟩
  | 26 => ⟨S4x64x2x4x128x257, .f32⟩
  | 27 => ⟨S4x64x2x4x128x256, .f32⟩
  | 28 => ⟨S4x64x2x64x4x128, .f32⟩
  | 29 => ⟨S4x64x128x2x4x64, .f32⟩
  | 30 => ⟨S4x8192x512, .f32⟩
  | 31 => ⟨S4x8192x512, .f32⟩
  | 32 => ⟨S3x512, .f32⟩
  | 33 => ⟨S_, .i32⟩
  | 34 => ⟨S_, .f32⟩
  | 35 => ⟨S4x8194x512, .f32⟩
  | 36 => ⟨S1x512, .f32⟩
  | 37 => ⟨S512, .f32⟩
  | 38 => ⟨S4x8192x512, .f32⟩
  | 39 => ⟨S1x1x512, .f32⟩
  | 40 => ⟨S4x8192x512, .f32⟩
  | 41 => ⟨S4x8192x512, .f32⟩
  | 42 => ⟨S1x512, .f32⟩
  | 43 => ⟨S512, .f32⟩
  | 44 => ⟨S4x8192x512, .f32⟩
  | 45 => ⟨S1x1x512, .f32⟩
  | 46 => ⟨S4x8192x512, .f32⟩
  | 47 => ⟨S4x8192x512, .f32⟩
  | 48 => ⟨S4x8192x512, .f32⟩
  | 49 => ⟨S1x512, .f32⟩
  | 50 => ⟨S512, .f32⟩
  | 51 => ⟨S4x8192x512, .f32⟩
  | 52 => ⟨S1x1x512, .f32⟩
  | 53 => ⟨S4x8192x512, .f32⟩
  | 54 => ⟨S4x8192x512, .f32⟩
  | 55 => ⟨S4x8192x512, .f32⟩
  | 56 => ⟨S4x8192x512, .f32⟩
  | 57 => ⟨S512, .f32⟩
  | 58 => ⟨S4x8192x512, .f32⟩
  | 59 => ⟨S_, .f32⟩
  | 60 => ⟨S4x8192, .f32⟩
  | 61 => ⟨S4x8192x1, .f32⟩
  | 62 => ⟨S_, .f32⟩
  | 63 => ⟨S4x8192x1, .f32⟩
  | 64 => ⟨S4x8192x1, .f32⟩
  | 65 => ⟨S_, .f32⟩
  | 66 => ⟨S4x8192x1, .f32⟩
  | 67 => ⟨S4x8192x1, .f32⟩
  | 68 => ⟨S4x8192x1, .f32⟩
  | 69 => ⟨S4x8192x512, .f32⟩
  | 70 => ⟨S4x8192x512, .f32⟩
  | 71 => ⟨S1x1x512, .f32⟩
  | 72 => ⟨S4x8192x512, .f32⟩
  | 73 => ⟨S4x8192x512, .f32⟩
  | 74 => ⟨S512, .f32⟩
  | 75 => ⟨S4x8192x512, .f32⟩
  | 76 => ⟨S_, .f32⟩
  | 77 => ⟨S4x8192, .f32⟩
  | 78 => ⟨S4x8192x1, .f32⟩
  | 79 => ⟨S_, .f32⟩
  | 80 => ⟨S4x8192x1, .f32⟩
  | 81 => ⟨S4x8192x1, .f32⟩
  | 82 => ⟨S_, .f32⟩
  | 83 => ⟨S4x8192x1, .f32⟩
  | 84 => ⟨S4x8192x1, .f32⟩
  | 85 => ⟨S4x8192x1, .f32⟩
  | 86 => ⟨S4x8192x512, .f32⟩
  | 87 => ⟨S4x8192x512, .f32⟩
  | 88 => ⟨S1x1x512, .f32⟩
  | 89 => ⟨S4x8192x512, .f32⟩
  | 90 => ⟨S4x8192x512, .f32⟩
  | 91 => ⟨S4x8192x1024, .f32⟩
  | 92 => ⟨S1024x1024, .f32⟩
  | 93 => ⟨S4x8192x1024, .f32⟩
  | 94 => ⟨S4x8192x1024, .f32⟩
  | 95 => ⟨S1024, .f32⟩
  | 96 => ⟨S4x8192x1024, .f32⟩
  | 97 => ⟨S_, .f32⟩
  | 98 => ⟨S4x8192, .f32⟩
  | 99 => ⟨S4x8192x1, .f32⟩
  | 100 => ⟨S_, .f32⟩
  | 101 => ⟨S4x8192x1, .f32⟩
  | 102 => ⟨S4x8192x1, .f32⟩
  | 103 => ⟨S_, .f32⟩
  | 104 => ⟨S4x8192x1, .f32⟩
  | 105 => ⟨S4x8192x1, .f32⟩
  | 106 => ⟨S4x8192x1, .f32⟩
  | 107 => ⟨S4x8192x1024, .f32⟩
  | 108 => ⟨S4x8192x1024, .f32⟩
  | 109 => ⟨S1x1x1024, .f32⟩
  | 110 => ⟨S4x8192x1024, .f32⟩
  | 111 => ⟨S4x8192x1024, .f32⟩
  | 112 => ⟨S1024x4096, .f32⟩
  | 113 => ⟨S4x8192x4096, .f32⟩
  | 114 => ⟨S_, .f32⟩
  | 115 => ⟨S4x8192x4096, .f32⟩
  | 116 => ⟨S4x8192x4096, .f32⟩
  | 117 => ⟨S4x8192x4096, .f32⟩
  | 118 => ⟨S4096x1024, .f32⟩
  | 119 => ⟨S4x8192x1024, .f32⟩
  | 120 => ⟨S4x8192x1024, .f32⟩
  | 121 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_call0_v0 : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_10 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_11 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_12 : Ref sig .tc := ⟨.hbm, 119, rfl⟩
abbrev main_v90 : Ref sig .tc := ⟨.hbm, 120, rfl⟩
abbrev main_v91 : Ref sig .tc := ⟨.hbm, 121, rfl⟩
abbrev main_c_13 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_14 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_16 : Ref sig .tc := ⟨.hbm, 141, rfl⟩
abbrev main_v105 : Ref sig .tc := ⟨.hbm, 142, rfl⟩
abbrev main_cst_17 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_18 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_19 : Ref sig .tc := ⟨.hbm, 161, rfl⟩
abbrev main_call3_v0 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_20 : Ref sig .tc := ⟨.hbm, 187, rfl⟩
abbrev main_v146 : Ref sig .tc := ⟨.hbm, 188, rfl⟩
abbrev main_v147 : Ref sig .tc := ⟨.hbm, 189, rfl⟩
abbrev main_cst_21 : Ref sig .tc := ⟨.hbm, 190, rfl⟩
abbrev main_v148 : Ref sig .tc := ⟨.hbm, 191, rfl⟩
abbrev main_v149 : Ref sig .tc := ⟨.hbm, 192, rfl⟩
abbrev main_cst_22 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_23 : Ref sig .tc := ⟨.hbm, 204, rfl⟩
abbrev main_v160 : Ref sig .tc := ⟨.hbm, 205, rfl⟩
abbrev main_v161 : Ref sig .tc := ⟨.hbm, 206, rfl⟩
abbrev main_cst_24 : Ref sig .tc := ⟨.hbm, 207, rfl⟩
abbrev main_v162 : Ref sig .tc := ⟨.hbm, 208, rfl⟩
abbrev main_v163 : Ref sig .tc := ⟨.hbm, 209, rfl⟩
abbrev main_cst_25 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_26 : Ref sig .tc := ⟨.hbm, 225, rfl⟩
abbrev main_v178 : Ref sig .tc := ⟨.hbm, 226, rfl⟩
abbrev main_v179 : Ref sig .tc := ⟨.hbm, 227, rfl⟩
abbrev main_cst_27 : Ref sig .tc := ⟨.hbm, 228, rfl⟩
abbrev main_v180 : Ref sig .tc := ⟨.hbm, 229, rfl⟩
abbrev main_v181 : Ref sig .tc := ⟨.hbm, 230, rfl⟩
abbrev main_cst_28 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_call4_cst : Ref sig .tc := ⟨.hbm, 242, rfl⟩
abbrev main_call4_v0 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩

abbrev nD : Nat := 1
abbrev τ : Topo := Topo.v7x

variable {F : FTy → Type} [FloatOps F]
-- ==== Proof.KRunA.lean ====
/- The body of the kernel run at the first grid point: what its stores leave. -/
module

public import proofs.«01_k».proof.Proof.Gen.Kernel.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 2332000 in set_option sl_exec.dmaWindow true in set_option sl_exec.dmaWindowSet true in
set_option maxHeartbeats 20000000 in
/-- The body run on its buffers at the first grid point gives them back, the ones it reads only as they were. -/
theorem kernelRun0_A (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S128x512 .bf16) (harg17 : arg17.IsWhole) (arg18 : Memref sig .tc .vmem S8x512 .f32) (harg18 : arg18.IsWhole) (arg19 : Memref sig .tc .vmem S512x1024 .bf16) (harg19 : arg19.IsWhole) (arg20 : Memref sig .tc .vmem S1024x2304 .bf16) (harg20 : arg20.IsWhole) (arg21 : Memref sig .tc .vmem S1024x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S4x512x1024 .f32) (harg24 : arg24.IsWhole) (hc0 : cond0_0 i) (hc1 : ¬cond0_1 i) (hc2 : ¬cond0_2 i)
    (x0 : Vec F S8 .f32) (x1 : Vec F S512x1024 .f32) (x2 : Vec F S1x1024 .f32) (x3 : Vec F S1x64 .f32) (x4 : Vec F S1x64 .f32) (x5 : Vec F S1x3x512 .f32) (x6 : Vec F S1x512 .f32) (x7 : Vec F S1x512 .f32) (x8 : Vec F S1x1024 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_layer i arg1 harg1 arg2 harg2 arg3 harg3 arg4 harg4 arg5 harg5 arg6 harg6 arg7 harg7 arg8 harg8 arg9 harg9 (Memref.whole main_v2) (Memref.isWhole_whole _) (Memref.whole main_v3) (Memref.isWhole_whole _) (Memref.whole main_v4) (Memref.isWhole_whole _) (Memref.whole main_v5) (Memref.isWhole_whole _) arg14 harg14 arg15 harg15 arg16 harg16 arg17 harg17 arg18 harg18 arg19 harg19 arg20 harg20 arg21 harg21 arg22 harg22 arg23 harg23 arg24 harg24 cc0_scratch10) K := by
  intro W K
  simp only [cc0_layer_eq_skeleton]; unfold cc0_layer_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hq0, Hq1, Hq2, Hq3, Hh0, Hh1, Hh2, Hh3, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexists _; iexact HW

end Cert.Kernel.Gen

end
-- ==== Proof.KRunB.lean ====
/- The body of the kernel run at the points in the middle of the grid: what its stores leave. -/
module

public import proofs.«01_k».proof.Proof.Gen.Kernel.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 20000000 in
/-- What the stores of the body leave in each buffer at the points in the middle of the grid, with the proof that the body run on these buffers leaves it. -/
noncomputable def kernelRun0_B (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S128x512 .bf16) (harg17 : arg17.IsWhole) (arg18 : Memref sig .tc .vmem S8x512 .f32) (harg18 : arg18.IsWhole) (arg19 : Memref sig .tc .vmem S512x1024 .bf16) (harg19 : arg19.IsWhole) (arg20 : Memref sig .tc .vmem S1024x2304 .bf16) (harg20 : arg20.IsWhole) (arg21 : Memref sig .tc .vmem S1024x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S4x512x1024 .f32) (harg24 : arg24.IsWhole) (hc0 : ¬cond0_0 i) (hc1 : cond0_1 i) (hc2 : ¬cond0_2 i)
    (x0 : Vec F S8 .f32) (x1 : Vec F S512x1024 .f32) (x2 : Vec F S1x1024 .f32) (x3 : Vec F S1x64 .f32) (x4 : Vec F S1x64 .f32) (x5 : Vec F S1x3x512 .f32) (x6 : Vec F S1x512 .f32) (x7 : Vec F S1x512 .f32) (x8 : Vec F S1x1024 .f32) (xs2 : Vec F S128x512 .bf16) (xs3 : Vec F S8x512 .f32) (xs5 : Vec F S1024x2304 .bf16) (xs6 : Vec F S1024x1024 .bf16) (fh0 : HbBuf0 (F := F) c hbM0_0) (fh1 : HbBuf0 (F := F) c hbM0_1) (fh2 : HbBuf0 (F := F) c hbM0_2) (fh3 : HbBuf0 (F := F) c hbM0_3) :
    Σ' (LS2 : List (View.Piece (Elt F) S128x512 .bf16)), Σ' (LS3 : List (View.Piece (Elt F) S8x512 .f32)), Σ' (LS5 : List (View.Piece (Elt F) S1024x2304 .bf16)), { LS6 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs2 ∗ owns (c : Thread nD τ) arg18 fullShare xs3 ∗ (∃ d, owns (c : Thread nD τ) arg19 fullShare d) ∗ owns (c : Thread nD τ) arg20 fullShare xs5 ∗ owns (c : Thread nD τ) arg21 fullShare xs6 ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ d, owns (c : Thread nD τ) arg19 fullShare d) ∗ owns (c : Thread nD τ) arg20 fullShare xs5 ∗ owns (c : Thread nD τ) arg21 fullShare xs6 ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_layer i arg1 harg1 arg2 harg2 arg3 harg3 arg4 harg4 arg5 harg5 arg6 harg6 arg7 harg7 arg8 harg8 arg9 harg9 (Memref.whole main_v2) (Memref.isWhole_whole _) (Memref.whole main_v3) (Memref.isWhole_whole _) (Memref.whole main_v4) (Memref.isWhole_whole _) (Memref.whole main_v5) (Memref.isWhole_whole _) arg14 harg14 arg15 harg15 arg16 harg16 arg17 harg17 arg18 harg18 arg19 harg19 arg20 harg20 arg21 harg21 arg22 harg22 arg23 harg23 arg24 harg24 cc0_scratch10) K } := by
  refine ⟨?_, ?_, [], [], fun W K => ?run⟩
  case run =>
    simp only [cc0_layer_eq_skeleton]; unfold cc0_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, ⟨%fs5, %hfs5, HS5⟩, ⟨%fs6, %hfs6, HS6⟩, ⟨%ds7, %fs7, -, HS7⟩, ⟨%ds8, %fs8, -, HS8⟩, ⟨%ds9, %fs9, -, HS9⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg17.eq_unread hfs2; obtain rfl := harg18.eq_unread hfs3; obtain rfl := harg20.eq_unread hfs5; obtain rfl := harg21.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    isplitl [HS4]
    · iexists _, _; isplitr; swap; · iexact HS4
      ipureintro; rfl
    isplitl [HS5]
    · iexists _; isplitr; · ipureintro; exact harg20.read_unread _
      iexact HS5
    isplitl [HS6]
    · iexists _; isplitr; · ipureintro; exact harg21.read_unread _
      iexact HS6
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.Kernel.Gen

end
-- ==== Proof.KRunC.lean ====
/- The body of the kernel run at the last grid point: what its stores leave. -/
module

public import proofs.«01_k».proof.Proof.Gen.Kernel.Frame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 20000000 in
/-- What the stores of the body leave in each buffer at the last grid point, with the proof that the body run on these buffers leaves it. -/
noncomputable def kernelRun0_C (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S128x512 .bf16) (harg17 : arg17.IsWhole) (arg18 : Memref sig .tc .vmem S8x512 .f32) (harg18 : arg18.IsWhole) (arg19 : Memref sig .tc .vmem S512x1024 .bf16) (harg19 : arg19.IsWhole) (arg20 : Memref sig .tc .vmem S1024x2304 .bf16) (harg20 : arg20.IsWhole) (arg21 : Memref sig .tc .vmem S1024x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S4x512x1024 .f32) (harg24 : arg24.IsWhole) (hc0 : ¬cond0_0 i) (hc1 : ¬cond0_1 i) (hc2 : cond0_2 i)
    (x0 : Vec F S8 .f32) (x1 : Vec F S512x1024 .f32) (x2 : Vec F S1x1024 .f32) (x3 : Vec F S1x64 .f32) (x4 : Vec F S1x64 .f32) (x5 : Vec F S1x3x512 .f32) (x6 : Vec F S1x512 .f32) (x7 : Vec F S1x512 .f32) (x8 : Vec F S1x1024 .f32) (xs2 : Vec F S128x512 .bf16) (xs3 : Vec F S8x512 .f32) (xs5 : Vec F S1024x2304 .bf16) (xs6 : Vec F S1024x1024 .bf16) (fh0 : HbBuf0 (F := F) c hbM0_0) (fh1 : HbBuf0 (F := F) c hbM0_1) (fh2 : HbBuf0 (F := F) c hbM0_2) (fh3 : HbBuf0 (F := F) c hbM0_3) :
    Σ' (LS2 : List (View.Piece (Elt F) S128x512 .bf16)), Σ' (LS3 : List (View.Piece (Elt F) S8x512 .f32)), Σ' (LS5 : List (View.Piece (Elt F) S1024x2304 .bf16)), { LS6 : List (View.Piece (Elt F) S1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs2 ∗ owns (c : Thread nD τ) arg18 fullShare xs3 ∗ (∃ d, owns (c : Thread nD τ) arg19 fullShare d) ∗ owns (c : Thread nD τ) arg20 fullShare xs5 ∗ owns (c : Thread nD τ) arg21 fullShare xs6 ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs2 ∗ owns (c : Thread nD τ) arg18 fullShare xs3 ∗ (∃ d, owns (c : Thread nD τ) arg19 fullShare d) ∗ owns (c : Thread nD τ) arg20 fullShare xs5 ∗ owns (c : Thread nD τ) arg21 fullShare xs6 ∗ (∃ d, owns (c : Thread nD τ) arg22 fullShare d) ∗ (∃ d, owns (c : Thread nD τ) arg23 fullShare d) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_layer i arg1 harg1 arg2 harg2 arg3 harg3 arg4 harg4 arg5 harg5 arg6 harg6 arg7 harg7 arg8 harg8 arg9 harg9 (Memref.whole main_v2) (Memref.isWhole_whole _) (Memref.whole main_v3) (Memref.isWhole_whole _) (Memref.whole main_v4) (Memref.isWhole_whole _) (Memref.whole main_v5) (Memref.isWhole_whole _) arg14 harg14 arg15 harg15 arg16 harg16 arg17 harg17 arg18 harg18 arg19 harg19 arg20 harg20 arg21 harg21 arg22 harg22 arg23 harg23 arg24 harg24 cc0_scratch10) K } := by
  refine ⟨[], [], [], [], fun W K => ?run⟩
  case run =>
    simp only [cc0_layer_eq_skeleton]; unfold cc0_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%fs2, %hfs2, HS2⟩, ⟨%fs3, %hfs3, HS3⟩, ⟨%ds4, %fs4, -, HS4⟩, ⟨%fs5, %hfs5, HS5⟩, ⟨%fs6, %hfs6, HS6⟩, ⟨%ds7, %fs7, -, HS7⟩, ⟨%ds8, %fs8, -, HS8⟩, ⟨%ds9, %fs9, -, HS9⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg17.eq_unread hfs2; obtain rfl := harg18.eq_unread hfs3; obtain rfl := harg20.eq_unread hfs5; obtain rfl := harg21.eq_unread hfs6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _; isplitr; · ipureintro; exact harg17.read_unread _
      iexact HS2
    isplitl [HS3]
    · iexists _; isplitr; · ipureintro; exact harg18.read_unread _
      iexact HS3
    isplitl [HS4]
    · iexists _, _; isplitr; swap; · iexact HS4
      ipureintro; rfl
    isplitl [HS5]
    · iexists _; isplitr; · ipureintro; exact harg20.read_unread _
      iexact HS5
    isplitl [HS6]
    · iexists _; isplitr; · ipureintro; exact harg21.read_unread _
      iexact HS6
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.Kernel.Gen

end
-- ==== Proof.KFrame.lean ====
/- The grid of the kernel run point by point: what the buffers hold after each point, and that the arguments are left as they were. -/
module

public import proofs.«01_k».proof.Proof.KRunA
public import proofs.«01_k».proof.Proof.KRunB
public import proofs.«01_k».proof.Proof.KRunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The run at the points in the middle of the grid, on the buffers of point `t`. -/
def runB (c : Dev nD) (t : Fin cfg0.N) (h0 : ¬t.val % 65 = 0) (h1 : (1 ≤ t.val % 65 ∧ t.val % 65 ≤ 63)) (h2 : ¬t.val % 65 = 64) (o2 : Vec F S128x512 .bf16) (o3 : Vec F S8x512 .f32) (o5 : Vec F S1024x2304 .bf16) (o6 : Vec F S1024x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) o2 o3 o5 o6 (V m c main_v2) (V m c main_v3) (V m c main_v4) (V m c main_v5)

/-- The run at the last grid point, on the buffers of point `t`. -/
def runC (c : Dev nD) (t : Fin cfg0.N) (h0 : ¬t.val % 65 = 0) (h1 : ¬(1 ≤ t.val % 65 ∧ t.val % 65 ≤ 63)) (h2 : t.val % 65 = 64) (o2 : Vec F S128x512 .bf16) (o3 : Vec F S8x512 .f32) (o5 : Vec F S1024x2304 .bf16) (o6 : Vec F S1024x1024 .bf16) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) o2 o3 o5 o6 (V m c main_v2) (V m c main_v3) (V m c main_v4) (V m c main_v5)

def forgets0 : Fin 10 → Bool := fun w => w.val == 9

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d))

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.castSucc = Pipeline.ΦD osem0 spec0 H0 (V m) c from rfl, show (dats m 0 c).Φ t.succ = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hN : t.val < 65 := lt_of_lt_of_eq t.isLt (show cfg0.N = 65 from N_0)
  by_cases h0 : t.val % 65 = 0
  · by_cases h1 : (1 ≤ t.val % 65 ∧ t.val % 65 ≤ 63)
    · exfalso; omega
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        iintro ⟨⟨⟨HS0, HS1, HS2, HS3, HS4, HS5, HS6, HS7, HS8, HS9⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (V m c main_v2) (V m c main_v3) (V m c main_v4) (V m c main_v5) W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, H6, H7, H8, H9, HS0, HS1, HS2, HS3, HS4, HS5, HS6, HS7, HS8, HS9, Hq0, Hq1, Hq2, Hq3, Hh0, Hh1, Hh2, Hh3, ⟨%W', HW'⟩⟩
        isplitl [HS0 HS1 HS2 HS3 HS4 HS5 HS6 HS7 HS8 HS9 Hg Hq0 Hq1 Hq2 Hq3 Hh0 Hh1 Hh2 Hh3]
        · isplitl [HS0 HS1 HS2 HS3 HS4 HS5 HS6 HS7 HS8 HS9]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            isplitl [HS7]; · iexact HS7
            isplitl [HS8]; · iexact HS8
            iexact HS9
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
  · by_cases h1 : (1 ≤ t.val % 65 ∧ t.val % 65 ≤ 63)
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        iintro ⟨⟨⟨HS0, HS1, ⟨%e2, HS2⟩, ⟨%e3, HS3⟩, HS4, ⟨%e5, HS5⟩, ⟨%e6, HS6⟩, HS7, HS8, HS9⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runB m c t h0 h1 h2 e2 e3 e5 e6).2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, H6, H7, H8, H9, HS0, HS1, ⟨%es2, HS2⟩, ⟨%es3, HS3⟩, HS4, HS5, HS6, HS7, HS8, HS9, Hq0, Hq1, Hq2, Hq3, Hh0, Hh1, Hh2, Hh3, ⟨%W', HW'⟩⟩
        isplitl [HS0 HS1 HS2 HS3 HS4 HS5 HS6 HS7 HS8 HS9 Hg Hq0 Hq1 Hq2 Hq3 Hh0 Hh1 Hh2 Hh3]
        · isplitl [HS0 HS1 HS2 HS3 HS4 HS5 HS6 HS7 HS8 HS9]
          · isplitl [HS0]; · iexact HS0
            isplitl [HS1]; · iexact HS1
            isplitl [HS2]
            · unfold owns; iexists _, _; isplitr
              swap; · iexact HS2
              ipureintro; rfl
            isplitl [HS3]
            · unfold owns; iexists _, _; isplitr
              swap; · iexact HS3
              ipureintro; rfl
            isplitl [HS4]; · iexact HS4
            isplitl [HS5]; · iexists _; iexact HS5
            isplitl [HS6]; · iexists _; iexact HS6
            isplitl [HS7]; · iexact HS7
            isplitl [HS8]; · iexact HS8
            iexact HS9
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        iintro ⟨⟨⟨HS0, HS1, ⟨%e2, HS2⟩, ⟨%e3, HS3⟩, HS4, ⟨%e5, HS5⟩, ⟨%e6, HS6⟩, HS7, HS8, HS9⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((runC m c t h0 h1 h2 e2 e3 e5 e6).2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [Hq0]; · iexact Hq0
        isplitl [Hq1]; · iexact Hq1
        isplitl [Hq2]; · iexact Hq2
        isplitl [Hq3]; · iexact Hq3
        isplitl [Hh0]; · iexact Hh0
        isplitl [Hh1]; · iexact Hh1
        isplitl [Hh2]; · iexact Hh2
        isplitl [Hh3]; · iexact Hh3
        isplitl [HW]; · iexact HW
        iintro ⟨H0, H1, H2, H3, H4, H5, H6, H7, H8, H9, HS0, HS1, HS2, HS3, HS4, HS5, HS6, HS7, HS8, HS9, Hq0, Hq1, Hq2, Hq3, Hh0, Hh1, Hh2, Hh3, ⟨%W', HW'⟩⟩
        isplitl [HS0 HS1 HS2 HS3 HS4 HS5 HS6 HS7 HS8 HS9 Hg Hq0 Hq1 Hq2 Hq3 Hh0 Hh1 Hh2 Hh3]
        · isplitl [HS0 HS1 HS2 HS3 HS4 HS5 HS6 HS7 HS8 HS9]
          · isplitl [HS0]; · iexact HS0
            isplitl [HS1]; · iexact HS1
            isplitl [HS2]; · iexists _; iexact HS2
            isplitl [HS3]; · iexists _; iexact HS3
            isplitl [HS4]; · iexact HS4
            isplitl [HS5]; · iexists _; iexact HS5
            isplitl [HS6]; · iexists _; iexact HS6
            isplitl [HS7]; · iexact HS7
            isplitl [HS8]; · iexact HS8
            iexact HS9
          isplitl [Hg]
          · iexact Hg
          isplitl [Hq0 Hq1 Hq2 Hq3]
          · isplitl [Hq0]; · iexact Hq0
            isplitl [Hq1]; · iexact Hq1
            isplitl [Hq2]; · iexact Hq2
            iexact Hq3
          isplitl [Hh0]; · iexact Hh0
          isplitl [Hh1]; · iexact Hh1
          isplitl [Hh2]; · iexact Hh2
          iexact Hh3
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 :=
  Idealize.SL.BI.Entails.refl _

theorem hout (c : Dev nD) : (dats m 0 c).Φ (Fin.last cfg0.N) ⊢ Pipeline.ΦD osem0 spec0 H0 (V m) c :=
  Idealize.SL.BI.Entails.refl _
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the staged arrays as its data say, and the rest as at entry, leaves every argument as given. -/
theorem kept_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 5 rfl).trans ((hA c 5).trans (V_main_arg6 m c)),
      (Pipeline.RDat.FramePost.arr_in h c 7 rfl).trans ((hA c 7).trans (V_main_arg7 m c)),
      (Pipeline.RDat.FramePost.arr_in h c 6 rfl).trans ((hA c 6).trans (V_main_arg8 m c)),
      ((h c).2 main_arg9 (Pipeline.mem_restRefs_of main_arg9 (by decide) (by decide))).trans (V_main_arg9 m c),
      (Pipeline.RDat.FramePost.arr_in h c 8 rfl).trans ((hA c 8).trans (V_main_arg10 m c)),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  kept_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel.Gen

end
-- ==== Proof.IOuts.lean ====
/- The grid of the kernel over the extended reals run point by point: what the buffers hold after each point, and that the arguments are left as they were. -/
module

public import proofs.«01_k».proof.Proof.Gen.KernelIdeal.Frame.Runs
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the buffers the kernel writes hold between two grid points. -/
abbrev Outs (F : FTy → Type) [FloatOps F] : Type := Vec F S512x1024 .f32 × Vec F S512x1024 .f32 × Vec F S512x1024 .bf16 × Vec F S128x512 .bf16 × Vec F S8x512 .f32 × Vec F S1024x2304 .bf16 × Vec F S1024x1024 .bf16 × Vec F S1024x4096 .bf16 × Vec F S4096x1024 .bf16

end Cert.KernelIdeal.Gen

end
-- ==== Proof.Spec.lean ====
/- The layer over the extended reals, one row of activations at a time: the numbers that the kernel computes for a row, as functions
   of a row number of the flattened batch and of a column. Rows and columns are natural numbers, so that a row can speak of the rows
   before it; the parameters are functions of natural numbers as well, read at the columns they have. -/
module

public import Idealize.ShloMosaic.Lib.Pointwise

@[expose] public section

noncomputable section

open Idealize.ShloMosaic

namespace Layer

/-- The small constant under every root mean square. -/
def eps : EReal := Ideal.ofBits .f32 0x358637BD#32
/-- The reciprocals of the lengths 64, 512 and 1024, as the kernel's constants. -/
def c64 : EReal := Ideal.ofBits .f32 0x3C800000#32
@[inherit_doc c64] def c512 : EReal := Ideal.ofBits .f32 0x3B000000#32
@[inherit_doc c64] def c1024 : EReal := Ideal.ofBits .f32 0x3A800000#32
/-- The logarithm of e to the base 2. -/
def log2e : EReal := ((Real.log 2)⁻¹ : ℝ)
/-- The scale of the scores, 1/8, times the logarithm of e to the base 2. -/
def qscale : EReal := ((Real.log 256)⁻¹ : ℝ)

/-- Entry `l` of a row of `n` entries divided by the root of its mean square and multiplied by a gain; `c` is `1/n`. -/
def normRow (n : ℕ) (c : EReal) (g f : ℕ → EReal) (l : ℕ) : EReal :=
  f l * Ideal.rsqrt ((∑ k : Fin n, f k * f k) * c + eps) * g l

/-- The layer's input rows and parameters. -/
structure Par where
  x : ℕ → ℕ → EReal
  g1 : ℕ → EReal
  win : ℕ → ℕ → EReal
  gq : ℕ → EReal
  gk : ℕ → EReal
  sinks : ℕ → EReal
  cw : ℕ → ℕ → EReal
  ga : ℕ → EReal
  gc : ℕ → EReal
  wo : ℕ → ℕ → EReal
  g2 : ℕ → EReal
  wu : ℕ → ℕ → EReal
  wd : ℕ → ℕ → EReal

namespace Par

variable (P : Par)

/-- The normed input row. -/
def h (R l : ℕ) : EReal := normRow 1024 c1024 P.g1 (P.x R) l
/-- The joint projection: 512 columns of queries, 128 of keys, 128 of values, 512 of the output gate, 512 of the input gate,
    512 of the convolution's input. -/
def z (R c : ℕ) : EReal := ∑ k : Fin 1024, P.h R k * P.win k c
/-- The normed query of column `c`, scaled; its head is `c / 64`. -/
def qn (R c : ℕ) : EReal :=
  P.z R c * Ideal.rsqrt ((∑ e : Fin 64, P.z R (64 * (c / 64) + e) * P.z R (64 * (c / 64) + e)) * c64 + eps) * (P.gq (c % 64) * qscale)
/-- The normed key of column `c`; its group is `c / 64`. -/
def kn (R c : ℕ) : EReal :=
  P.z R (512 + c) * Ideal.rsqrt ((∑ e : Fin 64, P.z R (512 + (64 * (c / 64) + e)) * P.z R (512 + (64 * (c / 64) + e))) * c64 + eps)
    * P.gk (c % 64)
/-- The value of column `c`; its group is `c / 64`. -/
def v (R c : ℕ) : EReal := P.z R (640 + c)
/-- Keys and values of a row as the attention keeps them, in four groups of 128 lanes: the keys, the keys with their two halves
    exchanged, the values, the values with their two halves exchanged. -/
def kv (R c : ℕ) : EReal :=
  if c < 128 then P.kn R c else if c < 256 then P.kn R ((c + 64) % 128) else if c < 384 then P.v R (c - 256) else P.v R ((c + 64) % 128)
/-- The gated input of the convolution. -/
def u (R c : ℕ) : EReal := P.z R (1280 + c) * P.z R (1792 + c)
/-- The convolution's input `k` rows earlier, zero before the sequence's first row. -/
def ub (k R c : ℕ) : EReal := if R % 8192 < k then 0 else P.u (R - k) c
/-- The gated short convolution. -/
def yc (R c : ℕ) : EReal :=
  P.z R (768 + c) * (P.cw 0 c * P.ub 2 R c + P.cw 1 c * P.ub 1 R c + P.cw 2 c * P.u R c)
/-- The key row of lane `j` for query row `R`: one of the 128 rows up to and including `R`, lane `j` holding the row that is `j`
    modulo 128. -/
def key (R j : ℕ) : ℕ := if R % 128 < j then R - R % 128 + j - 128 else R - R % 128 + j
/-- The key row of lane `j` lies before the sequence's first row. -/
def hidden (R j : ℕ) : Prop := R % 8192 < 128 ∧ R % 128 < j
instance (R j : ℕ) : Decidable (hidden R j) := inferInstanceAs (Decidable (_ ∧ _))
/-- The score of head `hd` at lane `j`, in units of the logarithm of 2. -/
def s (R hd j : ℕ) : EReal :=
  if hidden R j then ⊥ else ∑ e : Fin 64, P.qn R (64 * hd + e) * P.kn (key R j) (64 * (hd / 4) + e)
/-- The sink's score. -/
def sk (hd : ℕ) : EReal := P.sinks hd * log2e
/-- The largest score, the sink's included. -/
def mx (R hd : ℕ) : EReal := max (Finset.univ.fold max ⊥ fun j : Fin 128 => P.s R hd j) (P.sk hd)
/-- The weight of lane `j` before the division. -/
def p (R hd j : ℕ) : EReal := Ideal.exp2 (P.s R hd j - P.mx R hd)
/-- The attention's output of column `c`: its head is `c / 64`. -/
def o (R c : ℕ) : EReal :=
  Ideal.div (∑ j : Fin 128, P.p R (c / 64) j * P.v (key R j) (64 * (c / 64 / 4) + c % 64))
    ((∑ j : Fin 128, P.p R (c / 64) j) + Ideal.exp2 (P.sk (c / 64) - P.mx R (c / 64)))
/-- The row after the output projection. -/
def x1 (R l : ℕ) : EReal :=
  P.x R l + (∑ k : Fin 512, normRow 512 c512 P.gc (P.yc R) k * P.wo (512 + k) l)
    + ∑ k : Fin 512, normRow 512 c512 P.ga (P.o R) k * P.wo k l
/-- The normed row of the channel mixer. -/
def hm (R l : ℕ) : EReal := normRow 1024 c1024 P.g2 (P.x1 R) l
/-- The squared rectified activation. -/
def act (R f : ℕ) : EReal :=
  max (∑ k : Fin 1024, P.hm R k * P.wu k f) 0 * max (∑ k : Fin 1024, P.hm R k * P.wu k f) 0
/-- One of the four chunks of 1024 activations, projected down. -/
def down (c R l : ℕ) : EReal := ∑ k : Fin 1024, P.act R (1024 * c + k) * P.wd (1024 * c + k) l
/-- The layer's output. -/
def out (R l : ℕ) : EReal := P.x1 R l + P.down 0 R l + P.down 1 R l + P.down 2 R l + P.down 3 R l

end Par

end Layer

end
-- ==== Proof.Tile.lean ====
/- The mixer of one tile of 512 rows: its vectors as functions of what the step loads, under names of their own, and the number each
   holds at an index, which is the layer's (Spec.lean) at that row. -/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.Tile

open Cert.KernelIdeal Cert.KernelIdeal.Gen

/-- What a step loads to mix one tile: the rows, the gains, the five blocks of the joint projection, the keys and values of the 128
    rows before the tile, whether the tile begins a sequence, the gated convolution inputs of the 8 rows before it, the convolution's
    three rows and the sinks. -/
structure In where
  x : FVec Ideal S512x1024 .f32
  g1 : FVec Ideal S1x1024 .f32
  wq : FVec Ideal S1024x512 .bf16
  wkv : FVec Ideal S1024x256 .bf16
  wc : FVec Ideal S1024x512 .bf16
  wi : FVec Ideal S1024x512 .bf16
  wb : FVec Ideal S1024x512 .bf16
  gq : FVec Ideal S1x64 .f32
  gk : FVec Ideal S1x64 .f32
  kvp : FVec Ideal S128x512 .bf16
  b : BitVec 1
  ut : FVec Ideal S8x512 .f32
  c0 : FVec Ideal S1x1x512 .f32
  c1 : FVec Ideal S1x1x512 .f32
  c2 : FVec Ideal S1x1x512 .f32
  gc : FVec Ideal S1x512 .f32
  ga : FVec Ideal S1x512 .f32
  sk : Fin 8 → EReal

/-- The mean squares of a block of queries' heads, spread over the heads' columns. -/
def qms (zq : FVec Ideal S512x512 .f32) : FVec Ideal S512x512 .f32 :=
  k0_pay145 zq k0_pay139 (k0_pay142 k0_pay139 (mulf (extractStridedSlice S512x128 ![0, 0] zq slices_S512x512_o0_0_S512x128) (extractStridedSlice S512x128 ![0, 0] zq slices_S512x512_o0_0_S512x128)) (k0_pay141 (F := Ideal)))
    (k0_pay143 zq k0_pay139) (k0_pay144 zq k0_pay139) (Scalar.ofBits .f32 0x3C800000#32)

/-- The rows of one block of 128, its four slabs of 128 lanes one under the other. -/
def stack (o : ℕ) (h0 : S512x512.Slices ![o, 0] S128x128) (h1 : S512x512.Slices ![o, 128] S128x128)
    (h2 : S512x512.Slices ![o, 256] S128x128) (h3 : S512x512.Slices ![o, 384] S128x128) (q : FVec Ideal S512x512 .bf16) :
    FVec Ideal S512x128 .bf16 :=
  concatenate S512x128 0 [⟨S128x128, extractStridedSlice S128x128 ![o, 0] q h0⟩, ⟨S128x128, extractStridedSlice S128x128 ![o, 128] q h1⟩,
    ⟨S128x128, extractStridedSlice S128x128 ![o, 256] q h2⟩, ⟨S128x128, extractStridedSlice S128x128 ![o, 384] q h3⟩] concatenates_S128x128_S128x128_S128x128_S128x128_S512x128_d0

/-- The scores of stacked queries against the 128 keys of the block before and the 128 of their own, one score a lane. -/
def score (b : BitVec 1) (qs : FVec Ideal S512x128 .bf16) (kk : FVec Ideal S256x128 .bf16) : FVec Ideal S512x128 .f32 :=
  let d := matmul dot_S512x128_S256x128_S512x256_1_1_0_0_n_n none qs kk (constant S512x256 .f32 0x00000000#32)
  select k0_pay165 (Scalar.select b (broadcast S512x128 (Named.named κ "mask" 0xF149F2CA#32)) (extractStridedSlice S512x128 ![0, 0] d slices_S512x256_o0_0_S512x128))
    (extractStridedSlice S512x128 ![0, 128] d slices_S512x256_o0_128_S512x128)

/-- The rows' largest scores, the sinks' included. -/
def mx (sk s : FVec Ideal S512x128 .f32) : FVec Ideal S512x128 .f32 := k0_pay182 sk s
/-- The weights before the division. -/
def pr (sk s : FVec Ideal S512x128 .f32) : FVec Ideal S512x128 .f32 := k0_pay183 sk s
/-- The weighted values over the sum of the weights. -/
def wtd (sk s : FVec Ideal S512x128 .f32) (vv : FVec Ideal S256x128 .bf16) : FVec Ideal S512x128 .f32 :=
  let p := pr sk s
  let ov := matmul dot_S512x256_S256x256_S512x256_1_0_0_1_n_n none
    (truncf .bf16 (concatenate S512x256 1 [⟨S512x128, select k0_pay165 p (broadcast S512x128 (Scalar.ofBits .f32 0x00000000#32))⟩,
      ⟨S512x128, select k0_pay165 (broadcast S512x128 (Scalar.ofBits .f32 0x00000000#32)) p⟩] concatenates_S512x128_S512x128_S512x256_d1) bitsLt_bf16_f32)
    (concatenate S256x256 1 [⟨S256x128, vv⟩, ⟨S256x128, k0_pay170 (F := Ideal)⟩] concatenates_S256x128_S256x128_S256x256_d1) (constant S512x256 .f32 0x00000000#32)
  divf (extractStridedSlice S512x128 ![0, 0] ov slices_S512x256_o0_0_S512x128)
    (addf (extractStridedSlice S512x128 ![0, 128] ov slices_S512x256_o0_128_S512x128) (exp2 (subf sk (mx sk s))))
/-- One block's heads put side by side again, and the rows normed. -/
def heads (oa ob : FVec Ideal S512x128 .f32) (ga : FVec Ideal S1x512 .f32) : FVec Ideal S128x512 .bf16 :=
  k0_pay232 k0_pay164 oa ob (extractStridedSlice S128x128 ![0, 0] oa slices_S512x128_o0_0_S128x128) ga
/-- One block of 128 rows of the attention, from its stacked queries in two groups and its window of 256 rows of keys and values. -/
def block (b : BitVec 1) (ska skb : FVec Ideal S512x128 .f32) (qa qb : FVec Ideal S512x128 .bf16) (kvw : FVec Ideal S256x512 .bf16)
    (ga : FVec Ideal S1x512 .f32) : FVec Ideal S128x512 .bf16 :=
  heads (wtd ska (score b qa (extractStridedSlice S256x128 ![0, 0] kvw slices_S256x512_o0_0_S256x128)) (extractStridedSlice S256x128 ![0, 256] kvw slices_S256x512_o0_256_S256x128))
    (wtd skb (score b qb (extractStridedSlice S256x128 ![0, 128] kvw slices_S256x512_o0_128_S256x128)) (extractStridedSlice S256x128 ![0, 384] kvw slices_S256x512_o0_384_S256x128)) ga

namespace In

variable (T : In)

def h : FVec Ideal S512x1024 .bf16 := k0_pay134 (F := Ideal) T.x T.g1
def zq : FVec Ideal S512x512 .f32 := k0_pay147 (F := Ideal) T.h T.wq
def zkv : FVec Ideal S512x256 .f32 := k0_pay136 (F := Ideal) T.x T.g1 T.wkv
def k : FVec Ideal S512x128 .f32 := k0_pay137 (F := Ideal) T.x T.g1 T.wkv
def v : FVec Ideal S512x128 .f32 := k0_pay138 (F := Ideal) T.x T.g1 T.wkv
def qn : FVec Ideal S512x512 .f32 := k0_pay150 (F := Ideal) T.zq (qms T.zq) T.gq
def kn : FVec Ideal S512x128 .f32 := k0_pay151 (F := Ideal) T.k (k0_pay142 (F := Ideal) k0_pay139 (mulf T.k T.k) (k0_pay141 (F := Ideal))) T.gk
def qa : FVec Ideal S512x512 .bf16 := k0_pay154 (F := Ideal) T.qn k0_pay152
def qb : FVec Ideal S512x512 .bf16 := k0_pay155 (F := Ideal) T.qn k0_pay152
def kv : FVec Ideal S512x512 .bf16 := k0_pay156 (F := Ideal) T.v T.kn
def u : FVec Ideal S512x512 .f32 := k0_pay158 (F := Ideal) (k0_pay147 (F := Ideal) T.h T.wc) (k0_pay147 (F := Ideal) T.h T.wi)
/-- The convolution's half of the mixer's output. -/
def yc : FVec Ideal S512x512 .bf16 := k0_pay163 (F := Ideal) (k0_pay147 (F := Ideal) T.h T.wb) T.u (k0_pay160 (F := Ideal) T.b (k0_pay147 (F := Ideal) T.h T.wc) (k0_pay147 (F := Ideal) T.h T.wi) T.ut)
  (k0_pay162 (F := Ideal) T.b (k0_pay147 (F := Ideal) T.h T.wc) (k0_pay147 (F := Ideal) T.h T.wi) T.ut T.c0) T.c1 T.c2 T.gc
def ska : FVec Ideal S512x128 .f32 := k0_pay168 (F := Ideal) (k0_pay166 (F := Ideal) (T.sk 0)) (k0_pay166 (F := Ideal) (T.sk 2)) (T.sk 5) (Named.named κ "log2e" 0x3FB8AA3B#32) (T.sk 7)
def skb : FVec Ideal S512x128 .f32 := k0_pay169 (F := Ideal) (T.sk 1) (T.sk 3) (T.sk 4) (T.sk 6)
/-- The four blocks of the attention's half of the mixer's output. -/
def y0 : FVec Ideal S128x512 .bf16 := block T.b T.ska T.skb (stack 0 slices_S512x512_o0_0_S128x128 slices_S512x512_o0_128_S128x128 slices_S512x512_o0_256_S128x128 slices_S512x512_o0_384_S128x128 T.qa)
  (stack 0 slices_S512x512_o0_0_S128x128 slices_S512x512_o0_128_S128x128 slices_S512x512_o0_256_S128x128 slices_S512x512_o0_384_S128x128 T.qb)
  (k0_pay173 (F := Ideal) T.kv T.kvp) T.ga
def y1 : FVec Ideal S128x512 .bf16 := block 0#1 T.ska T.skb (stack 128 slices_S512x512_o128_0_S128x128 slices_S512x512_o128_128_S128x128 slices_S512x512_o128_256_S128x128 slices_S512x512_o128_384_S128x128 T.qa)
  (stack 128 slices_S512x512_o128_0_S128x128 slices_S512x512_o128_128_S128x128 slices_S512x512_o128_256_S128x128 slices_S512x512_o128_384_S128x128 T.qb)
  (k0_pay203 (F := Ideal) T.kv) T.ga
def y2 : FVec Ideal S128x512 .bf16 := block 0#1 T.ska T.skb (stack 256 slices_S512x512_o256_0_S128x128 slices_S512x512_o256_128_S128x128 slices_S512x512_o256_256_S128x128 slices_S512x512_o256_384_S128x128 T.qa)
  (stack 256 slices_S512x512_o256_0_S128x128 slices_S512x512_o256_128_S128x128 slices_S512x512_o256_256_S128x128 slices_S512x512_o256_384_S128x128 T.qb)
  (k0_pay219 (F := Ideal) T.kv) T.ga
def y3 : FVec Ideal S128x512 .bf16 := block 0#1 T.ska T.skb (stack 384 slices_S512x512_o384_0_S128x128 slices_S512x512_o384_128_S128x128 slices_S512x512_o384_256_S128x128 slices_S512x512_o384_384_S128x128 T.qa)
  (stack 384 slices_S512x512_o384_0_S128x128 slices_S512x512_o384_128_S128x128 slices_S512x512_o384_256_S128x128 slices_S512x512_o384_384_S128x128 T.qb)
  (k0_pay228 (F := Ideal) T.kv) T.ga

/-- The vectors a step loads are those of the layer at the 512 rows from `R0`. The rows before the tile are there where the tile does
    not begin a sequence. -/
structure Of (T : In) (P : Layer.Par) (R0 : ℕ) : Prop where
  tile : R0 % 512 = 0
  x : ∀ (r : Fin 512) (l : Fin 1024), (T.x (ix2 r l) : EReal) = P.x (R0 + r) l
  g1 : ∀ l : Fin 1024, (T.g1 (ix2 0 l) : EReal) = P.g1 l
  wq : ∀ (k : Fin 1024) (c : Fin 512), (T.wq (ix2 k c) : EReal) = P.win k c
  wkv : ∀ (k : Fin 1024) (c : Fin 256), (T.wkv (ix2 k c) : EReal) = P.win k (512 + c)
  wb : ∀ (k : Fin 1024) (c : Fin 512), (T.wb (ix2 k c) : EReal) = P.win k (768 + c)
  wc : ∀ (k : Fin 1024) (c : Fin 512), (T.wc (ix2 k c) : EReal) = P.win k (1280 + c)
  wi : ∀ (k : Fin 1024) (c : Fin 512), (T.wi (ix2 k c) : EReal) = P.win k (1792 + c)
  gq : ∀ l : Fin 64, (T.gq (ix2 0 l) : EReal) = P.gq l
  gk : ∀ l : Fin 64, (T.gk (ix2 0 l) : EReal) = P.gk l
  b : T.b = BitVec.ofBool (decide (R0 % 8192 = 0))
  kvp : R0 % 8192 ≠ 0 → ∀ (i : Fin 128) (c : Fin 512), (T.kvp (ix2 i c) : EReal) = P.kv (R0 - 128 + i) c
  ut : R0 % 8192 ≠ 0 → ∀ (i : Fin 8) (c : Fin 512), (T.ut (ix2 i c) : EReal) = P.u (R0 - 8 + i) c
  c0 : ∀ c : Fin 512, (T.c0 (ix3 0 0 c) : EReal) = P.cw 0 c
  c1 : ∀ c : Fin 512, (T.c1 (ix3 0 0 c) : EReal) = P.cw 1 c
  c2 : ∀ c : Fin 512, (T.c2 (ix3 0 0 c) : EReal) = P.cw 2 c
  gc : ∀ c : Fin 512, (T.gc (ix2 0 c) : EReal) = P.gc c
  ga : ∀ c : Fin 512, (T.ga (ix2 0 c) : EReal) = P.ga c
  sk : ∀ i : Fin 8, T.sk i = P.sinks i

end In

end Cert.KernelIdeal.Tile

end
-- ==== Proof.TileA.lean ====
/- What the vectors of one tile (Tile.lean) hold at an index, up to the queries, keys, values and the convolution: the numbers of the
   layer (Spec.lean) at the tile's rows. -/
module

public import proofs.«01_k».proof.Proof.Tile
public import Idealize.ShloMosaic.Lib.WordCmp

@[expose] public section

set_option maxRecDepth 16384

noncomputable section

open Idealize.ShloMosaic Idealize.ShloMosaic.TcCoe Idealize.SL.Sem

namespace Cert.KernelIdeal.Tile

open Cert.KernelIdeal Cert.KernelIdeal.Gen

/-- A selection on the bit of a proposition. -/
theorem select_ofBool {α : Type} (p : Prop) [Decidable p] (a b : α) :
    Scalar.select (BitVec.ofBool (decide p)) a b = if p then a else b := by
  by_cases h : p <;> simp [h, Scalar.select]

/-- A selection by a lane's half. -/
theorem select_lane {α : Type} (x : Fin 128) (a b : α) :
    Scalar.select (IntOp.cmpi CmpIPredicate.slt (BitVec.ofNat 32 x) 64#32) a b = if (x : ℕ) < 64 then a else b := by
  rw [WordCmp.cmpi_slt_ofNat (by omega) (by omega), select_ofBool]

/-- The mean squares of two heads side by side, spread over their lanes. -/
def ms (z : FVec Ideal S512x128 .f32) : FVec Ideal S512x128 .f32 := k0_pay142 (F := Ideal) k0_pay139 (mulf z z) (k0_pay141 (F := Ideal))

theorem ms_at (z : FVec Ideal S512x128 .f32) (f : ℕ → EReal) (r : Fin 512) (hz : ∀ l : Fin 128, (z (ix2 r l) : EReal) = f l) (l : Fin 128) :
    (ms z (ix2 r l) : EReal) = (∑ e : Fin 64, f (64 * (l / 64) + e) * f (64 * (l / 64) + e)) * Layer.c64 := by
  pointwise [ms, k0_pay142, k0_pay139, k0_pay141, select_lane, hz, Layer.c64]
  simp only [Finset.sum_const_zero, add_zero, zero_add]
  by_cases h : (l : ℕ) < 64
  · rw [if_pos h, show (l : ℕ) / 64 = 0 by omega]; simp
  · rw [if_neg h, show (l : ℕ) / 64 = 1 by omega]

theorem qms_eq (z : FVec Ideal S512x512 .f32) : qms z = concatenate S512x512 1
    [⟨S512x128, ms (extractStridedSlice S512x128 ![0, 0] z slices_S512x512_o0_0_S512x128)⟩,
     ⟨S512x128, ms (extractStridedSlice S512x128 ![0, 128] z slices_S512x512_o0_128_S512x128)⟩,
     ⟨S512x128, ms (extractStridedSlice S512x128 ![0, 256] z slices_S512x512_o0_256_S512x128)⟩,
     ⟨S512x128, ms (extractStridedSlice S512x128 ![0, 384] z slices_S512x512_o0_384_S512x128)⟩] concatenates_S512x128_S512x128_S512x128_S512x128_S512x512_d1 := rfl

theorem qms_at (z : FVec Ideal S512x512 .f32) (f : ℕ → EReal) (r : Fin 512) (hz : ∀ l : Fin 512, (z (ix2 r l) : EReal) = f l) (l : Fin 512) :
    (qms z (ix2 r l) : EReal) = (∑ e : Fin 64, f (64 * (l / 64) + e) * f (64 * (l / 64) + e)) * Layer.c64 := by
  have h (o : ℕ) (ho : o + 128 ≤ 512) (h2 : o % 64 = 0) (hs : S512x512.Slices ![0, o] S512x128) (k : Fin 128) :
      (ms (extractStridedSlice S512x128 ![0, o] z hs) (ix2 r k) : EReal)
        = (∑ e : Fin 64, f (64 * ((o + k) / 64) + e) * f (64 * ((o + k) / 64) + e)) * Layer.c64 := by
    refine (ms_at _ (fun n => f (o + n)) r (fun l => ?_) k).trans ?_
    · pointwise [hz]
    · have : ∀ e : ℕ, o + (64 * ((k : ℕ) / 64) + e) = 64 * ((o + k) / 64) + e := fun e => by omega
      simp only [this]
  rw [qms_eq]
  pointwise [h 0 (by omega) rfl, h 128 (by omega) rfl, h 256 (by omega) rfl, h 384 (by omega) rfl]
  have h4 : ∀ a b : ℕ, 64 * (a / 64) = 64 * (b / 64) →
      (∑ e : Fin 64, f (64 * (a / 64) + e) * f (64 * (a / 64) + e)) * Layer.c64 = (∑ e : Fin 64, f (64 * (b / 64) + e) * f (64 * (b / 64) + e)) * Layer.c64 :=
    fun a b h => by rw [h]
  split_ifs with h1 h2 h3 <;> exact h4 _ _ (by omega)

/-- Whether a column of the queries belongs to the first group of heads: the lower halves of the first two slabs of 128 columns, the
    upper halves of the last two. -/
theorem mask_at (r c : Fin 512) : k0_pay152 (ix2 r c) = BitVec.ofBool (decide (¬ ((c : ℕ) % 128 < 64 ↔ (c : ℕ) < 256))) := by
  pointwise [k0_pay152]
  revert c
  decide +kernel

theorem log2e_eq : (Named.named (F := Ideal) (φ := .f32) κ "log2e" 0x3FB8AA3B#32 : EReal) = Layer.log2e :=
  IdealRules.named_const.ideal_named_scalar _ _ _ _ rfl

namespace In.Of

variable {T : In} {P : Layer.Par} {R0 : ℕ} (H : T.Of P R0)
include H

theorem h_at (r : Fin 512) (l : Fin 1024) : (T.h (ix2 r l) : EReal) = P.h (R0 + r) l := by
  unfold In.h
  pointwise [k0_pay134, k0_pay133, H.x, H.g1, Layer.Par.h, Layer.normRow, Layer.c1024, Layer.eps]

theorem proj_at (w : FVec Ideal S1024x512 .bf16) (o : ℕ) (hw : ∀ (k : Fin 1024) (c : Fin 512), (w (ix2 k c) : EReal) = P.win k (o + c))
    (r c : Fin 512) : (k0_pay147 (F := Ideal) T.h w (ix2 r c) : EReal) = P.z (R0 + r) (o + c) := by
  pointwise [k0_pay147, H.h_at, hw, Layer.Par.z]

theorem zkv_at (r : Fin 512) (c : Fin 256) : (T.zkv (ix2 r c) : EReal) = P.z (R0 + r) (512 + c) := by
  have h := fun k => H.h_at r k
  unfold In.h at h
  unfold In.zkv
  pointwise [k0_pay136, h, H.wkv, Layer.Par.z]

theorem zq_at (r c : Fin 512) : (T.zq (ix2 r c) : EReal) = P.z (R0 + r) c :=
  (H.proj_at T.wq 0 (by simpa using H.wq) r c).trans (by rw [Nat.zero_add])

theorem k_at (r : Fin 512) (c : Fin 128) : (T.k (ix2 r c) : EReal) = P.z (R0 + r) (512 + c) := by
  refine Eq.trans ?_ (H.zkv_at r ⟨c, by omega⟩)
  unfold In.k In.zkv
  pointwise [k0_pay137]

theorem v_at (r : Fin 512) (c : Fin 128) : (T.v (ix2 r c) : EReal) = P.v (R0 + r) c := by
  refine Eq.trans ?_ ((H.zkv_at r ⟨128 + c, by omega⟩).trans ?_)
  · unfold In.v In.zkv
    pointwise [k0_pay138]
  · simp only [Layer.Par.v]; congr 1; omega

theorem kn_at (r : Fin 512) (c : Fin 128) : (T.kn (ix2 r c) : EReal) = P.kn (R0 + r) c := by
  have h := ms_at T.k (fun n => P.z (R0 + r) (512 + n)) r (H.k_at r) c
  unfold ms at h
  unfold In.kn
  pointwise [k0_pay151, H.k_at, h, H.gk, Layer.Par.kn, Layer.eps]
  congr 1
  split_ifs <;> congr 1 <;> omega

theorem qn_at (r c : Fin 512) : (T.qn (ix2 r c) : EReal) = P.qn (R0 + r) c := by
  have h := qms_at T.zq (P.z (R0 + r)) r (H.zq_at r) c
  have hn : (Named.named (F := Ideal) (φ := .f32) κ "qscale" 0x3E38AA3B#32 : EReal) = Layer.qscale :=
    IdealRules.named_const.ideal_named_scalar _ _ _ _ rfl
  unfold In.qn
  pointwise [k0_pay150, H.zq_at, h, hn, H.gq, Layer.Par.qn, Layer.eps]
  congr 2
  split_ifs <;> congr 1 <;> omega

theorem qa_at (r c : Fin 512) : (T.qa (ix2 r c) : EReal) = if ((c : ℕ) % 128 < 64 ↔ (c : ℕ) < 256) then P.qn (R0 + r) c else 0 := by
  unfold In.qa
  pointwise [k0_pay154, k0_pay153, mask_at, H.qn_at]
  by_cases h : ((c : ℕ) % 128 < 64 ↔ (c : ℕ) < 256) <;> simp [h, Scalar.select, IntOp.xori]

theorem qb_at (r c : Fin 512) : (T.qb (ix2 r c) : EReal) = if ((c : ℕ) % 128 < 64 ↔ (c : ℕ) < 256) then 0 else P.qn (R0 + r) c := by
  unfold In.qb
  pointwise [k0_pay155, k0_pay153, mask_at, H.qn_at]
  by_cases h : ((c : ℕ) % 128 < 64 ↔ (c : ℕ) < 256) <;> simp [h, Scalar.select, IntOp.xori]

theorem kv_at (r c : Fin 512) : (T.kv (ix2 r c) : EReal) = P.kv (R0 + r) c := by
  unfold In.kv
  pointwise [k0_pay156, H.kn_at, H.v_at, Layer.Par.kv]
  split_ifs <;> first | rfl | (congr 1; omega) | omega

theorem u_at (r c : Fin 512) : (T.u (ix2 r c) : EReal) = P.u (R0 + r) c := by
  unfold In.u
  pointwise [k0_pay158, H.proj_at T.wc _ H.wc, H.proj_at T.wi _ H.wi, Layer.Par.u]

/-- The convolution's inputs of the 8 rows before the tile and of the tile's rows. -/
theorem ext_at (j : Fin 520) (c : Fin 512) : (k0_pay159 (F := Ideal) T.b (k0_pay147 (F := Ideal) T.h T.wc) (k0_pay147 (F := Ideal) T.h T.wi) T.ut (ix2 j c) : EReal)
    = if (j : ℕ) < 8 then (if R0 % 8192 = 0 then 0 else P.u (R0 - 8 + j) c) else P.u (R0 + (j - 8)) c := by
  have h := H.u_at
  unfold In.u at h
  pointwise [k0_pay159, h, H.b, select_ofBool]
  split_ifs with h1 h2
  · rfl
  · exact H.ut h2 _ _
  · rfl

theorem u1_at (r c : Fin 512) : (k0_pay160 (F := Ideal) T.b (k0_pay147 (F := Ideal) T.h T.wc) (k0_pay147 (F := Ideal) T.h T.wi) T.ut (ix2 r c) : EReal)
    = P.ub 1 (R0 + r) c := by
  have ht := H.tile
  pointwise [k0_pay160, H.ext_at, Layer.Par.ub]
  split_ifs <;> first | rfl | (congr 1; omega) | omega

theorem u2_at (r c : Fin 512) : (k0_pay162 (F := Ideal) T.b (k0_pay147 (F := Ideal) T.h T.wc) (k0_pay147 (F := Ideal) T.h T.wi) T.ut T.c0 (ix2 r c) : EReal)
    = P.cw 0 c * P.ub 2 (R0 + r) c := by
  have ht := H.tile
  pointwise [k0_pay162, H.ext_at, Layer.Par.ub, H.c0]
  congr 1
  split_ifs <;> first | rfl | (congr 1; omega) | omega

theorem yc_at (r c : Fin 512) : (T.yc (ix2 r c) : EReal) = Layer.normRow 512 Layer.c512 P.gc (P.yc (R0 + r)) c := by
  unfold In.yc
  pointwise [k0_pay163, H.u_at, H.u1_at, H.u2_at, H.proj_at T.wb _ H.wb, H.c1, H.c2, H.gc, Layer.normRow, Layer.c512, Layer.eps, Layer.Par.yc]

/-- The first group's head in slab `s`. -/
theorem ska_at (r : Fin 512) (l : Fin 128) :
    (T.ska (ix2 r l) : EReal) = P.sk (2 * ((r : ℕ) / 128) + if (r : ℕ) < 256 then 0 else 1) := by
  unfold In.ska
  pointwise [k0_pay168, k0_pay166, log2e_eq, H.sk, Layer.Par.sk]
  split_ifs with h1 h2 h3 <;> first | omega | (congr 2; omega)

theorem skb_at (r : Fin 512) (l : Fin 128) :
    (T.skb (ix2 r l) : EReal) = P.sk (2 * ((r : ℕ) / 128) + if (r : ℕ) < 256 then 1 else 0) := by
  unfold In.skb
  pointwise [k0_pay169, log2e_eq, H.sk, Layer.Par.sk]
  split_ifs with h1 h2 h3 <;> first | omega | (congr 2; omega)

end In.Of

end Cert.KernelIdeal.Tile

end
-- ==== Proof.TileB.lean ====
/- What one block of 128 rows of the attention (Tile.lean) holds at an index: the attention's normed output (Spec.lean) at the block's
   rows. The two groups of heads go through one set of lemmas: group `true` takes, of each slab of 128 lanes, the half whose keys lie
   in the same half, group `false` the other, against the keys with their halves exchanged. -/
module

public import proofs.«01_k».proof.Proof.TileA

@[expose] public section

set_option maxRecDepth 16384

noncomputable section

open Idealize.ShloMosaic Idealize.ShloMosaic.TcCoe Idealize.SL.Sem

namespace Cert.KernelIdeal.Tile

open Cert.KernelIdeal Cert.KernelIdeal.Gen

/-- The lanes of a stacked block that lie after the row's own lane. -/
theorem after_at (R : Fin 512) (j : Fin 128) : k0_pay165 (ix2 R j) = BitVec.ofBool (decide ((R : ℕ) % 128 < j)) := by
  pointwise [k0_pay165]
  have h : ∀ a : ℕ, a < 128 → IntOp.cmpi CmpIPredicate.sgt (BitVec.ofNat 32 j) (BitVec.ofNat 32 a) = BitVec.ofBool (decide (a < (j : ℕ))) :=
    fun a ha => by rw [WordCmp.cmpi_sgt_ofNat (by omega) (by omega)]
  split_ifs <;> rw [h _ (by omega)] <;> congr 2 <;> exact propext (by omega)

theorem stack_at (o : ℕ) (h0 : S512x512.Slices ![o, 0] S128x128) (h1 : S512x512.Slices ![o, 128] S128x128)
    (h2 : S512x512.Slices ![o, 256] S128x128) (h3 : S512x512.Slices ![o, 384] S128x128) (q : FVec Ideal S512x512 .bf16) (ho : o + 128 ≤ 512)
    (R : Fin 512) (k : Fin 128) :
    (stack o h0 h1 h2 h3 q (ix2 R k) : EReal) = q (ix2 ⟨o + R % 128, by omega⟩ ⟨128 * (R / 128) + k, by omega⟩) := by
  unfold stack
  pointwise
  split_ifs <;> congr 2 <;> exact Fin.ext (by simp only []; omega)

theorem score_at (b : BitVec 1) (qs : FVec Ideal S512x128 .bf16) (kk : FVec Ideal S256x128 .bf16) (R : Fin 512) (j : Fin 128) :
    (score b qs kk (ix2 R j) : EReal) = if (R : ℕ) % 128 < j then Scalar.select b ⊥ (∑ k : Fin 128, qs (ix2 R k) * kk (ix2 ⟨j, by omega⟩ k))
      else ∑ k : Fin 128, qs (ix2 R k) * kk (ix2 ⟨128 + j, by omega⟩ k) := by
  have hm : (Named.named (F := Ideal) (φ := .f32) κ "mask" 0xF149F2CA#32 : EReal) = ⊥ :=
    IdealRules.named_const.ideal_named_scalar _ _ _ _ rfl
  unfold score
  pointwise [after_at, select_ofBool, hm]

theorem mx_at (sk s : FVec Ideal S512x128 .f32) (R : Fin 512) (l : Fin 128) :
    (mx sk s (ix2 R l) : EReal) = max (Finset.univ.fold max ⊥ fun j : Fin 128 => (s (ix2 R j) : EReal)) (sk (ix2 R l)) := by
  unfold mx
  pointwise [k0_pay182]
  rw [show Ideal.ofBits .f32 0xFF800000#32 = (⊥ : EReal) by simp [Ideal.ofBits, Ideal.ieee]]

theorem pr_at (sk s : FVec Ideal S512x128 .f32) (R : Fin 512) (l : Fin 128) :
    (pr sk s (ix2 R l) : EReal) = Ideal.exp2 ((s (ix2 R l) : EReal) - mx sk s (ix2 R l)) := by
  unfold pr mx
  pointwise [k0_pay183]
  rfl

theorem wtd_at (sk s : FVec Ideal S512x128 .f32) (vv : FVec Ideal S256x128 .bf16) (R : Fin 512) (l : Fin 128) :
    (wtd sk s vv (ix2 R l) : EReal) = Ideal.div
      (∑ j : Fin 128, (pr sk s (ix2 R j) : EReal) * vv (ix2 (if (R : ℕ) % 128 < j then ⟨j, by omega⟩ else ⟨128 + j, by omega⟩) l))
      ((∑ j : Fin 128, (pr sk s (ix2 R j) : EReal)) + Ideal.exp2 ((sk (ix2 R l) : EReal) - mx sk s (ix2 R l))) := by
  unfold wtd
  pointwise [after_at, select_ofBool, k0_pay170]
  rw [← Finset.sum_add_distrib, ← Finset.sum_add_distrib]
  have h1 : ∀ j : Fin 128, (if (R : ℕ) % 128 < j then (pr sk s (ix2 R j) : EReal) else 0) * vv (ix2 ⟨j, by omega⟩ l)
      + (if (R : ℕ) % 128 < j then 0 else (pr sk s (ix2 R j) : EReal)) * vv (ix2 ⟨128 + j, by omega⟩ l)
      = (pr sk s (ix2 R j) : EReal) * vv (ix2 (if (R : ℕ) % 128 < j then ⟨j, by omega⟩ else ⟨128 + j, by omega⟩) l) := fun j => by
    by_cases h : (R : ℕ) % 128 < j <;> simp [h]
  have h2 : ∀ j : Fin 128, (if (R : ℕ) % 128 < j then (pr sk s (ix2 R j) : EReal) else 0)
      + (if (R : ℕ) % 128 < j then 0 else (pr sk s (ix2 R j) : EReal)) = (pr sk s (ix2 R j) : EReal) := fun j => by
    by_cases h : (R : ℕ) % 128 < j <;> simp [h]
  simp only [h1, h2]
  rfl

/-- One block's heads put side by side again. -/
def merged (oa ob : FVec Ideal S512x128 .f32) : FVec Ideal S128x512 .f32 :=
  concatenate S128x512 1
    [⟨S128x128, select k0_pay164 (extractStridedSlice S128x128 ![0, 0] oa slices_S512x128_o0_0_S128x128) (extractStridedSlice S128x128 ![0, 0] ob slices_S512x128_o0_0_S128x128)⟩,
     ⟨S128x128, select k0_pay164 (extractStridedSlice S128x128 ![128, 0] oa slices_S512x128_o128_0_S128x128) (extractStridedSlice S128x128 ![128, 0] ob slices_S512x128_o128_0_S128x128)⟩,
     ⟨S128x128, select k0_pay164 (extractStridedSlice S128x128 ![256, 0] ob slices_S512x128_o256_0_S128x128) (extractStridedSlice S128x128 ![256, 0] oa slices_S512x128_o256_0_S128x128)⟩,
     ⟨S128x128, select k0_pay164 (extractStridedSlice S128x128 ![384, 0] ob slices_S512x128_o384_0_S128x128) (extractStridedSlice S128x128 ![384, 0] oa slices_S512x128_o384_0_S128x128)⟩]
    concatenates_S128x128_S128x128_S128x128_S128x128_S128x512_d1

theorem merged_at (oa ob : FVec Ideal S512x128 .f32) (r : Fin 128) (c : Fin 512) :
    (merged oa ob (ix2 r c) : EReal) = (if (c : ℕ) % 128 < 64 ↔ (c : ℕ) < 256 then oa else ob) (ix2 ⟨128 * (c / 128) + r, by omega⟩ ⟨c % 128, by omega⟩) := by
  have hl : ∀ (a : ℕ) (x y : EReal), a < 128 → Scalar.select (IntOp.cmpi CmpIPredicate.slt (BitVec.ofNat 32 a) 64#32) x y = if a < 64 then x else y :=
    fun a x y ha => select_lane ⟨a, ha⟩ x y
  have hi : ∀ (v : FVec Ideal S512x128 .f32) (a a' : Fin 512) (b b' : Fin 128), (a : ℕ) = a' → (b : ℕ) = b' → (v (ix2 a b) : EReal) = v (ix2 a' b') :=
    fun v a a' b b' h1 h2 => by rw [Fin.ext h1, Fin.ext h2]
  unfold merged
  pointwise [k0_pay164]
  by_cases hc : (c : ℕ) % 128 < 64 ↔ (c : ℕ) < 256 <;> simp only [hc, if_true, if_false] <;> split_ifs <;>
    rw [hl _ _ _ (by omega)] <;> split_ifs <;> first | omega | exact hi _ _ _ _ _ (by dsimp only <;> omega) (by dsimp only <;> omega)

theorem heads_at (oa ob : FVec Ideal S512x128 .f32) (ga : FVec Ideal S1x512 .f32) (r : Fin 128) (f g : ℕ → EReal)
    (hf : ∀ c : Fin 512, ((if (c : ℕ) % 128 < 64 ↔ (c : ℕ) < 256 then oa else ob) (ix2 ⟨128 * (c / 128) + r, by omega⟩ ⟨c % 128, by omega⟩) : EReal) = f c)
    (hg : ∀ c : Fin 512, (ga (ix2 0 c) : EReal) = g c) (c : Fin 512) :
    (heads oa ob ga (ix2 r c) : EReal) = Layer.normRow 512 Layer.c512 g f c := by
  have h : ∀ x : Fin 512, (merged oa ob (ix2 r x) : EReal) = f x := fun x => (merged_at oa ob r x).trans (hf x)
  unfold merged at h
  pointwise [k0_pay164] at h
  unfold heads
  pointwise [k0_pay232, k0_pay164, hg, Layer.normRow, Layer.c512, Layer.eps]
  simp only [h]

/-- Row `R` of the stacked block of group `G` takes the first half of its slab's lanes. -/
def first (G : Bool) (R : ℕ) : Prop := if G then R < 256 else ¬ R < 256
instance (G : Bool) (R : ℕ) : Decidable (first G R) := by unfold first; infer_instance
/-- The head of row `R` of the stacked block of group `G`. -/
def head (G : Bool) (R : ℕ) : ℕ := 2 * (R / 128) + if first G R then 0 else 1
/-- Lane `k` of the keys or values that group `G` works against. -/
def lane (G : Bool) (k : ℕ) : ℕ := if G then k else (k + 64) % 128

/-- A product over 128 lanes of which one half is zero. -/
theorem sum_group (p : Prop) [Decidable p] (f g : ℕ → EReal) (q w : Fin 128 → EReal) (hq : ∀ k : Fin 128, q k = if (k : ℕ) < 64 ↔ p then f k else 0)
    (hw : ∀ k : Fin 128, w k = g k) :
    (∑ k : Fin 128, q k * w k) = ∑ e : Fin 64, f ((if p then 0 else 64) + e) * g ((if p then 0 else 64) + e) := by
  simp only [hq, hw]
  rw [Fin.sum_univ_two_halves 64 64 rfl]
  by_cases h : p <;> simp [h]

/-- What one block of attention reads: the window's rows of keys and values, the second half the block's own, the first half the
    block's before, which is there where the block does not begin a sequence. -/
structure Window (P : Layer.Par) (B : ℕ) (b : BitVec 1) (kvw : FVec Ideal S256x512 .bf16) : Prop where
  aligned : B % 128 = 0
  b : b = BitVec.ofBool (decide (B % 8192 = 0))
  cur : ∀ (j : Fin 128) (c : Fin 512), (kvw (ix2 ⟨128 + j, by omega⟩ c) : EReal) = P.kv (B + j) c
  prev : B % 8192 ≠ 0 → ∀ (j : Fin 128) (c : Fin 512), (kvw (ix2 ⟨j, by omega⟩ c) : EReal) = P.kv (B - 128 + j) c

theorem kv_key (P : Layer.Par) (G : Bool) (R k : ℕ) (hk : k < 128) : P.kv R ((if G then 0 else 128) + k) = P.kn R (lane G k) := by
  cases G
  · simp only [Layer.Par.kv, lane, if_false, Bool.false_eq_true]
    rw [if_neg (by omega), if_pos (by omega)]
    congr 1; omega
  · simp only [Layer.Par.kv, lane, if_true]
    rw [if_pos (by omega)]
    congr 1; omega

theorem kv_value (P : Layer.Par) (G : Bool) (R k : ℕ) (hk : k < 128) : P.kv R ((if G then 256 else 384) + k) = P.v R (lane G k) := by
  cases G
  · simp only [Layer.Par.kv, lane, if_false, Bool.false_eq_true]
    rw [if_neg (by omega), if_neg (by omega), if_neg (by omega)]
    congr 1; omega
  · simp only [Layer.Par.kv, lane, if_true]
    rw [if_neg (by omega), if_neg (by omega), if_pos (by omega)]
    congr 1; omega

namespace Window

variable {P : Layer.Par} {B : ℕ} {b : BitVec 1} {kvw : FVec Ideal S256x512 .bf16} (W : Window P B b kvw)
include W

theorem score_eq (G : Bool) (qs : FVec Ideal S512x128 .bf16) (kk : FVec Ideal S256x128 .bf16)
    (hq : ∀ (R : Fin 512) (k : Fin 128), (qs (ix2 R k) : EReal) = if (k : ℕ) < 64 ↔ first G R then P.qn (B + R % 128) (128 * (R / 128) + k) else 0)
    (hk : ∀ (j : Fin 256) (k : Fin 128), (kk (ix2 j k) : EReal) = kvw (ix2 j ⟨(if G then 0 else 128) + k, by split <;> omega⟩)) (R : Fin 512) (j : Fin 128) :
    (score b qs kk (ix2 R j) : EReal) = P.s (B + R % 128) (head G R) j := by
  have hB := W.aligned
  have hcur : ∀ k : Fin 128, (kk (ix2 ⟨128 + j, by omega⟩ k) : EReal) = P.kn (B + j) (lane G k) := fun k => by
    rw [hk, W.cur, kv_key P G _ _ k.2]
  have e : (∀ (r : ℕ) (w : Fin 128 → EReal), (∀ k : Fin 128, w k = P.kn r (lane G k)) → (∑ k : Fin 128, (qs (ix2 R k) : EReal) * w k)
      = ∑ e : Fin 64, P.qn (B + R % 128) (64 * head G R + e) * P.kn r (64 * (head G R / 4) + e)) := fun r w hw => by
    rw [sum_group (first G R) (fun k => P.qn (B + R % 128) (128 * (R / 128) + k)) (fun k => P.kn r (lane G k)) _ w (hq R) hw]
    refine Finset.sum_congr rfl fun e _ => ?_
    congr 2
    · unfold head; split_ifs <;> omega
    · cases G <;> simp only [head, lane, first, if_true, if_false, Bool.false_eq_true] <;> split_ifs <;> omega
  rw [score_at, Layer.Par.s, W.b, select_ofBool]
  by_cases h : (R : ℕ) % 128 < j
  · rw [if_pos h]
    by_cases h0 : B % 8192 = 0
    · rw [if_pos h0, if_pos ⟨by omega, by omega⟩]
    · rw [if_neg h0, if_neg (fun hh => h0 (by have := hh.1; omega))]
      have hprev : ∀ k : Fin 128, (kk (ix2 ⟨j, by omega⟩ k) : EReal) = P.kn (B - 128 + j) (lane G k) := fun k => by
        rw [hk, W.prev h0, kv_key P G _ _ k.2]
      rw [e _ _ hprev, show Layer.Par.key (B + R % 128) j = B - 128 + j by unfold Layer.Par.key; rw [if_pos (by omega)]; omega]
  · rw [if_neg h, if_neg (fun hh => h (by have := hh.2; omega)), e _ _ hcur,
      show Layer.Par.key (B + R % 128) j = B + j by unfold Layer.Par.key; rw [if_neg (by omega)]; omega]

theorem wtd_eq (G : Bool) (sk s : FVec Ideal S512x128 .f32) (vv : FVec Ideal S256x128 .bf16)
    (hsk : ∀ (R : Fin 512) (l : Fin 128), (sk (ix2 R l) : EReal) = P.sk (head G R))
    (hs : ∀ (R : Fin 512) (j : Fin 128), (s (ix2 R j) : EReal) = P.s (B + R % 128) (head G R) j)
    (hv : ∀ (j : Fin 256) (k : Fin 128), (vv (ix2 j k) : EReal) = kvw (ix2 j ⟨(if G then 256 else 384) + k, by split <;> omega⟩))
    (R : Fin 512) (l : Fin 128) (hl : (l : ℕ) < 64 ↔ first G R) :
    (wtd sk s vv (ix2 R l) : EReal) = P.o (B + R % 128) (128 * (R / 128) + l) := by
  have hB := W.aligned
  have hh : (128 * ((R : ℕ) / 128) + l) / 64 = head G R := by
    unfold head
    by_cases hf : first G R <;> simp only [hf, iff_true, iff_false, if_true, if_false] at hl ⊢ <;> omega
  have hm : ∀ l : Fin 128, (mx sk s (ix2 R l) : EReal) = P.mx (B + R % 128) (head G R) := fun l => by
    rw [mx_at, hsk, Layer.Par.mx]; simp only [hs]
  have hp : ∀ l : Fin 128, (pr sk s (ix2 R l) : EReal) = P.p (B + R % 128) (head G R) l := fun l => by
    rw [pr_at, hm, hs, Layer.Par.p]
  have hlane : lane G l = 64 * (head G R / 4) + (128 * ((R : ℕ) / 128) + l) % 64 := by
    revert hl
    cases G <;> simp only [head, lane, first, if_true, if_false, Bool.false_eq_true] <;> split_ifs <;> omega
  rw [wtd_at, Layer.Par.o, hh, hm, hsk]
  simp only [hp]
  congr 1
  refine Finset.sum_congr rfl fun j _ => ?_
  by_cases h : (R : ℕ) % 128 < j
  · rw [if_pos h]
    by_cases h0 : B % 8192 = 0
    · have : P.p (B + R % 128) (head G R) j = 0 := by
        rw [Layer.Par.p, Layer.Par.s, if_pos ⟨by omega, by omega⟩]
        rw [sub_eq_add_neg, EReal.bot_add]
        rfl
      rw [this, zero_mul, zero_mul]
    · rw [hv, W.prev h0, kv_value P G _ _ l.2, hlane, show Layer.Par.key (B + R % 128) j = B - 128 + j by unfold Layer.Par.key; rw [if_pos (by omega)]; omega]
  · rw [if_neg h, hv, W.cur, kv_value P G _ _ l.2, hlane, show Layer.Par.key (B + R % 128) j = B + j by unfold Layer.Par.key; rw [if_neg (by omega)]; omega]

/-- One block of the attention's half of the mixer's output. -/
theorem block_eq (ska skb : FVec Ideal S512x128 .f32) (qa qb : FVec Ideal S512x128 .bf16) (ga : FVec Ideal S1x512 .f32)
    (hga : ∀ c : Fin 512, (ga (ix2 0 c) : EReal) = P.ga c)
    (hska : ∀ (R : Fin 512) (l : Fin 128), (ska (ix2 R l) : EReal) = P.sk (head true R))
    (hskb : ∀ (R : Fin 512) (l : Fin 128), (skb (ix2 R l) : EReal) = P.sk (head false R))
    (hqa : ∀ (R : Fin 512) (k : Fin 128), (qa (ix2 R k) : EReal) = if (k : ℕ) < 64 ↔ first true R then P.qn (B + R % 128) (128 * (R / 128) + k) else 0)
    (hqb : ∀ (R : Fin 512) (k : Fin 128), (qb (ix2 R k) : EReal) = if (k : ℕ) < 64 ↔ first false R then P.qn (B + R % 128) (128 * (R / 128) + k) else 0)
    (r : Fin 128) (c : Fin 512) :
    (block b ska skb qa qb kvw ga (ix2 r c) : EReal) = Layer.normRow 512 Layer.c512 P.ga (P.o (B + r)) c := by
  unfold block
  refine heads_at _ _ ga r _ _ (fun c => ?_) hga c
  have hd : 128 * ((c : ℕ) / 128) + c % 128 = c := by omega
  have hr : (128 * ((c : ℕ) / 128) + r) % 128 = r := by omega
  have hr2 : (128 * ((c : ℕ) / 128) + r) / 128 = (c : ℕ) / 128 := by omega
  by_cases h : (c : ℕ) % 128 < 64 ↔ (c : ℕ) < 256
  · rw [if_pos h, W.wtd_eq true _ _ _ hska (W.score_eq true qa _ hqa (fun j k => by pointwise)) (fun j k => by pointwise) _ _
      (by simp only [first, if_true]; omega)]
    simp only [hr, hr2, hd]
  · rw [if_neg h, W.wtd_eq false _ _ _ hskb (W.score_eq false qb _ hqb (fun j k => by pointwise; rfl)) (fun j k => by pointwise; rfl) _ _
      (by simp only [first, if_false, Bool.false_eq_true]; omega)]
    simp only [hr, hr2, hd]

end Window

namespace In.Of

variable {T : In} {P : Layer.Par} {R0 : ℕ} (H : T.Of P R0)
include H

theorem ska_head (R : Fin 512) (l : Fin 128) : (T.ska (ix2 R l) : EReal) = P.sk (head true R) := by
  rw [H.ska_at]; simp only [head, first, if_true]
theorem skb_head (R : Fin 512) (l : Fin 128) : (T.skb (ix2 R l) : EReal) = P.sk (head false R) := by
  rw [H.skb_at]; simp only [head, first, if_false, Bool.false_eq_true]; congr 2; split_ifs <;> rfl

/-- One block of the attention at the rows from `o` of the tile. -/
theorem y_at (o : ℕ) (ho : o + 128 ≤ 512) (h0 : S512x512.Slices ![o, 0] S128x128) (h1 : S512x512.Slices ![o, 128] S128x128)
    (h2 : S512x512.Slices ![o, 256] S128x128) (h3 : S512x512.Slices ![o, 384] S128x128) (b : BitVec 1) (kvw : FVec Ideal S256x512 .bf16)
    (W : Window P (R0 + o) b kvw) (r : Fin 128) (c : Fin 512) :
    (block b T.ska T.skb (stack o h0 h1 h2 h3 T.qa) (stack o h0 h1 h2 h3 T.qb) kvw T.ga (ix2 r c) : EReal)
      = Layer.normRow 512 Layer.c512 P.ga (P.o (R0 + o + r)) c := by
  refine W.block_eq _ _ _ _ _ H.ga H.ska_head H.skb_head (fun R k => ?_) (fun R k => ?_) r c
  · rw [stack_at o h0 h1 h2 h3 _ ho, H.qa_at]
    simp only [first, if_true, Nat.add_assoc]
    congr 1; exact propext (by omega)
  · rw [stack_at o h0 h1 h2 h3 _ ho, H.qb_at]
    simp only [first, if_false, Nat.add_assoc, Bool.false_eq_true]
    by_cases h : ((128 * ((R : ℕ) / 128) + k) % 128 < 64 ↔ 128 * ((R : ℕ) / 128) + k < 256)
    · rw [if_pos h, if_neg (by omega)]
    · rw [if_neg h, if_pos (by omega)]

theorem y0_at (r : Fin 128) (c : Fin 512) : (T.y0 (ix2 r c) : EReal) = Layer.normRow 512 Layer.c512 P.ga (P.o (R0 + r)) c := by
  have ht := H.tile
  refine H.y_at 0 (by omega) _ _ _ _ _ _ ⟨by omega, H.b, fun j c => ?_, fun h j c => ?_⟩ r c
  · pointwise [k0_pay173, H.kv_at]
  · pointwise [k0_pay173, H.kvp h]

theorem y1_at (r : Fin 128) (c : Fin 512) : (T.y1 (ix2 r c) : EReal) = Layer.normRow 512 Layer.c512 P.ga (P.o (R0 + 128 + r)) c := by
  have ht := H.tile
  refine H.y_at 128 (by omega) _ _ _ _ _ _ ⟨by omega, by rw [decide_eq_false (by omega)]; rfl, fun j c => ?_, fun h j c => ?_⟩ r c
  · pointwise [k0_pay203, H.kv_at, Nat.add_assoc]
  · pointwise [k0_pay203, H.kv_at, Nat.add_sub_cancel]

theorem y2_at (r : Fin 128) (c : Fin 512) : (T.y2 (ix2 r c) : EReal) = Layer.normRow 512 Layer.c512 P.ga (P.o (R0 + 256 + r)) c := by
  have ht := H.tile
  refine H.y_at 256 (by omega) _ _ _ _ _ _ ⟨by omega, by rw [decide_eq_false (by omega)]; rfl, fun j c => ?_, fun h j c => ?_⟩ r c
  · pointwise [k0_pay219, H.kv_at]
    congr 1; omega
  · pointwise [k0_pay219, H.kv_at]
    congr 1; omega

theorem y3_at (r : Fin 128) (c : Fin 512) : (T.y3 (ix2 r c) : EReal) = Layer.normRow 512 Layer.c512 P.ga (P.o (R0 + 384 + r)) c := by
  have ht := H.tile
  refine H.y_at 384 (by omega) _ _ _ _ _ _ ⟨by omega, by rw [decide_eq_false (by omega)]; rfl, fun j c => ?_, fun h j c => ?_⟩ r c
  · pointwise [k0_pay228, H.kv_at]
    congr 1; omega
  · pointwise [k0_pay228, H.kv_at]
    congr 1; omega

end In.Of

end Cert.KernelIdeal.Tile

end
-- ==== Proof.TileC.lean ====
/- The rows after the mixer, their norm, and the channel mixer of one tile of 512 rows, at an index: the numbers of the layer
   (Spec.lean) at the tile's rows. -/
module

public import proofs.«01_k».proof.Proof.TileB

@[expose] public section

set_option maxRecDepth 16384

noncomputable section

open Idealize.ShloMosaic Idealize.ShloMosaic.TcCoe Idealize.SL.Sem

namespace Cert.KernelIdeal.Tile

open Cert.KernelIdeal Cert.KernelIdeal.Gen

/-- The squared rectified product with 256 columns. -/
def up (h : FVec Ideal S512x1024 .bf16) (w : FVec Ideal S1024x256 .bf16) : FVec Ideal S512x256 .bf16 := k0_pay128 h w
/-- The activations of 1024 columns, in four groups of 256. -/
def acts (h : FVec Ideal S512x1024 .bf16) (w : Fin 4 → FVec Ideal S1024x256 .bf16) : FVec Ideal S512x1024 .bf16 :=
  k0_pay224 (up h (w 0)) (up h (w 1)) (up h (w 2)) (up h (w 3))
/-- A block of the output with the product of 1024 activations added. -/
def down (acc : FVec Ideal S512x256 .f32) (a : FVec Ideal S512x1024 .bf16) (w : FVec Ideal S1024x256 .bf16) : FVec Ideal S512x256 .f32 :=
  k0_pay263 a acc w
/-- The rows after the mixer: the rows, the convolution's product, the attention's product. -/
def after (x : FVec Ideal S512x1024 .f32) (yc ya : FVec Ideal S512x512 .bf16) (wh wl : FVec Ideal S512x1024 .bf16) : FVec Ideal S512x1024 .f32 :=
  k0_pay236 (k0_pay233 x yc wh) ya wl

theorem up_at (h : FVec Ideal S512x1024 .bf16) (w : FVec Ideal S1024x256 .bf16) (r : Fin 512) (c : Fin 256) :
    (up h w (ix2 r c) : EReal) = max (∑ k : Fin 1024, (h (ix2 r k) : EReal) * w (ix2 k c)) 0
      * max (∑ k : Fin 1024, (h (ix2 r k) : EReal) * w (ix2 k c)) 0 := by
  pointwise [up, k0_pay128]

theorem acts_at (h : FVec Ideal S512x1024 .bf16) (w : Fin 4 → FVec Ideal S1024x256 .bf16) (r : Fin 512) (f : ℕ → EReal) (W : ℕ → ℕ → EReal) (o : ℕ)
    (hh : ∀ k : Fin 1024, (h (ix2 r k) : EReal) = f k)
    (hw : ∀ (j : Fin 4) (k : Fin 1024) (c : Fin 256), (w j (ix2 k c) : EReal) = W k (o + (256 * j + c))) (c : Fin 1024) :
    (acts h w (ix2 r c) : EReal) = max (∑ k : Fin 1024, f k * W k (o + c)) 0 * max (∑ k : Fin 1024, f k * W k (o + c)) 0 := by
  obtain ⟨g, hg⟩ : ∃ g : ℕ → EReal, ∀ n, g n = max (∑ k : Fin 1024, f k * W k (o + n)) 0 * max (∑ k : Fin 1024, f k * W k (o + n)) 0 :=
    ⟨_, fun _ => rfl⟩
  have hu (j : Fin 4) (d : Fin 256) : (up h (w j) (ix2 r d) : EReal) = g (256 * j + d) := by
    rw [up_at, hg]; simp only [hh, hw]
  rw [← hg]
  unfold acts
  pointwise [k0_pay224, hu 0, hu 1, hu 2, hu 3]
  split_ifs <;> congr 1 <;> omega

theorem down_at (acc : FVec Ideal S512x256 .f32) (a : FVec Ideal S512x1024 .bf16) (w : FVec Ideal S1024x256 .bf16) (r : Fin 512) (c : Fin 256) :
    (down acc a w (ix2 r c) : EReal) = acc (ix2 r c) + ∑ k : Fin 1024, (a (ix2 r k) : EReal) * w (ix2 k c) := by
  pointwise [down, k0_pay263]

variable {P : Layer.Par} {R0 : ℕ}

/-- A block of 256 columns of the output: the rows after the mixer and the four products of 1024 activations each. -/
theorem out_at (j : Fin 4) (x : FVec Ideal S512x256 .f32) (h : FVec Ideal S512x1024 .bf16) (wu : Fin 4 → Fin 4 → FVec Ideal S1024x256 .bf16)
    (wd : Fin 4 → FVec Ideal S1024x256 .bf16)
    (hx : ∀ (r : Fin 512) (c : Fin 256), (x (ix2 r c) : EReal) = P.x1 (R0 + r) (256 * j + c))
    (hh : ∀ (r : Fin 512) (k : Fin 1024), (h (ix2 r k) : EReal) = P.hm (R0 + r) k)
    (hu : ∀ (i g : Fin 4) (k : Fin 1024) (c : Fin 256), (wu i g (ix2 k c) : EReal) = P.wu k (1024 * i + (256 * g + c)))
    (hd : ∀ (i : Fin 4) (k : Fin 1024) (c : Fin 256), (wd i (ix2 k c) : EReal) = P.wd (1024 * i + k) (256 * j + c))
    (r : Fin 512) (c : Fin 256) :
    (down (down (down (down x (acts h (wu 0)) (wd 0)) (acts h (wu 1)) (wd 1)) (acts h (wu 2)) (wd 2)) (acts h (wu 3)) (wd 3) (ix2 r c) : EReal)
      = P.out (R0 + r) (256 * j + c) := by
  have ha (i : Fin 4) (k : Fin 1024) : (acts h (wu i) (ix2 r k) : EReal) = P.act (R0 + r) (1024 * i + k) :=
    acts_at h (wu i) r (P.hm (R0 + r)) P.wu (1024 * i) (hh r) (hu i) k
  simp only [down_at, ha, hd, hx]
  rfl

theorem x1_at (x : FVec Ideal S512x1024 .f32) (yc ya : FVec Ideal S512x512 .bf16) (wh wl : FVec Ideal S512x1024 .bf16)
    (hx : ∀ (r : Fin 512) (l : Fin 1024), (x (ix2 r l) : EReal) = P.x (R0 + r) l)
    (hc : ∀ r c : Fin 512, (yc (ix2 r c) : EReal) = Layer.normRow 512 Layer.c512 P.gc (P.yc (R0 + r)) c)
    (ha : ∀ r c : Fin 512, (ya (ix2 r c) : EReal) = Layer.normRow 512 Layer.c512 P.ga (P.o (R0 + r)) c)
    (hh : ∀ (k : Fin 512) (l : Fin 1024), (wh (ix2 k l) : EReal) = P.wo (512 + k) l)
    (hl : ∀ (k : Fin 512) (l : Fin 1024), (wl (ix2 k l) : EReal) = P.wo k l) (r : Fin 512) (l : Fin 1024) :
    (after x yc ya wh wl (ix2 r l) : EReal) = P.x1 (R0 + r) l := by
  pointwise [after, k0_pay236, k0_pay233, hx, hc, ha, hh, hl]
  rfl

theorem hm_at (x : FVec Ideal S512x1024 .f32) (g : FVec Ideal S1x1024 .f32)
    (hx : ∀ (r : Fin 512) (l : Fin 1024), (x (ix2 r l) : EReal) = P.x1 (R0 + r) l) (hg : ∀ l : Fin 1024, (g (ix2 0 l) : EReal) = P.g2 l)
    (r : Fin 512) (l : Fin 1024) : (k0_pay257 (F := Ideal) x g (ix2 r l) : EReal) = P.hm (R0 + r) l := by
  pointwise [k0_pay257, hx, hg]
  rfl

end Cert.KernelIdeal.Tile

end
-- ==== Proof.Load.lean ====
/- Reading blocks of a matrix: what a load of a block holds at an index, and what a matrix written block after block holds at an index. -/
module

public import Idealize.ShloMosaic.Lib.Pipeline.ReadBack
public import Idealize.ShloMosaic.Lib.Pipeline.ValueKit
public import Idealize.ShloMosaic.Lib.Pointwise

@[expose] public section

noncomputable section

open Idealize.ShloMosaic Idealize.ShloMosaic.TcCoe Idealize.SL.Sem

namespace Cert.KernelIdeal.Tile

variable {sig : RefSig} {κ : Kind} {sp : Space} {e : EltTy} {Val : EltTy → Type}

/-- A block loaded from a buffer that holds `X`. -/
def load {s : Shape} (a : Memref sig κ sp s e) (h : a.IsWhole) (X : s.Idx → Val e) (r : Rect s) : r.shape.Idx → Val e :=
  View.readAt Val a.view r.toLoadRect (h.unread X)

theorem load_eq {s : Shape} (a : Memref sig κ sp s e) (h : a.IsWhole) (X : s.Idx → Val e) (r : Rect s) : load a h X r = View.ld X r := by
  unfold load
  rw [View.readAt_eq_ld, h.read_unread]

theorem load_whole {s : Shape} (a : Memref sig κ sp s e) (h : a.IsWhole) (X : s.Idx → Val e) {off : Fin s.rank → ℕ}
    (inb : ∀ i, off i + s.size i ≤ s.size i) (h0 : ∀ i, off i = 0) : load a h X (Rect.unit off s.size inb) = X := by
  rw [load_eq, View.ld_unit_lit inb X h0]

theorem ld_at {M N m n a b : ℕ} (X : (⟨2, ![M, N]⟩ : Shape).Idx → Val e)
    (inb : ∀ i, (![a, b] : Fin 2 → ℕ) i + (![m, n] : Fin 2 → ℕ) i ≤ (![M, N] : Fin 2 → ℕ) i) (r : Fin m) (c : Fin n)
    (hr : a + r < M) (hc : b + c < N) :
    View.ld X (Rect.unit (s := ⟨2, ![M, N]⟩) ![a, b] ![m, n] inb) (ix2 r c) = X (ix2 ⟨a + r, hr⟩ ⟨b + c, hc⟩) :=
  View.ld_unit_apply_of X ![a, b] ![m, n] inb _ _ fun i => by match i with | ⟨0, _⟩ => rfl | ⟨1, _⟩ => rfl

theorem load_at {M N m n a b : ℕ} (A : Memref sig κ sp ⟨2, ![M, N]⟩ e) (h : A.IsWhole) (X : (⟨2, ![M, N]⟩ : Shape).Idx → Val e)
    (inb : ∀ i, (![a, b] : Fin 2 → ℕ) i + (![m, n] : Fin 2 → ℕ) i ≤ (![M, N] : Fin 2 → ℕ) i) (r : Fin m) (c : Fin n)
    (hr : a + r < M) (hc : b + c < N) :
    load A h X (Rect.unit (s := ⟨2, ![M, N]⟩) ![a, b] ![m, n] inb) (ix2 r c) = X (ix2 ⟨a + r, hr⟩ ⟨b + c, hc⟩) := by
  rw [load_eq]; exact ld_at X inb r c hr hc

theorem load_at3 {L M N l m n a b d : ℕ} (A : Memref sig κ sp ⟨3, ![L, M, N]⟩ e) (h : A.IsWhole) (X : (⟨3, ![L, M, N]⟩ : Shape).Idx → Val e)
    (inb : ∀ i, (![a, b, d] : Fin 3 → ℕ) i + (![l, m, n] : Fin 3 → ℕ) i ≤ (![L, M, N] : Fin 3 → ℕ) i) (q : Fin l) (r : Fin m) (c : Fin n)
    (hq : a + q < L) (hr : b + r < M) (hc : d + c < N) :
    load A h X (Rect.unit (s := ⟨3, ![L, M, N]⟩) ![a, b, d] ![l, m, n] inb) (ix3 q r c) = X (ix3 ⟨a + q, hq⟩ ⟨b + r, hr⟩ ⟨d + c, hc⟩) := by
  rw [load_eq]
  exact View.ld_unit_apply_of X ![a, b, d] ![l, m, n] inb _ _ fun i => by
    match i with | ⟨0, _⟩ => rfl | ⟨1, _⟩ => rfl | ⟨2, _⟩ => rfl

section Written
variable [∀ e, Nonempty (Val e)]

/-- A matrix written block after block, at an index that the last block holds. -/
theorem canon_hit {M N m n a b : ℕ} (inb : ∀ i, (![a, b] : Fin 2 → ℕ) i + (![m, n] : Fin 2 → ℕ) i ≤ (![M, N] : Fin 2 → ℕ) i)
    (w : (⟨2, ![m, n]⟩ : Shape).Idx → Val e) (L : List (View.Piece Val ⟨2, ![M, N]⟩ e)) (r : Fin m) (c : Fin n) (R : Fin M) (C : Fin N)
    (hr : (R : ℕ) = a + r) (hc : (C : ℕ) = b + c) :
    View.canon (⟨Rect.unit (s := ⟨2, ![M, N]⟩) ![a, b] ![m, n] inb, w⟩ :: L) (ix2 R C) = w (ix2 r c) := by
  rw [← View.canon_cons_emb (s := ⟨2, ![M, N]⟩) (Rect.unit (s := ⟨2, ![M, N]⟩) ![a, b] ![m, n] inb) w L (ix2 r c)]
  congr 1
  funext i
  refine Fin.ext ?_
  rw [Rect.emb_apply]
  match i with
  | ⟨0, _⟩ => show (R : ℕ) = a + 1 * r; omega
  | ⟨1, _⟩ => show (C : ℕ) = b + 1 * c; omega

/-- … and at one that it does not. -/
theorem canon_miss {M N m n a b : ℕ} (inb : ∀ i, (![a, b] : Fin 2 → ℕ) i + (![m, n] : Fin 2 → ℕ) i ≤ (![M, N] : Fin 2 → ℕ) i)
    (w : (⟨2, ![m, n]⟩ : Shape).Idx → Val e) (L : List (View.Piece Val ⟨2, ![M, N]⟩ e)) (R : Fin M) (C : Fin N)
    (h : (R : ℕ) < a ∨ a + m ≤ R ∨ (C : ℕ) < b ∨ b + n ≤ C) :
    View.canon (⟨Rect.unit (s := ⟨2, ![M, N]⟩) ![a, b] ![m, n] inb, w⟩ :: L) (ix2 R C) = View.canon L (ix2 R C) := by
  refine View.canon_cons_of_not_mem _ _ fun hm => ?_
  obtain ⟨x, hx⟩ := (Rect.unit (s := ⟨2, ![M, N]⟩) ![a, b] ![m, n] inb).exists_idx_of_mem hm
  have h0 := congrArg (fun y : (⟨2, ![M, N]⟩ : Shape).Idx => (y 0 : ℕ)) hx
  have h1 := congrArg (fun y : (⟨2, ![M, N]⟩ : Shape).Idx => (y 1 : ℕ)) hx
  have e0 : a + 1 * (x 0 : ℕ) = R := h0
  have e1 : b + 1 * (x 1 : ℕ) = C := h1
  have b0 : (x 0 : ℕ) < m := (x 0).2
  have b1 : (x 1 : ℕ) < n := (x 1).2
  omega

/-- A block read back from the matrix: the matrix there. -/
theorem readCov_at {M N m n a b : ℕ} (v : View sig κ sp ⟨2, ![M, N]⟩ e) (L : List (View.Piece Val ⟨2, ![M, N]⟩ e))
    (inb : ∀ i, (![a, b] : Fin 2 → ℕ) i + (![m, n] : Fin 2 → ℕ) i ≤ (![M, N] : Fin 2 → ℕ) i) (r : Fin m) (c : Fin n)
    (hr : a + r < M) (hc : b + c < N) :
    v.readCov L (Rect.unit (s := ⟨2, ![M, N]⟩) ![a, b] ![m, n] inb).toLoadRect (ix2 r c) = View.canon L (ix2 ⟨a + r, hr⟩ ⟨b + c, hc⟩) := by
  rw [View.readCov_eq_canon']
  exact ld_at (View.canon L) inb r c hr hc

/-- The block just written, read back. -/
theorem readCov_head {s : Shape} (v : View sig κ sp s e) (r : Rect s) (w : r.shape.Idx → Val e) (L : List (View.Piece Val s e)) :
    v.readCov (⟨r, w⟩ :: L) r.toLoadRect = w := by
  rw [View.readCov_eq_canon']
  funext j
  exact View.canon_cons_emb r w L j

end Written

end Cert.KernelIdeal.Tile

end
-- ==== Proof.Out.lean ====
/- The output block of a grid point: the rows after the mixer stored whole, then four passes over its slabs of columns,
   each reading a slab back and storing it with a product of activations added. -/
module

public import proofs.«01_k».proof.Proof.TileC
public import proofs.«01_k».proof.Proof.Load

@[expose] public section

noncomputable section

open Idealize.ShloMosaic Idealize.ShloMosaic.TcCoe Idealize.SL.Sem

namespace Cert.KernelIdeal.Tile

open Cert.KernelIdeal Cert.KernelIdeal.Gen

/-- One slab of columns. -/
abbrev slab (off : Fin 2 → ℕ) (inb : ∀ i, off i + S512x256.size i ≤ S512x1024.size i) : Rect S512x1024 := Rect.unit off S512x256.size inb

variable (v : View sig .tc .vmem S512x1024 .f32) (L : List (View.Piece (Elt Ideal) S512x1024 .f32))

/-- A slab read back and stored with a product added. -/
def put (off : Fin 2 → ℕ) (inb : ∀ i, off i + S512x256.size i ≤ S512x1024.size i) (a : FVec Ideal S512x1024 .bf16) (w : FVec Ideal S1024x256 .bf16) :
    List (View.Piece (Elt Ideal) S512x1024 .f32) :=
  ⟨slab off inb, down (v.readCov L (slab off inb).toLoadRect) a w⟩ :: L

/-- One pass over the four slabs. -/
def pass (a : FVec Ideal S512x1024 .bf16) (w : Fin 4 → FVec Ideal S1024x256 .bf16) : List (View.Piece (Elt Ideal) S512x1024 .f32) :=
  put v (put v (put v (put v L ![0, 0] inb_S512x1024_S512x256_0_0 a (w 0)) ![0, 256] inb_S512x1024_S512x256_0_256 a (w 1))
    ![0, 512] inb_S512x1024_S512x256_0_512 a (w 2)) ![0, 768] inb_S512x1024_S512x256_0_768 a (w 3)

theorem put_same (off : Fin 2 → ℕ) (inb inb') (a : FVec Ideal S512x1024 .bf16) (w : FVec Ideal S1024x256 .bf16) :
    v.readCov (put v L off inb a w) (slab off inb').toLoadRect = down (v.readCov L (slab off inb').toLoadRect) a w :=
  readCov_head v (slab off inb) _ L

theorem put_other {p q : ℕ} (inb inb') (a : FVec Ideal S512x1024 .bf16) (w : FVec Ideal S1024x256 .bf16) (h : q + 256 ≤ p ∨ p + 256 ≤ q) :
    v.readCov (put v L ![0, p] inb a w) (slab ![0, q] inb').toLoadRect = v.readCov L (slab ![0, q] inb').toLoadRect := by
  have hq : q + 256 ≤ 1024 := inb' 1
  funext y
  obtain ⟨r, c, rfl⟩ : ∃ (r : Fin 512) (c : Fin 256), y = ix2 r c := ⟨y 0, y 1, by funext i; match i with | ⟨0, _⟩ => rfl | ⟨1, _⟩ => rfl⟩
  refine (readCov_at v _ inb' r c (by omega) (by omega)).trans (Eq.trans ?_ (readCov_at v L inb' r c (by omega) (by omega)).symm)
  exact canon_miss inb _ L _ _ (by simp; omega)

/-- A pass adds one product to each slab. -/
theorem pass_at (a : FVec Ideal S512x1024 .bf16) (w : Fin 4 → FVec Ideal S1024x256 .bf16) (j : Fin 4) (inb) :
    v.readCov (pass v L a w) (slab ![0, 256 * j] inb).toLoadRect = down (v.readCov L (slab ![0, 256 * j] inb).toLoadRect) a (w j) := by
  unfold pass
  match j with
  | ⟨0, _⟩ => rw [put_other _ _ _ _ _ _ (by simp), put_other _ _ _ _ _ _ (by simp), put_other _ _ _ _ _ _ (by simp)]; exact put_same v L _ _ _ _ _
  | ⟨1, _⟩ =>
    rw [put_other _ _ _ _ _ _ (by simp), put_other _ _ _ _ _ _ (by simp)]
    refine (put_same v _ ![0, 256] _ _ _ _).trans ?_
    exact congrArg (fun x => down x a (w 1)) (put_other _ _ _ _ _ _ (by simp))
  | ⟨2, _⟩ =>
    rw [put_other _ _ _ _ _ _ (by simp)]
    refine (put_same v _ ![0, 512] _ _ _ _).trans ?_
    exact congrArg (fun x => down x a (w 2)) ((put_other (q := 512) _ _ _ _ _ _ (by simp)).trans (put_other (q := 512) _ _ _ _ _ _ (by simp)))
  | ⟨3, _⟩ =>
    refine (put_same v _ ![0, 768] _ _ _ _).trans ?_
    exact congrArg (fun x => down x a (w 3)) ((put_other (q := 768) _ _ _ _ _ _ (by simp)).trans
      ((put_other (q := 768) _ _ _ _ _ _ (by simp)).trans (put_other (q := 768) _ _ _ _ _ _ (by simp))))

/-- The rows `X` and four passes. -/
def block4 (X : FVec Ideal S512x1024 .f32) (h : FVec Ideal S512x1024 .bf16) (wu wd : Fin 4 → Fin 4 → FVec Ideal S1024x256 .bf16) :
    List (View.Piece (Elt Ideal) S512x1024 .f32) :=
  pass v (pass v (pass v (pass v [⟨Rect.unit (s := S512x1024) ![0, 0] S512x1024.size inb_S512x1024_S512x1024_0_0, X⟩] (acts h (wu 0)) (wd 0))
    (acts h (wu 1)) (wd 1)) (acts h (wu 2)) (wd 2)) (acts h (wu 3)) (wd 3)

variable {P : Layer.Par} {R0 : ℕ}

/-- The block ends as the rows of the layer's output. -/
theorem block4_at (X : FVec Ideal S512x1024 .f32) (h : FVec Ideal S512x1024 .bf16) (wu wd : Fin 4 → Fin 4 → FVec Ideal S1024x256 .bf16)
    (hx : ∀ (r : Fin 512) (l : Fin 1024), (X (ix2 r l) : EReal) = P.x1 (R0 + r) l)
    (hh : ∀ (r : Fin 512) (k : Fin 1024), (h (ix2 r k) : EReal) = P.hm (R0 + r) k)
    (hu : ∀ (i g : Fin 4) (k : Fin 1024) (c : Fin 256), (wu i g (ix2 k c) : EReal) = P.wu k (1024 * i + (256 * g + c)))
    (hd : ∀ (i j : Fin 4) (k : Fin 1024) (c : Fin 256), (wd i j (ix2 k c) : EReal) = P.wd (1024 * i + k) (256 * j + c))
    (r : Fin 512) (l : Fin 1024) : (View.canon (block4 v X h wu wd) (ix2 r l) : EReal) = P.out (R0 + r) l := by
  obtain ⟨j, c, hl⟩ : ∃ (j : Fin 4) (c : Fin 256), (l : ℕ) = 256 * j + c := ⟨⟨l / 256, by omega⟩, ⟨l % 256, by omega⟩, by simp; omega⟩
  have inb : ∀ i, (![0, 256 * (j : ℕ)] : Fin 2 → ℕ) i + S512x256.size i ≤ S512x1024.size i := fun i => by
    match i with
    | ⟨0, _⟩ => show 0 + 512 ≤ 512; omega
    | ⟨1, _⟩ => show 256 * (j : ℕ) + 256 ≤ 1024; omega
  have e : (ix2 r l : S512x1024.Idx) = ix2 ⟨0 + r, by omega⟩ ⟨256 * j + c, by omega⟩ := by
    funext i; match i with | ⟨0, _⟩ => exact Fin.ext (Nat.zero_add _).symm | ⟨1, _⟩ => exact Fin.ext hl
  rw [e, hl, ← readCov_at v _ inb r c]
  unfold block4
  rw [pass_at, pass_at, pass_at, pass_at]
  refine out_at j _ h wu (fun i => wd i j) (fun r c => ?_) hh hu (fun i k c => hd i j k c) r c
  refine (readCov_at v _ inb r c (by omega) (by omega)).trans ?_
  refine (canon_hit _ _ _ r ⟨256 * j + c, by omega⟩ _ _ (by simp) (by simp)).trans ?_
  exact hx _ _

end Cert.KernelIdeal.Tile

end
-- ==== Proof.Mix.lean ====
/- The rows after the mixer, from the halves of the mixer's output as a step leaves them in one buffer: the convolution's half in the
   upper 512 columns, the attention's four blocks of 128 rows in the lower. -/
module

public import proofs.«01_k».proof.Proof.TileC
public import proofs.«01_k».proof.Proof.Load

@[expose] public section

set_option maxRecDepth 16384

noncomputable section

open Idealize.ShloMosaic Idealize.ShloMosaic.TcCoe Idealize.SL.Sem

namespace Cert.KernelIdeal.Tile

open Cert.KernelIdeal Cert.KernelIdeal.Gen

variable {T : In} {P : Layer.Par} {R0 : ℕ}

/-- The buffer's five blocks. -/
def halves (T : In) : List (View.Piece (Elt Ideal) S512x1024 .bf16) :=
  [⟨Rect.unit (s := S512x1024) ![384, 0] S128x512.size inb_S512x1024_S128x512_384_0, T.y3⟩, ⟨Rect.unit (s := S512x1024) ![256, 0] S128x512.size inb_S512x1024_S128x512_256_0, T.y2⟩,
   ⟨Rect.unit (s := S512x1024) ![128, 0] S128x512.size inb_S512x1024_S128x512_128_0, T.y1⟩, ⟨Rect.unit (s := S512x1024) ![0, 0] S128x512.size inb_S512x1024_S128x512_0_0, T.y0⟩,
   ⟨Rect.unit (s := S512x1024) ![0, 512] S512x512.size inb_S512x1024_S512x512_0_512, T.yc⟩]

variable (H : T.Of P R0)
include H

theorem conv_half (v : View sig .tc .vmem S512x1024 .bf16) (r c : Fin 512) :
    (v.readCov (halves T) (Rect.unit (s := S512x1024) ![0, 512] S512x512.size inb_S512x1024_S512x512_0_512).toLoadRect (ix2 r c) : EReal)
      = Layer.normRow 512 Layer.c512 P.gc (P.yc (R0 + r)) c := by
  refine (readCov_at v _ _ r c (by omega) (by omega)).trans ?_
  unfold halves
  refine (canon_miss _ _ _ _ _ (by simp)).trans ?_
  refine (canon_miss _ _ _ _ _ (by simp)).trans ?_
  refine (canon_miss _ _ _ _ _ (by simp)).trans ?_
  refine (canon_miss _ _ _ _ _ (by simp)).trans ?_
  exact (canon_hit _ _ _ r c _ _ (by simp) (by simp)).trans (H.yc_at r c)

theorem attn_half (v : View sig .tc .vmem S512x1024 .bf16) (r c : Fin 512) :
    (v.readCov (halves T) (Rect.unit (s := S512x1024) ![0, 0] S512x512.size inb_S512x1024_S512x512_0_0).toLoadRect (ix2 r c) : EReal)
      = Layer.normRow 512 Layer.c512 P.ga (P.o (R0 + r)) c := by
  refine (readCov_at v _ _ r c (by omega) (by omega)).trans ?_
  unfold halves
  by_cases h3 : 384 ≤ (r : ℕ)
  · refine (canon_hit _ _ _ ⟨r - 384, by omega⟩ c _ _ (by simp; omega) (by simp)).trans ((H.y3_at _ _).trans ?_)
    congr 2; simp only []; omega
  refine (canon_miss _ _ _ _ _ (by simp; omega)).trans ?_
  by_cases h2 : 256 ≤ (r : ℕ)
  · refine (canon_hit _ _ _ ⟨r - 256, by omega⟩ c _ _ (by simp; omega) (by simp)).trans ((H.y2_at _ _).trans ?_)
    congr 2; simp only []; omega
  refine (canon_miss _ _ _ _ _ (by simp; omega)).trans ?_
  by_cases h1 : 128 ≤ (r : ℕ)
  · refine (canon_hit _ _ _ ⟨r - 128, by omega⟩ c _ _ (by simp; omega) (by simp)).trans ((H.y1_at _ _).trans ?_)
    congr 2; simp only []; omega
  refine (canon_miss _ _ _ _ _ (by simp; omega)).trans ?_
  exact (canon_hit _ _ _ ⟨r, by omega⟩ c _ _ (by simp) (by simp)).trans (H.y0_at _ _)

theorem mixed_at (v v' : View sig .tc .vmem S512x1024 .bf16) (wh wl : FVec Ideal S512x1024 .bf16)
    (hh : ∀ (k : Fin 512) (l : Fin 1024), (wh (ix2 k l) : EReal) = P.wo (512 + k) l)
    (hl : ∀ (k : Fin 512) (l : Fin 1024), (wl (ix2 k l) : EReal) = P.wo k l) (r : Fin 512) (l : Fin 1024) :
    (after (k0_pay133 (F := Ideal) T.x) (v.readCov (halves T) (Rect.unit (s := S512x1024) ![0, 512] S512x512.size inb_S512x1024_S512x512_0_512).toLoadRect)
      (v'.readCov (halves T) (Rect.unit (s := S512x1024) ![0, 0] S512x512.size inb_S512x1024_S512x512_0_0).toLoadRect) wh wl (ix2 r l) : EReal) = P.x1 (R0 + r) l :=
  x1_at _ _ _ _ _ (fun r l => by pointwise [k0_pay133, H.x]) (conv_half H v) (attn_half H v') hh hl r l

end Cert.KernelIdeal.Tile

end
-- ==== Proof.InB.lean ====
/- What a grid point reads to mix its tile and to finish the tile before. -/
module

public import proofs.«01_k».proof.Proof.IOuts
public import proofs.«01_k».proof.Proof.Out
public import proofs.«01_k».proof.Proof.Mix

@[expose] public section

set_option maxRecDepth 16384

noncomputable section

open Idealize.ShloMosaic Idealize.ShloMosaic.TcCoe Idealize.SL.Sem

namespace Cert.KernelIdeal.Gen

open Cert.KernelIdeal.Tile

variable (m : (ℓ : Loc nD τ sig) → Buf (Elt Ideal) ℓ) (c : Dev nD) (t : Fin cfg0.N)

/-- Whether the tile of a point begins a sequence. -/
def begins (i : grid0.Coords) : BitVec 1 :=
  let s := Scalar.remsi (BitVec.ofNat 32 (i 0)) 16#32
  Scalar.cmpi .eq (Scalar.select (Scalar.andi (Scalar.xori (Scalar.cmpi .slt s 0#32) 0#1) (Scalar.cmpi .ne s 0#32)) (Scalar.addi s 16#32) s) 0#32

theorem begins_eq : ∀ t : Fin cfg0.N, begins (grid0.coords t) = BitVec.ofBool (decide (t.val % 16 = 0)) := by decide +kernel

/-- One of the sinks. -/
def sink (a : Memref sig .tc .smem S8 .f32) (h : a.IsWhole) (X : S8.Idx → EReal) (off : Fin 1 → ℕ) (inb : ∀ i, off i + S1.size i ≤ S8.size i) : EReal :=
  load (Val := Elt Ideal) a h X (Rect.unit off S1.size inb) (Shape.Idx.first (Nat.one_pos))

theorem sink_eq (a : Memref sig .tc .smem S8 .f32) (h : a.IsWhole) (X : S8.Idx → EReal) (o : ℕ) (ho : o < 8) (inb : ∀ i, (![o] : Fin 1 → ℕ) i + S1.size i ≤ S8.size i) :
    sink a h X ![o] inb = X (ix1 ⟨o, ho⟩) := by
  unfold sink
  rw [load_eq]
  refine View.ld_unit_apply_of (S := S8) (Val := Elt Ideal) (e := .f32) X ![o] S1.size inb _ _ fun i => ?_
  match i with
  | ⟨0, _⟩ => rfl

/-- What the point `t` reads to mix its tile, over the contents `o` of the buffers. -/
def inB (o : Outs Ideal) : In where
  x := load (ms0_1 t) (hs0_1 t) (iblk m c 1 t) (Rect.unit ![0, 0] S512x1024.size (inb_S512x1024_S512x1024_0_0))
  g1 := load (ms0_2 t) (hs0_2 t) (iblk m c 2 t) (Rect.unit ![0, 0] S1x1024.size (inb_S1x1024_S1x1024_0_0))
  wq := load scM0_5 (Memref.isWhole_whole _) o.2.2.2.2.2.1 (Rect.unit ![0, 0] S1024x512.size inb_S1024x2304_S1024x512_0_0)
  wkv := load scM0_5 (Memref.isWhole_whole _) o.2.2.2.2.2.1 (Rect.unit ![0, 512] S1024x256.size inb_S1024x2304_S1024x256_0_512)
  wb := load scM0_5 (Memref.isWhole_whole _) o.2.2.2.2.2.1 (Rect.unit ![0, 768] S1024x512.size inb_S1024x2304_S1024x512_0_768)
  wc := load scM0_5 (Memref.isWhole_whole _) o.2.2.2.2.2.1 (Rect.unit ![0, 1280] S1024x512.size inb_S1024x2304_S1024x512_0_1280)
  wi := load scM0_5 (Memref.isWhole_whole _) o.2.2.2.2.2.1 (Rect.unit ![0, 1792] S1024x512.size inb_S1024x2304_S1024x512_0_1792)
  gq := load (ms0_3 t) (hs0_3 t) (iblk m c 3 t) (Rect.unit ![0, 0] S1x64.size inb_S1x64_S1x64_0_0)
  gk := load (ms0_4 t) (hs0_4 t) (iblk m c 4 t) (Rect.unit ![0, 0] S1x64.size inb_S1x64_S1x64_0_0)
  kvp := load scM0_2 (Memref.isWhole_whole _) o.2.2.2.1 (Rect.unit ![0, 0] S128x512.size inb_S128x512_S128x512_0_0)
  b := begins (grid0.coords t)
  ut := load scM0_3 (Memref.isWhole_whole _) o.2.2.2.2.1 (Rect.unit ![0, 0] S8x512.size inb_S8x512_S8x512_0_0)
  c0 := load (ms0_5 t) (hs0_5 t) (iblk m c 5 t) (Rect.unit ![0, 0, 0] S1x1x512.size inb_S1x3x512_S1x1x512_0_0_0)
  c1 := load (ms0_5 t) (hs0_5 t) (iblk m c 5 t) (Rect.unit ![0, 1, 0] S1x1x512.size inb_S1x3x512_S1x1x512_0_1_0)
  c2 := load (ms0_5 t) (hs0_5 t) (iblk m c 5 t) (Rect.unit ![0, 2, 0] S1x1x512.size inb_S1x3x512_S1x1x512_0_2_0)
  gc := load (ms0_6 t) (hs0_6 t) (iblk m c 6 t) (Rect.unit ![0, 0] S1x512.size inb_S1x512_S1x512_0_0)
  ga := load (ms0_7 t) (hs0_7 t) (iblk m c 7 t) (Rect.unit ![0, 0] S1x512.size inb_S1x512_S1x512_0_0)
  sk := ![sink (ms0_0 t) (hs0_0 t) (iblk m c 0 t) ![0] inb_S8_S1_0, sink (ms0_0 t) (hs0_0 t) (iblk m c 0 t) ![1] inb_S8_S1_1,
    sink (ms0_0 t) (hs0_0 t) (iblk m c 0 t) ![2] inb_S8_S1_2, sink (ms0_0 t) (hs0_0 t) (iblk m c 0 t) ![3] inb_S8_S1_3,
    sink (ms0_0 t) (hs0_0 t) (iblk m c 0 t) ![4] inb_S8_S1_4, sink (ms0_0 t) (hs0_0 t) (iblk m c 0 t) ![5] inb_S8_S1_5,
    sink (ms0_0 t) (hs0_0 t) (iblk m c 0 t) ![6] inb_S8_S1_6, sink (ms0_0 t) (hs0_0 t) (iblk m c 0 t) ![7] inb_S8_S1_7]

/-- The gain of the norm after the mixer. -/
def g2B : FVec Ideal S1x1024 .f32 := load (ms0_8 t) (hs0_8 t) (iblk m c 8 t) (Rect.unit ![0, 0] S1x1024.size inb_S1x1024_S1x1024_0_0)

/-- The rows after the mixer that the point before left. -/
def x1B (o : Outs Ideal) : FVec Ideal S512x1024 .f32 := load scM0_0 (Memref.isWhole_whole _) o.2.1 (Rect.unit ![0, 0] S512x1024.size inb_S512x1024_S512x1024_0_0)
/-- Those rows normalised. -/
def hmB (o : Outs Ideal) : FVec Ideal S512x1024 .bf16 := load scM0_1 (Memref.isWhole_whole _) o.2.2.1 (Rect.unit ![0, 0] S512x1024.size inb_S512x1024_S512x1024_0_0)
/-- The blocks of the matrix of the products that are rectified and squared. -/
def wuB (o : Outs Ideal) : Fin 4 → Fin 4 → FVec Ideal S1024x256 .bf16 :=
  ![![load scM0_7 (Memref.isWhole_whole _) o.2.2.2.2.2.2.2.1 (Rect.unit ![0, 0] S1024x256.size inb_S1024x4096_S1024x256_0_0), load scM0_7 (Memref.isWhole_whole _) o.2.2.2.2.2.2.2.1 (Rect.unit ![0, 256] S1024x256.size inb_S1024x4096_S1024x256_0_256), load scM0_7 (Memref.isWhole_whole _) o.2.2.2.2.2.2.2.1 (Rect.unit ![0, 512] S1024x256.size inb_S1024x4096_S1024x256_0_512), load scM0_7 (Memref.isWhole_whole _) o.2.2.2.2.2.2.2.1 (Rect.unit ![0, 768] S1024x256.size inb_S1024x4096_S1024x256_0_768)],
    ![load scM0_7 (Memref.isWhole_whole _) o.2.2.2.2.2.2.2.1 (Rect.unit ![0, 1024] S1024x256.size inb_S1024x4096_S1024x256_0_1024), load scM0_7 (Memref.isWhole_whole _) o.2.2.2.2.2.2.2.1 (Rect.unit ![0, 1280] S1024x256.size inb_S1024x4096_S1024x256_0_1280), load scM0_7 (Memref.isWhole_whole _) o.2.2.2.2.2.2.2.1 (Rect.unit ![0, 1536] S1024x256.size inb_S1024x4096_S1024x256_0_1536), load scM0_7 (Memref.isWhole_whole _) o.2.2.2.2.2.2.2.1 (Rect.unit ![0, 1792] S1024x256.size inb_S1024x4096_S1024x256_0_1792)],
    ![load scM0_7 (Memref.isWhole_whole _) o.2.2.2.2.2.2.2.1 (Rect.unit ![0, 2048] S1024x256.size inb_S1024x4096_S1024x256_0_2048), load scM0_7 (Memref.isWhole_whole _) o.2.2.2.2.2.2.2.1 (Rect.unit ![0, 2304] S1024x256.size inb_S1024x4096_S1024x256_0_2304), load scM0_7 (Memref.isWhole_whole _) o.2.2.2.2.2.2.2.1 (Rect.unit ![0, 2560] S1024x256.size inb_S1024x4096_S1024x256_0_2560), load scM0_7 (Memref.isWhole_whole _) o.2.2.2.2.2.2.2.1 (Rect.unit ![0, 2816] S1024x256.size inb_S1024x4096_S1024x256_0_2816)],
    ![load scM0_7 (Memref.isWhole_whole _) o.2.2.2.2.2.2.2.1 (Rect.unit ![0, 3072] S1024x256.size inb_S1024x4096_S1024x256_0_3072), load scM0_7 (Memref.isWhole_whole _) o.2.2.2.2.2.2.2.1 (Rect.unit ![0, 3328] S1024x256.size inb_S1024x4096_S1024x256_0_3328), load scM0_7 (Memref.isWhole_whole _) o.2.2.2.2.2.2.2.1 (Rect.unit ![0, 3584] S1024x256.size inb_S1024x4096_S1024x256_0_3584), load scM0_7 (Memref.isWhole_whole _) o.2.2.2.2.2.2.2.1 (Rect.unit ![0, 3840] S1024x256.size inb_S1024x4096_S1024x256_0_3840)]]
/-- The blocks of the matrix of the products that are added. -/
def wdB (o : Outs Ideal) : Fin 4 → Fin 4 → FVec Ideal S1024x256 .bf16 :=
  ![![load scM0_8 (Memref.isWhole_whole _) o.2.2.2.2.2.2.2.2 (Rect.unit ![0, 0] S1024x256.size inb_S4096x1024_S1024x256_0_0), load scM0_8 (Memref.isWhole_whole _) o.2.2.2.2.2.2.2.2 (Rect.unit ![0, 256] S1024x256.size inb_S4096x1024_S1024x256_0_256), load scM0_8 (Memref.isWhole_whole _) o.2.2.2.2.2.2.2.2 (Rect.unit ![0, 512] S1024x256.size inb_S4096x1024_S1024x256_0_512), load scM0_8 (Memref.isWhole_whole _) o.2.2.2.2.2.2.2.2 (Rect.unit ![0, 768] S1024x256.size inb_S4096x1024_S1024x256_0_768)],
    ![load scM0_8 (Memref.isWhole_whole _) o.2.2.2.2.2.2.2.2 (Rect.unit ![1024, 0] S1024x256.size inb_S4096x1024_S1024x256_1024_0), load scM0_8 (Memref.isWhole_whole _) o.2.2.2.2.2.2.2.2 (Rect.unit ![1024, 256] S1024x256.size inb_S4096x1024_S1024x256_1024_256), load scM0_8 (Memref.isWhole_whole _) o.2.2.2.2.2.2.2.2 (Rect.unit ![1024, 512] S1024x256.size inb_S4096x1024_S1024x256_1024_512), load scM0_8 (Memref.isWhole_whole _) o.2.2.2.2.2.2.2.2 (Rect.unit ![1024, 768] S1024x256.size inb_S4096x1024_S1024x256_1024_768)],
    ![load scM0_8 (Memref.isWhole_whole _) o.2.2.2.2.2.2.2.2 (Rect.unit ![2048, 0] S1024x256.size inb_S4096x1024_S1024x256_2048_0), load scM0_8 (Memref.isWhole_whole _) o.2.2.2.2.2.2.2.2 (Rect.unit ![2048, 256] S1024x256.size inb_S4096x1024_S1024x256_2048_256), load scM0_8 (Memref.isWhole_whole _) o.2.2.2.2.2.2.2.2 (Rect.unit ![2048, 512] S1024x256.size inb_S4096x1024_S1024x256_2048_512), load scM0_8 (Memref.isWhole_whole _) o.2.2.2.2.2.2.2.2 (Rect.unit ![2048, 768] S1024x256.size inb_S4096x1024_S1024x256_2048_768)],
    ![load scM0_8 (Memref.isWhole_whole _) o.2.2.2.2.2.2.2.2 (Rect.unit ![3072, 0] S1024x256.size inb_S4096x1024_S1024x256_3072_0), load scM0_8 (Memref.isWhole_whole _) o.2.2.2.2.2.2.2.2 (Rect.unit ![3072, 256] S1024x256.size inb_S4096x1024_S1024x256_3072_256), load scM0_8 (Memref.isWhole_whole _) o.2.2.2.2.2.2.2.2 (Rect.unit ![3072, 512] S1024x256.size inb_S4096x1024_S1024x256_3072_512), load scM0_8 (Memref.isWhole_whole _) o.2.2.2.2.2.2.2.2 (Rect.unit ![3072, 768] S1024x256.size inb_S4096x1024_S1024x256_3072_768)]]

end Cert.KernelIdeal.Gen

end
-- ==== Proof.IRunA.lean ====
/- The body of the kernel over the extended reals run at the first grid point: what its stores leave. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
set_option maxHeartbeats 2332000 in set_option sl_exec.dmaWindow true in set_option sl_exec.dmaWindowSet true in
set_option maxHeartbeats 20000000 in
/-- What the stores of the body leave in each buffer at the first grid point, with the proof that the body run on these buffers leaves it. -/
noncomputable def kernelRun0_A (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S128x512 .bf16) (harg17 : arg17.IsWhole) (arg18 : Memref sig .tc .vmem S8x512 .f32) (harg18 : arg18.IsWhole) (arg19 : Memref sig .tc .vmem S512x1024 .bf16) (harg19 : arg19.IsWhole) (arg20 : Memref sig .tc .vmem S1024x2304 .bf16) (harg20 : arg20.IsWhole) (arg21 : Memref sig .tc .vmem S1024x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S4x512x1024 .f32) (harg24 : arg24.IsWhole) (hc0 : cond0_0 i) (hc1 : ¬cond0_1 i) (hc2 : ¬cond0_2 i)
    (x0 : Vec F S8 .f32) (x1 : Vec F S512x1024 .f32) (x2 : Vec F S1x1024 .f32) (x3 : Vec F S1x64 .f32) (x4 : Vec F S1x64 .f32) (x5 : Vec F S1x3x512 .f32) (x6 : Vec F S1x512 .f32) (x7 : Vec F S1x512 .f32) (x8 : Vec F S1x1024 .f32) (xs9 : Vec F S4x512x1024 .f32) (fh0 : HbBuf0 (F := F) c hbM0_0) (fh1 : HbBuf0 (F := F) c hbM0_1) (fh2 : HbBuf0 (F := F) c hbM0_2) (fh3 : HbBuf0 (F := F) c hbM0_3) :
    Σ' (L9 : List (View.Piece (Elt F) S512x1024 .f32)), Σ' (LS0 : List (View.Piece (Elt F) S512x1024 .f32)), Σ' (LS1 : List (View.Piece (Elt F) S512x1024 .bf16)), Σ' (LS2 : List (View.Piece (Elt F) S128x512 .bf16)), Σ' (LS3 : List (View.Piece (Elt F) S8x512 .f32)), Σ' (LS5 : List (View.Piece (Elt F) S1024x2304 .bf16)), Σ' (LS6 : List (View.Piece (Elt F) S1024x1024 .bf16)), Σ' (LS7 : List (View.Piece (Elt F) S1024x4096 .bf16)), Σ' (LS8 : List (View.Piece (Elt F) S4096x1024 .bf16)), { LT4 : List (View.Piece (Elt F) S512x1024 .bf16) //
      ∀ (xi9 : Vec F S512x1024 .f32) (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg14 fullShare xi9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs9 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg14 fullShare xi9 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ d, owns (c : Thread nD τ) arg19 fullShare d) ∗ (∃ f, arg20.view.loc (c : Thread nD τ) ↦[arg20.view.set]{fullShare} arg20.view.writes (Elt F) f LS5) ∗ (∃ f, arg21.view.loc (c : Thread nD τ) ↦[arg21.view.set]{fullShare} arg21.view.writes (Elt F) f LS6) ∗ (∃ f, arg22.view.loc (c : Thread nD τ) ↦[arg22.view.set]{fullShare} arg22.view.writes (Elt F) f LS7) ∗ (∃ f, arg23.view.loc (c : Thread nD τ) ↦[arg23.view.set]{fullShare} arg23.view.writes (Elt F) f LS8) ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_layer i arg1 harg1 arg2 harg2 arg3 harg3 arg4 harg4 arg5 harg5 arg6 harg6 arg7 harg7 arg8 harg8 arg9 harg9 (Memref.whole main_v2) (Memref.isWhole_whole _) (Memref.whole main_v3) (Memref.isWhole_whole _) (Memref.whole main_v4) (Memref.isWhole_whole _) (Memref.whole main_v5) (Memref.isWhole_whole _) arg14 harg14 arg15 harg15 arg16 harg16 arg17 harg17 arg18 harg18 arg19 harg19 arg20 harg20 arg21 harg21 arg22 harg22 arg23 harg23 arg24 harg24 cc0_scratch10) K } := by
  refine ⟨[], ?_, ?_, ?_, ?_, ?_, ?_, ?_, ?_, [], fun xi9 W K => ?run⟩
  case run =>
    simp only [cc0_layer_eq_skeleton]; unfold cc0_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%fs9, %hfs9, HS9⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hf9; obtain rfl := harg24.eq_unread hfs9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg14.read_unread _
      iexact H9
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    isplitl [HS5]; · iexists _; iexact HS5
    isplitl [HS6]; · iexists _; iexact HS6
    isplitl [HS7]; · iexists _; iexact HS7
    isplitl [HS8]; · iexists _; iexact HS8
    isplitl [HS9]
    · iexists _, _; isplitr; swap; · iexact HS9
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.MixA.lean ====
/- What the first point makes of its tile: each step of the body as the tile's, then the rows after the mixer and what is carried on. -/
module

public import proofs.«01_k».proof.Proof.InB
public import proofs.«01_k».proof.Proof.IRunA

@[expose] public section

set_option maxRecDepth 16384

noncomputable section

open Idealize.ShloMosaic Idealize.ShloMosaic.TcCoe Idealize.SL.Sem

namespace Cert.KernelIdeal.Gen

open Cert.KernelIdeal.Tile

variable (m : (ℓ : Loc nD τ sig) → Buf (Elt Ideal) ℓ) (c : Dev nD) (t : Fin cfg0.N) (d9 : Vec Ideal S4x512x1024 .f32)

/-- What the first point reads to mix its tile. -/
def inA : In where
  x := load (ms0_1 t) (hs0_1 t) (iblk m c 1 t) (Rect.unit ![0, 0] S512x1024.size (inb_S512x1024_S512x1024_0_0))
  g1 := load (ms0_2 t) (hs0_2 t) (iblk m c 2 t) (Rect.unit ![0, 0] S1x1024.size (inb_S1x1024_S1x1024_0_0))
  wq := kernelRun0_A.sl.v247 (F := Ideal) c scM0_5 scM0_9 (Memref.isWhole_whole _) d9 (V m c main_v2) (V m c main_v3)
  wkv := kernelRun0_A.sl.v249 (F := Ideal) c scM0_5 scM0_9 (Memref.isWhole_whole _) d9 (V m c main_v2) (V m c main_v3)
  wb := kernelRun0_A.sl.v348 (F := Ideal) c scM0_5 scM0_9 (Memref.isWhole_whole _) d9 (V m c main_v2) (V m c main_v3)
  wc := kernelRun0_A.sl.v344 (F := Ideal) c scM0_5 scM0_9 (Memref.isWhole_whole _) d9 (V m c main_v2) (V m c main_v3)
  wi := kernelRun0_A.sl.v346 (F := Ideal) c scM0_5 scM0_9 (Memref.isWhole_whole _) d9 (V m c main_v2) (V m c main_v3)
  gq := load (ms0_3 t) (hs0_3 t) (iblk m c 3 t) (Rect.unit ![0, 0] S1x64.size inb_S1x64_S1x64_0_0)
  gk := load (ms0_4 t) (hs0_4 t) (iblk m c 4 t) (Rect.unit ![0, 0] S1x64.size inb_S1x64_S1x64_0_0)
  kvp := kernelRun0_A.sl.v404 (F := Ideal) c scM0_2
  b := 1#1
  ut := kernelRun0_A.sl.v410 (F := Ideal) c scM0_3
  c0 := load (ms0_5 t) (hs0_5 t) (iblk m c 5 t) (Rect.unit ![0, 0, 0] S1x1x512.size inb_S1x3x512_S1x1x512_0_0_0)
  c1 := load (ms0_5 t) (hs0_5 t) (iblk m c 5 t) (Rect.unit ![0, 1, 0] S1x1x512.size inb_S1x3x512_S1x1x512_0_1_0)
  c2 := load (ms0_5 t) (hs0_5 t) (iblk m c 5 t) (Rect.unit ![0, 2, 0] S1x1x512.size inb_S1x3x512_S1x1x512_0_2_0)
  gc := load (ms0_6 t) (hs0_6 t) (iblk m c 6 t) (Rect.unit ![0, 0] S1x512.size inb_S1x512_S1x512_0_0)
  ga := load (ms0_7 t) (hs0_7 t) (iblk m c 7 t) (Rect.unit ![0, 0] S1x512.size inb_S1x512_S1x512_0_0)
  sk := ![sink (ms0_0 t) (hs0_0 t) (iblk m c 0 t) ![0] inb_S8_S1_0, sink (ms0_0 t) (hs0_0 t) (iblk m c 0 t) ![1] inb_S8_S1_1,
    sink (ms0_0 t) (hs0_0 t) (iblk m c 0 t) ![2] inb_S8_S1_2, sink (ms0_0 t) (hs0_0 t) (iblk m c 0 t) ![3] inb_S8_S1_3,
    sink (ms0_0 t) (hs0_0 t) (iblk m c 0 t) ![4] inb_S8_S1_4, sink (ms0_0 t) (hs0_0 t) (iblk m c 0 t) ![5] inb_S8_S1_5,
    sink (ms0_0 t) (hs0_0 t) (iblk m c 0 t) ![6] inb_S8_S1_6, sink (ms0_0 t) (hs0_0 t) (iblk m c 0 t) ![7] inb_S8_S1_7]

theorem zero_selectA {α : Type} (x y : α) : Scalar.select 0#1 x y = y := rfl

theorem r_3_eqA : kernelRun0_A.sl.r_3 (F := Ideal) c (ms0_1 t) (hs0_1 t) (iblk m c 1 t) = k0_pay133 (F := Ideal) (inA m c t d9).x := by
  simp only [kernelRun0_A.sl.r_3]
  simp only [k0_pay24, k0_pay133, inA, Tile.load, Scalar.ofBits]

theorem r_4_eqA : kernelRun0_A.sl.r_4 (F := Ideal) c (ms0_1 t) (hs0_1 t) (ms0_2 t) (hs0_2 t) (iblk m c 1 t) (iblk m c 2 t) = (inA m c t d9).h := by
  simp only [kernelRun0_A.sl.r_4]
  simp only [In.h, k0_pay24, k0_pay25, k0_pay133, k0_pay134, inA, Tile.load, Scalar.ofBits]

theorem r_5_eqA : kernelRun0_A.sl.r_5 (F := Ideal) c (ms0_1 t) (hs0_1 t) (ms0_2 t) (hs0_2 t) scM0_5 scM0_9 (Memref.isWhole_whole _) (iblk m c 1 t) (iblk m c 2 t) d9 (V m c main_v2) (V m c main_v3) = (inA m c t d9).zq := by
  simp only [kernelRun0_A.sl.r_5]
  simp only [In.zq, In.h, k0_pay24, k0_pay25, k0_pay26, k0_pay133, k0_pay134, k0_pay147, inA, Tile.load, Scalar.ofBits]

theorem r_6_eqA : kernelRun0_A.sl.r_6 (F := Ideal) c (ms0_1 t) (hs0_1 t) (ms0_2 t) (hs0_2 t) scM0_5 scM0_9 (Memref.isWhole_whole _) (iblk m c 1 t) (iblk m c 2 t) d9 (V m c main_v2) (V m c main_v3) = (inA m c t d9).k := by
  simp only [kernelRun0_A.sl.r_6]
  simp only [In.k, k0_pay24, k0_pay25, k0_pay27, k0_pay28, k0_pay133, k0_pay134, k0_pay136, k0_pay137, inA, Tile.load, Scalar.ofBits]

theorem r_7_eqA : kernelRun0_A.sl.r_7 (F := Ideal) c (ms0_1 t) (hs0_1 t) (ms0_2 t) (hs0_2 t) scM0_5 scM0_9 (Memref.isWhole_whole _) (iblk m c 1 t) (iblk m c 2 t) d9 (V m c main_v2) (V m c main_v3) = (inA m c t d9).v := by
  simp only [kernelRun0_A.sl.r_7]
  simp only [In.v, k0_pay24, k0_pay25, k0_pay27, k0_pay29, k0_pay133, k0_pay134, k0_pay136, k0_pay138, inA, Tile.load, Scalar.ofBits]

theorem r_13_eqA : kernelRun0_A.sl.r_13 (F := Ideal) c (ms0_1 t) (hs0_1 t) (ms0_2 t) (hs0_2 t) scM0_5 scM0_9 (Memref.isWhole_whole _) (iblk m c 1 t) (iblk m c 2 t) d9 (V m c main_v2) (V m c main_v3) = qms (inA m c t d9).zq := by
  simp only [kernelRun0_A.sl.r_13, kernelRun0_A.sl.r_12, kernelRun0_A.sl.r_11, kernelRun0_A.sl.r_10, kernelRun0_A.sl.r_9, kernelRun0_A.sl.r_8]
  rw [r_5_eqA m c t d9]
  simp only [qms, In.zq, In.h, k0_pay24, k0_pay25, k0_pay26, k0_pay30, k0_pay31, k0_pay32, k0_pay33, k0_pay34, k0_pay35, k0_pay36, k0_pay37, k0_pay133, k0_pay134, k0_pay139, k0_pay141, k0_pay142, k0_pay143, k0_pay144, k0_pay145, k0_pay147, inA, Tile.load, Scalar.ofBits]

theorem r_18_eqA : kernelRun0_A.sl.r_18 (F := Ideal) c (ms0_1 t) (hs0_1 t) (ms0_2 t) (hs0_2 t) (ms0_3 t) (hs0_3 t) scM0_5 scM0_9 (Memref.isWhole_whole _) (iblk m c 1 t) (iblk m c 2 t) (iblk m c 3 t) d9 (V m c main_v2) (V m c main_v3) = (inA m c t d9).qn := by
  simp only [kernelRun0_A.sl.r_18]
  rw [r_13_eqA m c t d9, r_5_eqA m c t d9]
  simp only [In.qn, k0_pay42, k0_pay150, inA, Tile.load, Scalar.ofBits]

theorem r_19_eqA : kernelRun0_A.sl.r_19 (F := Ideal) c (ms0_1 t) (hs0_1 t) (ms0_2 t) (hs0_2 t) (ms0_4 t) (hs0_4 t) scM0_5 scM0_9 (Memref.isWhole_whole _) (iblk m c 1 t) (iblk m c 2 t) (iblk m c 4 t) d9 (V m c main_v2) (V m c main_v3) = (inA m c t d9).kn := by
  simp only [kernelRun0_A.sl.r_19, kernelRun0_A.sl.r_14]
  rw [r_6_eqA m c t d9]
  simp only [In.kn, k0_pay38, k0_pay43, k0_pay139, k0_pay141, k0_pay142, k0_pay151, inA, Tile.load, Scalar.ofBits]

theorem r_20_eqA : kernelRun0_A.sl.r_20 (F := Ideal) c (ms0_1 t) (hs0_1 t) (ms0_2 t) (hs0_2 t) (ms0_3 t) (hs0_3 t) scM0_5 scM0_9 (Memref.isWhole_whole _) (iblk m c 1 t) (iblk m c 2 t) (iblk m c 3 t) d9 (V m c main_v2) (V m c main_v3) = (inA m c t d9).qa := by
  simp only [kernelRun0_A.sl.r_20, kernelRun0_A.sl.cst_282]
  rw [r_18_eqA m c t d9]
  simp only [In.qa, k0_pay44, k0_pay45, k0_pay46, k0_pay152, k0_pay153, k0_pay154, inA, Tile.load, Scalar.ofBits]

theorem r_21_eqA : kernelRun0_A.sl.r_21 (F := Ideal) c (ms0_1 t) (hs0_1 t) (ms0_2 t) (hs0_2 t) (ms0_3 t) (hs0_3 t) scM0_5 scM0_9 (Memref.isWhole_whole _) (iblk m c 1 t) (iblk m c 2 t) (iblk m c 3 t) d9 (V m c main_v2) (V m c main_v3) = (inA m c t d9).qb := by
  simp only [kernelRun0_A.sl.r_21, kernelRun0_A.sl.cst_282]
  rw [r_18_eqA m c t d9]
  simp only [In.qb, k0_pay44, k0_pay45, k0_pay47, k0_pay152, k0_pay153, k0_pay155, inA, Tile.load, Scalar.ofBits]

theorem r_22_eqA : kernelRun0_A.sl.r_22 (F := Ideal) c (ms0_1 t) (hs0_1 t) (ms0_2 t) (hs0_2 t) (ms0_4 t) (hs0_4 t) scM0_5 scM0_9 (Memref.isWhole_whole _) (iblk m c 1 t) (iblk m c 2 t) (iblk m c 4 t) d9 (V m c main_v2) (V m c main_v3) = (inA m c t d9).kv := by
  simp only [kernelRun0_A.sl.r_22]
  rw [r_19_eqA m c t d9, r_7_eqA m c t d9]
  simp only [In.kv, k0_pay48, k0_pay156, inA, Tile.load, Scalar.ofBits]

theorem r_15_eqA : kernelRun0_A.sl.r_15 (F := Ideal) c (ms0_1 t) (hs0_1 t) (ms0_2 t) (hs0_2 t) scM0_5 scM0_9 (Memref.isWhole_whole _) (iblk m c 1 t) (iblk m c 2 t) d9 (V m c main_v2) (V m c main_v3) = k0_pay147 (F := Ideal) (inA m c t d9).h (inA m c t d9).wc := by
  simp only [kernelRun0_A.sl.r_15]
  rw [r_4_eqA m c t d9]
  simp only [k0_pay39, k0_pay147, inA, Tile.load, Scalar.ofBits]

theorem r_16_eqA : kernelRun0_A.sl.r_16 (F := Ideal) c (ms0_1 t) (hs0_1 t) (ms0_2 t) (hs0_2 t) scM0_5 scM0_9 (Memref.isWhole_whole _) (iblk m c 1 t) (iblk m c 2 t) d9 (V m c main_v2) (V m c main_v3) = k0_pay147 (F := Ideal) (inA m c t d9).h (inA m c t d9).wi := by
  simp only [kernelRun0_A.sl.r_16]
  rw [r_4_eqA m c t d9]
  simp only [k0_pay40, k0_pay147, inA, Tile.load, Scalar.ofBits]

theorem r_17_eqA : kernelRun0_A.sl.r_17 (F := Ideal) c (ms0_1 t) (hs0_1 t) (ms0_2 t) (hs0_2 t) scM0_5 scM0_9 (Memref.isWhole_whole _) (iblk m c 1 t) (iblk m c 2 t) d9 (V m c main_v2) (V m c main_v3) = k0_pay147 (F := Ideal) (inA m c t d9).h (inA m c t d9).wb := by
  simp only [kernelRun0_A.sl.r_17]
  rw [r_4_eqA m c t d9]
  simp only [k0_pay41, k0_pay147, inA, Tile.load, Scalar.ofBits]

theorem r_23_eqA : kernelRun0_A.sl.r_23 (F := Ideal) c (ms0_1 t) (hs0_1 t) (ms0_2 t) (hs0_2 t) scM0_5 scM0_9 (Memref.isWhole_whole _) (iblk m c 1 t) (iblk m c 2 t) d9 (V m c main_v2) (V m c main_v3) = (inA m c t d9).u := by
  simp only [kernelRun0_A.sl.r_23]
  rw [r_15_eqA m c t d9, r_16_eqA m c t d9]
  simp only [In.u, k0_pay50, k0_pay158, inA, Tile.load, Scalar.ofBits]

theorem r_24_eqA : kernelRun0_A.sl.r_24 (F := Ideal) c (ms0_1 t) (hs0_1 t) (ms0_2 t) (hs0_2 t) scM0_3 scM0_5 scM0_9 (Memref.isWhole_whole _) (iblk m c 1 t) (iblk m c 2 t) d9 (V m c main_v2) (V m c main_v3) = k0_pay160 (F := Ideal) (inA m c t d9).b (k0_pay147 (F := Ideal) (inA m c t d9).h (inA m c t d9).wc) (k0_pay147 (F := Ideal) (inA m c t d9).h (inA m c t d9).wi) (inA m c t d9).ut := by
  simp only [kernelRun0_A.sl.r_24]
  rw [r_15_eqA m c t d9, r_16_eqA m c t d9]
  simp only [In.u, k0_pay50, k0_pay51, k0_pay52, k0_pay158, k0_pay159, k0_pay160, inA, Tile.load, Scalar.ofBits]

theorem r_25_eqA : kernelRun0_A.sl.r_25 (F := Ideal) c (ms0_1 t) (hs0_1 t) (ms0_2 t) (hs0_2 t) (ms0_5 t) (hs0_5 t) scM0_3 scM0_5 scM0_9 (Memref.isWhole_whole _) (iblk m c 1 t) (iblk m c 2 t) (iblk m c 5 t) d9 (V m c main_v2) (V m c main_v3) = k0_pay162 (F := Ideal) (inA m c t d9).b (k0_pay147 (F := Ideal) (inA m c t d9).h (inA m c t d9).wc) (k0_pay147 (F := Ideal) (inA m c t d9).h (inA m c t d9).wi) (inA m c t d9).ut (inA m c t d9).c0 := by
  simp only [kernelRun0_A.sl.r_25]
  rw [r_15_eqA m c t d9, r_16_eqA m c t d9]
  simp only [In.u, k0_pay50, k0_pay51, k0_pay54, k0_pay158, k0_pay159, k0_pay162, inA, Tile.load, Scalar.ofBits]

theorem r_36_eqA : kernelRun0_A.sl.r_36 (F := Ideal) c (ms0_0 t) (hs0_0 t) (iblk m c 0 t) = (inA m c t d9).ska := by
  simp only [kernelRun0_A.sl.r_36, kernelRun0_A.sl.r_31, kernelRun0_A.sl.cst_319, kernelRun0_A.sl.r_28, kernelRun0_A.sl.r_30, kernelRun0_A.sl.r_27, kernelRun0_A.sl.r_29, kernelRun0_A.sl.r_26]
  simp only [In.ska, sink, Matrix.cons_val, k0_pay58, k0_pay59, k0_pay60, k0_pay166, k0_pay168, inA, Tile.load, Scalar.ofBits]

theorem r_37_eqA : kernelRun0_A.sl.r_37 (F := Ideal) c (ms0_0 t) (hs0_0 t) (iblk m c 0 t) = (inA m c t d9).skb := by
  simp only [kernelRun0_A.sl.r_37, kernelRun0_A.sl.r_35, kernelRun0_A.sl.r_34, kernelRun0_A.sl.r_33, kernelRun0_A.sl.r_32]
  simp only [In.skb, sink, Matrix.cons_val, k0_pay61, k0_pay169, inA, Tile.load, Scalar.ofBits]

theorem y0_A : k0_pay86 k0_pay56 (kernelRun0_A.sl.r_50 (F := Ideal) c (ms0_0 t) (hs0_0 t) (ms0_1 t) (hs0_1 t) (ms0_2 t) (hs0_2 t) (ms0_3 t) (hs0_3 t) (ms0_4 t) (hs0_4 t) scM0_2 scM0_5 scM0_9 (Memref.isWhole_whole _) (iblk m c 0 t) (iblk m c 1 t) (iblk m c 2 t) (iblk m c 3 t) (iblk m c 4 t) d9 (V m c main_v2) (V m c main_v3)) (kernelRun0_A.sl.r_51 (F := Ideal) c (ms0_0 t) (hs0_0 t) (ms0_1 t) (hs0_1 t) (ms0_2 t) (hs0_2 t) (ms0_3 t) (hs0_3 t) (ms0_4 t) (hs0_4 t) scM0_2 scM0_5 scM0_9 (Memref.isWhole_whole _) (iblk m c 0 t) (iblk m c 1 t) (iblk m c 2 t) (iblk m c 3 t) (iblk m c 4 t) d9 (V m c main_v2) (V m c main_v3)) (inA m c t d9).ga = (inA m c t d9).y0 := by
  simp only [kernelRun0_A.sl.r_50, kernelRun0_A.sl.r_41, kernelRun0_A.sl.r_39, kernelRun0_A.sl.r_40, kernelRun0_A.sl.r_51, kernelRun0_A.sl.r_43, kernelRun0_A.sl.r_38, kernelRun0_A.sl.r_42]
  rw [r_20_eqA m c t d9, r_21_eqA m c t d9, r_22_eqA m c t d9, r_36_eqA m c t d9, r_37_eqA m c t d9]
  simp only [In.y0, block, heads, wtd, score, stack, mx, pr, zero_selectA, k0_pay56, k0_pay57, k0_pay62, k0_pay65, k0_pay66, k0_pay67, k0_pay68, k0_pay69, k0_pay70, k0_pay71, k0_pay83, k0_pay84, k0_pay85, k0_pay86, k0_pay164, k0_pay165, k0_pay170, k0_pay173, k0_pay174, k0_pay175, k0_pay176, k0_pay177, k0_pay178, k0_pay179, k0_pay180, k0_pay181, k0_pay182, k0_pay183, k0_pay232, inA, Tile.load, Scalar.ofBits]

theorem y1_A : k0_pay101 k0_pay56 (kernelRun0_A.sl.r_37 (F := Ideal) c (ms0_0 t) (hs0_0 t) (iblk m c 0 t)) (kernelRun0_A.sl.r_48 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_58 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_59 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (inA m c t d9).ga = (inA m c t d9).y1 := by
  simp only [kernelRun0_A.sl.r_48, kernelRun0_A.sl.r_47, kernelRun0_A.sl.r_46, kernelRun0_A.sl.r_58, kernelRun0_A.sl.r_45, kernelRun0_A.sl.r_44, kernelRun0_A.sl.r_59, kernelRun0_A.sl.r_49]
  rw [r_20_eqA m c t d9, r_21_eqA m c t d9, r_22_eqA m c t d9, r_36_eqA m c t d9, r_37_eqA m c t d9]
  simp only [In.y1, block, heads, wtd, score, stack, mx, pr, zero_selectA, k0_pay56, k0_pay57, k0_pay62, k0_pay72, k0_pay73, k0_pay74, k0_pay75, k0_pay76, k0_pay77, k0_pay78, k0_pay79, k0_pay80, k0_pay98, k0_pay99, k0_pay100, k0_pay101, k0_pay164, k0_pay165, k0_pay170, k0_pay173, k0_pay174, k0_pay175, k0_pay176, k0_pay177, k0_pay178, k0_pay179, k0_pay180, k0_pay181, k0_pay182, k0_pay183, k0_pay203, k0_pay232, inA, Tile.load, Scalar.ofBits]

theorem y2_A : k0_pay117 k0_pay56 k0_pay57 (kernelRun0_A.sl.r_37 (F := Ideal) c (ms0_0 t) (hs0_0 t) (iblk m c 0 t)) k0_pay62 (kernelRun0_A.sl.r_56 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_57 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_67 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_68 (F := Ideal) c (ms0_1 t) (hs0_1 t) (ms0_2 t) (hs0_2 t) (ms0_4 t) (hs0_4 t) scM0_5 scM0_9 (Memref.isWhole_whole _) (iblk m c 1 t) (iblk m c 2 t) (iblk m c 4 t) d9 (V m c main_v2) (V m c main_v3)) (kernelRun0_A.sl.r_69 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) k0_pay116 (inA m c t d9).ga = (inA m c t d9).y2 := by
  simp only [kernelRun0_A.sl.r_56, kernelRun0_A.sl.r_55, kernelRun0_A.sl.r_54, kernelRun0_A.sl.r_57, kernelRun0_A.sl.r_67, kernelRun0_A.sl.r_53, kernelRun0_A.sl.r_52, kernelRun0_A.sl.r_68, kernelRun0_A.sl.r_69]
  rw [r_20_eqA m c t d9, r_21_eqA m c t d9, r_22_eqA m c t d9, r_36_eqA m c t d9, r_37_eqA m c t d9]
  simp only [In.y2, block, heads, wtd, score, stack, mx, pr, zero_selectA, k0_pay56, k0_pay57, k0_pay62, k0_pay87, k0_pay88, k0_pay89, k0_pay90, k0_pay91, k0_pay92, k0_pay93, k0_pay94, k0_pay95, k0_pay112, k0_pay113, k0_pay114, k0_pay115, k0_pay116, k0_pay117, k0_pay164, k0_pay165, k0_pay170, k0_pay173, k0_pay174, k0_pay175, k0_pay176, k0_pay177, k0_pay178, k0_pay179, k0_pay180, k0_pay181, k0_pay182, k0_pay183, k0_pay219, k0_pay232, inA, Tile.load, Scalar.ofBits]

theorem y3_A : k0_pay124 k0_pay56 k0_pay57 (kernelRun0_A.sl.r_37 (F := Ideal) c (ms0_0 t) (hs0_0 t) (iblk m c 0 t)) k0_pay62 (kernelRun0_A.sl.r_65 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_66 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_70 (F := Ideal) c (ms0_0 t) (hs0_0 t) (ms0_1 t) (hs0_1 t) (ms0_2 t) (hs0_2 t) (ms0_3 t) (hs0_3 t) (ms0_4 t) (hs0_4 t) scM0_5 scM0_9 (Memref.isWhole_whole _) (iblk m c 0 t) (iblk m c 1 t) (iblk m c 2 t) (iblk m c 3 t) (iblk m c 4 t) d9 (V m c main_v2) (V m c main_v3)) (kernelRun0_A.sl.r_71 (F := Ideal) c (ms0_1 t) (hs0_1 t) (ms0_2 t) (hs0_2 t) (ms0_4 t) (hs0_4 t) scM0_5 scM0_9 (Memref.isWhole_whole _) (iblk m c 1 t) (iblk m c 2 t) (iblk m c 4 t) d9 (V m c main_v2) (V m c main_v3)) k0_pay123 (inA m c t d9).ga = (inA m c t d9).y3 := by
  simp only [kernelRun0_A.sl.r_65, kernelRun0_A.sl.r_60, kernelRun0_A.sl.r_66, kernelRun0_A.sl.r_70, kernelRun0_A.sl.r_64, kernelRun0_A.sl.r_62, kernelRun0_A.sl.r_61, kernelRun0_A.sl.r_63, kernelRun0_A.sl.r_71]
  rw [r_20_eqA m c t d9, r_21_eqA m c t d9, r_22_eqA m c t d9, r_36_eqA m c t d9, r_37_eqA m c t d9]
  simp only [In.y3, block, heads, wtd, score, stack, mx, pr, zero_selectA, k0_pay56, k0_pay57, k0_pay62, k0_pay102, k0_pay103, k0_pay104, k0_pay105, k0_pay106, k0_pay107, k0_pay108, k0_pay109, k0_pay120, k0_pay121, k0_pay122, k0_pay123, k0_pay124, k0_pay164, k0_pay165, k0_pay170, k0_pay173, k0_pay174, k0_pay175, k0_pay176, k0_pay177, k0_pay178, k0_pay179, k0_pay180, k0_pay181, k0_pay182, k0_pay183, k0_pay228, k0_pay232, inA, Tile.load, Scalar.ofBits]

theorem yc_A : k0_pay55 (kernelRun0_A.sl.r_17 (F := Ideal) c (ms0_1 t) (hs0_1 t) (ms0_2 t) (hs0_2 t) scM0_5 scM0_9 (Memref.isWhole_whole _) (iblk m c 1 t) (iblk m c 2 t) d9 (V m c main_v2) (V m c main_v3)) (kernelRun0_A.sl.r_23 (F := Ideal) c (ms0_1 t) (hs0_1 t) (ms0_2 t) (hs0_2 t) scM0_5 scM0_9 (Memref.isWhole_whole _) (iblk m c 1 t) (iblk m c 2 t) d9 (V m c main_v2) (V m c main_v3)) (kernelRun0_A.sl.r_24 (F := Ideal) c (ms0_1 t) (hs0_1 t) (ms0_2 t) (hs0_2 t) scM0_3 scM0_5 scM0_9 (Memref.isWhole_whole _) (iblk m c 1 t) (iblk m c 2 t) d9 (V m c main_v2) (V m c main_v3)) (kernelRun0_A.sl.r_25 (F := Ideal) c (ms0_1 t) (hs0_1 t) (ms0_2 t) (hs0_2 t) (ms0_5 t) (hs0_5 t) scM0_3 scM0_5 scM0_9 (Memref.isWhole_whole _) (iblk m c 1 t) (iblk m c 2 t) (iblk m c 5 t) d9 (V m c main_v2) (V m c main_v3)) (inA m c t d9).c1 (inA m c t d9).c2 (inA m c t d9).gc = (inA m c t d9).yc := by
  rw [r_17_eqA m c t d9, r_23_eqA m c t d9, r_24_eqA m c t d9, r_25_eqA m c t d9]
  simp only [In.yc, k0_pay55, k0_pay163, inA, Tile.load, Scalar.ofBits]

theorem HS4_eqA : kernelRun0_A.sl.HS4_5 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_2 scM0_3 scM0_5 scM0_9 (Memref.isWhole_whole _) (iblk m c 0 t) (iblk m c 1 t) (iblk m c 2 t) (iblk m c 3 t) (iblk m c 4 t) (iblk m c 5 t) (iblk m c 6 t) (iblk m c 7 t) d9 (V m c main_v2) (V m c main_v3) = halves (inA m c t d9) := by
  dsimp only [kernelRun0_A.sl.HS4_5]
  unfold halves
  rw [← y0_A m c t d9, ← y1_A m c t d9, ← y2_A m c t d9, ← y3_A m c t d9, ← yc_A m c t d9]
  rfl

theorem mixed_eqA : kernelRun0_A.sl.r_72 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_2 scM0_3 scM0_4 scM0_5 scM0_6 scM0_9 (Memref.isWhole_whole _) (iblk m c 0 t) (iblk m c 1 t) (iblk m c 2 t) (iblk m c 3 t) (iblk m c 4 t) (iblk m c 5 t) (iblk m c 6 t) (iblk m c 7 t) d9 (V m c main_v2) (V m c main_v3) = after (k0_pay133 (F := Ideal) (inA m c t d9).x) (scM0_4.view.readCov (halves (inA m c t d9)) (Rect.unit (s := S512x1024) ![0, 512] S512x512.size inb_S512x1024_S512x512_0_512).toLoadRect) (scM0_4.view.readCov (halves (inA m c t d9)) (Rect.unit (s := S512x1024) ![0, 0] S512x512.size inb_S512x1024_S512x512_0_0).toLoadRect) (kernelRun0_A.sl.v1029 (F := Ideal) c scM0_6 scM0_9 (Memref.isWhole_whole _) d9 (V m c main_v2) (V m c main_v3)) (kernelRun0_A.sl.v1055 (F := Ideal) c scM0_6 scM0_9 (Memref.isWhole_whole _) d9 (V m c main_v2) (V m c main_v3)) := by
  dsimp only [kernelRun0_A.sl.r_72, kernelRun0_A.sl.v1028, kernelRun0_A.sl.v1054, kernelRun0_A.sl.cst_554]
  rw [HS4_eqA m c t d9, r_3_eqA m c t d9]
  dsimp only [after, k0_pay236, k0_pay233, k0_pay127, Tile.load]

end Cert.KernelIdeal.Gen

end
-- ==== Proof.Stage.lean ====
/- A buffer of slots that transfers fill one after another: what a read of one slot sees. -/
module

public import Idealize.ShloMosaic.Lib.ViewIndex
public import Idealize.ShloMosaic.Lib.Pipeline.Value

@[expose] public section

noncomputable section

namespace Cert.Stage

open Idealize.ShloMosaic

variable {sig : RefSig} {κ : Kind} {sp : Space} {s s' : Shape} {e : EltTy} {Val : EltTy → Type}

/-- A read of the slot a transfer has just filled, at the place of `x`, sees what it brought at `x`. -/
theorem hit (M : Memref sig κ sp s e) (r : Rect s) (hr : ∀ a, r.stride a = 1) (hq : r.shape.Squeezes s')
    (g : M.view.ty.Contents Val) (w : s'.Idx → Val e) :
    M.view.readAt Val r.toLoadRect (((M.slice r hr).squeeze s' hq).view.write Val g w Finset.univ)
      = shapeCast r.shape w hq.numel_eq.symm := by
  funext y
  obtain ⟨x, rfl⟩ := (Shape.reshapeEquiv hq.numel_eq).surjective y
  refine (View.read_write_reshape (M.slice r hr).view hq.numel_eq g w x).trans ?_
  show w x = w (Shape.reshapeEquiv hq.numel_eq.symm (Shape.reshapeEquiv hq.numel_eq x))
  rw [Shape.reshapeEquiv_reshapeEquiv, Shape.reshapeEquiv_self]

/-- A read of a slot does not see a transfer into another. -/
theorem skip (M : Memref sig κ sp s e) {off size off' size' : Fin s.rank → ℕ} {inb inb'} (hr) {hq : (Rect.unit off' size' inb').shape.Squeezes s'}
    (g : M.view.ty.Contents Val) (w : s'.Idx → Val e) (a : Fin s.rank) (h : off a + size a ≤ off' a ∨ off' a + size' a ≤ off a) :
    M.view.readAt Val (Rect.unit off size inb).toLoadRect (((M.slice (Rect.unit off' size' inb') hr).squeeze s' hq).view.write Val g w Finset.univ)
      = M.view.readAt Val (Rect.unit off size inb).toLoadRect g := by
  refine View.read_congr (v := M.view.slice (Rect.unit off size inb)) fun i hi => View.write_of_not_mem _ _ _ ?_
  have hd := View.disjoint_slice (v := M.view) (Rect.unit_disjoint (inb := inb) (inb' := inb') a h)
  intro hm
  exact Finset.disjoint_left.mp hd hi ((Finset.ext_iff.mp (View.set_reshape (M.view.slice (Rect.unit off' size' inb')) hq.numel_eq) i).mp hm)

end Cert.Stage

end
-- ==== Proof.Slots.lean ====
/- The first point's staging buffer: each read of it gives what the last transfer into that slot brought, whatever the buffer held before. -/
module

public import proofs.«01_k».proof.Proof.IRunA
public import proofs.«01_k».proof.Proof.Stage

@[expose] public section

set_option maxRecDepth 16384

noncomputable section

namespace Cert.KernelIdeal.Gen

open Idealize.ShloMosaic Idealize.ShloMosaic.TcCoe Idealize.SL.Sem

variable {F : FTy → Type} [FloatOps F] [Named F]
variable (m : (ℓ : Loc nD τ sig) → Buf (Elt F) ℓ) (c : Dev nD) (d9 : Vec F S4x512x1024 .f32)

theorem v44_A : kernelRun0_A.sl.v44 c scM0_9 (Memref.isWhole_whole _) d9 (V m c main_v2)
    = shapeCast S1x512x1024 (kernelRun0_A.sl.dma4 c (V m c main_v2)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v60_A : kernelRun0_A.sl.v60 c scM0_9 (Memref.isWhole_whole _) d9 (V m c main_v2)
    = shapeCast S1x512x1024 (kernelRun0_A.sl.dma4_1 c (V m c main_v2)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v76_A : kernelRun0_A.sl.v76 c scM0_9 (Memref.isWhole_whole _) d9 (V m c main_v2)
    = shapeCast S1x512x256 (kernelRun0_A.sl.dma4_2 c (V m c main_v2)) squeezes_S1x512x256_S512x256.numel_eq.symm :=
  (Stage.skip _ _ _ _ 0 (by decide)).trans ((Stage.skip _ _ _ _ 0 (by decide)).trans ((Stage.skip _ _ _ _ 0 (by decide)).trans (Stage.hit _ _ _ _ _ _)))

theorem v92_A : kernelRun0_A.sl.v92 c scM0_9 (Memref.isWhole_whole _) d9 (V m c main_v2) (V m c main_v3)
    = shapeCast S1x512x1024 (kernelRun0_A.sl.dma4_3 c (V m c main_v2)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v108_A : kernelRun0_A.sl.v108 c scM0_9 (Memref.isWhole_whole _) d9 (V m c main_v2) (V m c main_v3)
    = shapeCast S1x512x1024 (kernelRun0_A.sl.dma7 c (V m c main_v2)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v119_A : kernelRun0_A.sl.v119 c scM0_9 (Memref.isWhole_whole _) d9 (V m c main_v2) (V m c main_v3)
    = shapeCast S1x512x256 (kernelRun0_A.sl.dma10 c (V m c main_v2)) squeezes_S1x512x256_S512x256.numel_eq.symm :=
  (Stage.skip _ _ _ _ 0 (by decide)).trans ((Stage.skip _ _ _ _ 0 (by decide)).trans (Stage.hit _ _ _ _ _ _))

theorem v130_A : kernelRun0_A.sl.v130 c scM0_9 (Memref.isWhole_whole _) d9 (V m c main_v2) (V m c main_v3)
    = shapeCast S1x512x1024 (kernelRun0_A.sl.dma13 c (V m c main_v3)) squeezes_S1x512x1024_S512x1024.numel_eq.symm :=
  (Stage.skip _ _ _ _ 0 (by decide)).trans (Stage.hit _ _ _ _ _ _)

theorem v141_A : kernelRun0_A.sl.v141 c scM0_9 (Memref.isWhole_whole _) d9 (V m c main_v2) (V m c main_v3)
    = shapeCast S1x512x1024 (kernelRun0_A.sl.dma16 c (V m c main_v3)) squeezes_S1x512x1024_S512x1024.numel_eq.symm :=
  Stage.hit _ _ _ _ _ _

theorem v172_A : kernelRun0_A.sl.v172 c scM0_9 (Memref.isWhole_whole _) d9 (V m c main_v2) (V m c main_v3) (V m c main_v4)
    = shapeCast S1x512x1024 (kernelRun0_A.sl.dma28 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v188_A : kernelRun0_A.sl.v188 c scM0_9 (Memref.isWhole_whole _) d9 (V m c main_v2) (V m c main_v3) (V m c main_v4)
    = shapeCast S1x512x1024 (kernelRun0_A.sl.dma28_1 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v204_A : kernelRun0_A.sl.v204 c scM0_9 (Memref.isWhole_whole _) d9 (V m c main_v2) (V m c main_v3) (V m c main_v4)
    = shapeCast S1x512x1024 (kernelRun0_A.sl.dma28_2 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v220_A : kernelRun0_A.sl.v220 c scM0_9 (Memref.isWhole_whole _) d9 (V m c main_v2) (V m c main_v3) (V m c main_v4)
    = shapeCast S1x512x1024 (kernelRun0_A.sl.dma28_3 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v493_A : kernelRun0_A.sl.v493 c scM0_9 (Memref.isWhole_whole _) d9 (V m c main_v2) (V m c main_v3) (V m c main_v4)
    = shapeCast S1x512x1024 (kernelRun0_A.sl.dma31 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v509_A : kernelRun0_A.sl.v509 c scM0_9 (Memref.isWhole_whole _) d9 (V m c main_v2) (V m c main_v3) (V m c main_v4) (V m c main_v5)
    = shapeCast S1x512x1024 (kernelRun0_A.sl.dma34 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v600_A : kernelRun0_A.sl.v600 c scM0_9 (Memref.isWhole_whole _) d9 (V m c main_v2) (V m c main_v3) (V m c main_v4) (V m c main_v5)
    = shapeCast S1x512x1024 (kernelRun0_A.sl.dma37 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v616_A : kernelRun0_A.sl.v616 c scM0_9 (Memref.isWhole_whole _) d9 (V m c main_v2) (V m c main_v3) (V m c main_v4) (V m c main_v5)
    = shapeCast S1x512x1024 (kernelRun0_A.sl.dma40 c (V m c main_v4)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v729_A : kernelRun0_A.sl.v729 c scM0_9 (Memref.isWhole_whole _) d9 (V m c main_v2) (V m c main_v3) (V m c main_v4) (V m c main_v5)
    = shapeCast S1x512x1024 (kernelRun0_A.sl.dma72 c (V m c main_v5)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v745_A : kernelRun0_A.sl.v745 c scM0_9 (Memref.isWhole_whole _) d9 (V m c main_v2) (V m c main_v3) (V m c main_v4) (V m c main_v5)
    = shapeCast S1x512x1024 (kernelRun0_A.sl.dma75 c (V m c main_v5)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v857_A : kernelRun0_A.sl.v857 c scM0_9 (Memref.isWhole_whole _) d9 (V m c main_v2) (V m c main_v3) (V m c main_v4) (V m c main_v5)
    = shapeCast S1x512x1024 (kernelRun0_A.sl.dma78 c (V m c main_v5)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v873_A : kernelRun0_A.sl.v873 c scM0_9 (Memref.isWhole_whole _) d9 (V m c main_v2) (V m c main_v3) (V m c main_v4) (V m c main_v5)
    = shapeCast S1x512x1024 (kernelRun0_A.sl.dma81 c (V m c main_v5)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v950_A : kernelRun0_A.sl.v950 c scM0_9 (Memref.isWhole_whole _) d9 (V m c main_v2) (V m c main_v3) (V m c main_v4) (V m c main_v5)
    = shapeCast S1x512x1024 (kernelRun0_A.sl.dma87 c (V m c main_v5)) squeezes_S1x512x1024_S512x1024.numel_eq.symm :=
  (Stage.skip _ _ _ _ 0 (by decide)).trans ((Stage.skip _ _ _ _ 0 (by decide)).trans ((Stage.skip _ _ _ _ 0 (by decide)).trans (Stage.hit _ _ _ _ _ _)))

theorem v961_A : kernelRun0_A.sl.v961 c scM0_9 (Memref.isWhole_whole _) d9 (V m c main_v2) (V m c main_v3) (V m c main_v4) (V m c main_v5)
    = shapeCast S1x512x1024 (kernelRun0_A.sl.dma90 c (V m c main_v5)) squeezes_S1x512x1024_S512x1024.numel_eq.symm :=
  (Stage.skip _ _ _ _ 0 (by decide)).trans ((Stage.skip _ _ _ _ 0 (by decide)).trans (Stage.hit _ _ _ _ _ _))

theorem v1037_A : kernelRun0_A.sl.v1037 c scM0_9 (Memref.isWhole_whole _) d9 (V m c main_v2) (V m c main_v3) (V m c main_v4) (V m c main_v5)
    = shapeCast S1x512x1024 (kernelRun0_A.sl.dma96 c (V m c main_v5)) squeezes_S1x512x1024_S512x1024.numel_eq.symm :=
  (Stage.skip _ _ _ _ 0 (by decide)).trans (Stage.hit _ _ _ _ _ _)

theorem v1048_A : kernelRun0_A.sl.v1048 c scM0_9 (Memref.isWhole_whole _) d9 (V m c main_v2) (V m c main_v3) (V m c main_v4) (V m c main_v5)
    = shapeCast S1x512x1024 (kernelRun0_A.sl.dma99 c (V m c main_v5)) squeezes_S1x512x1024_S512x1024.numel_eq.symm :=
  Stage.hit _ _ _ _ _ _

end Cert.KernelIdeal.Gen

end
-- ==== Proof.IStepA.lean ====
/- The grid of the kernel over the extended reals run point by point: what the buffers hold after each point, and that the arguments are left as they were. -/
module

public import proofs.«01_k».proof.Proof.IOuts
public import proofs.«01_k».proof.Proof.Slots
public import Idealize.ShloMosaic.Lib.Claim

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The run at the first grid point, on the buffers of point `t`. -/
def runA (c : Dev nD) (t : Fin cfg0.N) (h0 : t.val % 65 = 0) (h1 : ¬(1 ≤ t.val % 65 ∧ t.val % 65 ≤ 63)) (h2 : ¬t.val % 65 = 64) (d9 : Vec F S4x512x1024 .f32) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) d9 (V m c main_v2) (V m c main_v3) (V m c main_v4) (V m c main_v5)

theorem scover0_A_0 (c : Dev nD) (t : Fin cfg0.N) (h0 : t.val % 65 = 0) (h1 : ¬(1 ≤ t.val % 65 ∧ t.val % 65 ≤ 63)) (h2 : ¬t.val % 65 = 64) (d9 : Vec F S4x512x1024 .f32) (y : S512x1024.Idx) :
    ∃ pc ∈ (runA m c t h0 h1 h2 d9).2.1, y ∈ pc.1.set :=
  View.cover_of_tiledL (runA m c t h0 h1 h2 d9).2.1 S512x1024.size (by sl_kernel_rfl) y

theorem scover0_A_1 (c : Dev nD) (t : Fin cfg0.N) (h0 : t.val % 65 = 0) (h1 : ¬(1 ≤ t.val % 65 ∧ t.val % 65 ≤ 63)) (h2 : ¬t.val % 65 = 64) (d9 : Vec F S4x512x1024 .f32) (y : S512x1024.Idx) :
    ∃ pc ∈ (runA m c t h0 h1 h2 d9).2.2.1, y ∈ pc.1.set :=
  View.cover_of_tiledL (runA m c t h0 h1 h2 d9).2.2.1 S512x1024.size (by sl_kernel_rfl) y

theorem scover0_A_2 (c : Dev nD) (t : Fin cfg0.N) (h0 : t.val % 65 = 0) (h1 : ¬(1 ≤ t.val % 65 ∧ t.val % 65 ≤ 63)) (h2 : ¬t.val % 65 = 64) (d9 : Vec F S4x512x1024 .f32) (y : S128x512.Idx) :
    ∃ pc ∈ (runA m c t h0 h1 h2 d9).2.2.2.1, y ∈ pc.1.set :=
  View.cover_of_tiledL (runA m c t h0 h1 h2 d9).2.2.2.1 S128x512.size (by sl_kernel_rfl) y

theorem scover0_A_3 (c : Dev nD) (t : Fin cfg0.N) (h0 : t.val % 65 = 0) (h1 : ¬(1 ≤ t.val % 65 ∧ t.val % 65 ≤ 63)) (h2 : ¬t.val % 65 = 64) (d9 : Vec F S4x512x1024 .f32) (y : S8x512.Idx) :
    ∃ pc ∈ (runA m c t h0 h1 h2 d9).2.2.2.2.1, y ∈ pc.1.set :=
  View.cover_of_tiledL (runA m c t h0 h1 h2 d9).2.2.2.2.1 S8x512.size (by sl_kernel_rfl) y

theorem scover0_A_5 (c : Dev nD) (t : Fin cfg0.N) (h0 : t.val % 65 = 0) (h1 : ¬(1 ≤ t.val % 65 ∧ t.val % 65 ≤ 63)) (h2 : ¬t.val % 65 = 64) (d9 : Vec F S4x512x1024 .f32) (y : S1024x2304.Idx) :
    ∃ pc ∈ (runA m c t h0 h1 h2 d9).2.2.2.2.2.1, y ∈ pc.1.set :=
  View.cover_of_tiledBy (runA m c t h0 h1 h2 d9).2.2.2.2.2.1 ![512, 256] (by sl_kernel_rfl) y

theorem scover0_A_6 (c : Dev nD) (t : Fin cfg0.N) (h0 : t.val % 65 = 0) (h1 : ¬(1 ≤ t.val % 65 ∧ t.val % 65 ≤ 63)) (h2 : ¬t.val % 65 = 64) (d9 : Vec F S4x512x1024 .f32) (y : S1024x1024.Idx) :
    ∃ pc ∈ (runA m c t h0 h1 h2 d9).2.2.2.2.2.2.1, y ∈ pc.1.set :=
  View.cover_of_tiledL (runA m c t h0 h1 h2 d9).2.2.2.2.2.2.1 S512x1024.size (by sl_kernel_rfl) y

theorem scover0_A_7 (c : Dev nD) (t : Fin cfg0.N) (h0 : t.val % 65 = 0) (h1 : ¬(1 ≤ t.val % 65 ∧ t.val % 65 ≤ 63)) (h2 : ¬t.val % 65 = 64) (d9 : Vec F S4x512x1024 .f32) (y : S1024x4096.Idx) :
    ∃ pc ∈ (runA m c t h0 h1 h2 d9).2.2.2.2.2.2.2.1, y ∈ pc.1.set :=
  View.cover_of_tiledL (runA m c t h0 h1 h2 d9).2.2.2.2.2.2.2.1 S512x1024.size (by sl_kernel_rfl) y

theorem scover0_A_8 (c : Dev nD) (t : Fin cfg0.N) (h0 : t.val % 65 = 0) (h1 : ¬(1 ≤ t.val % 65 ∧ t.val % 65 ≤ 63)) (h2 : ¬t.val % 65 = 64) (d9 : Vec F S4x512x1024 .f32) (y : S4096x1024.Idx) :
    ∃ pc ∈ (runA m c t h0 h1 h2 d9).2.2.2.2.2.2.2.2.1, y ∈ pc.1.set :=
  View.cover_of_tiledL (runA m c t h0 h1 h2 d9).2.2.2.2.2.2.2.2.1 S512x1024.size (by sl_kernel_rfl) y

/-- What the first point leaves over the contents `d9` of the staging buffer. -/
def stepA9 (c : Dev nD) (t : Fin cfg0.N) (h0 : t.val % 65 = 0) (h1 : ¬(1 ≤ t.val % 65 ∧ t.val % 65 ≤ 63)) (h2 : ¬t.val % 65 = 64) (d9 : Vec F S4x512x1024 .f32) : Outs F :=
  (VO0_9.read (Elt F) (VO0_9.writes (Elt F) VO0_9.junk (runA m c t h0 h1 h2 d9).1),
    VS0_0.read (Elt F) (VS0_0.writes (Elt F) VS0_0.junk (runA m c t h0 h1 h2 d9).2.1),
    VS0_1.read (Elt F) (VS0_1.writes (Elt F) VS0_1.junk (runA m c t h0 h1 h2 d9).2.2.1),
    VS0_2.read (Elt F) (VS0_2.writes (Elt F) VS0_2.junk (runA m c t h0 h1 h2 d9).2.2.2.1),
    VS0_3.read (Elt F) (VS0_3.writes (Elt F) VS0_3.junk (runA m c t h0 h1 h2 d9).2.2.2.2.1),
    VS0_5.read (Elt F) (VS0_5.writes (Elt F) VS0_5.junk (runA m c t h0 h1 h2 d9).2.2.2.2.2.1),
    VS0_6.read (Elt F) (VS0_6.writes (Elt F) VS0_6.junk (runA m c t h0 h1 h2 d9).2.2.2.2.2.2.1),
    VS0_7.read (Elt F) (VS0_7.writes (Elt F) VS0_7.junk (runA m c t h0 h1 h2 d9).2.2.2.2.2.2.2.1),
    VS0_8.read (Elt F) (VS0_8.writes (Elt F) VS0_8.junk (runA m c t h0 h1 h2 d9).2.2.2.2.2.2.2.2.1))

theorem HS5_any (c : Dev nD) (d9 d9' : Vec F S4x512x1024 .f32) : kernelRun0_A.sl.HS5_6 c scM0_9 (Memref.isWhole_whole _) d9 (V m c main_v2) (V m c main_v3) = kernelRun0_A.sl.HS5_6 c scM0_9 (Memref.isWhole_whole _) d9' (V m c main_v2) (V m c main_v3) := by
  dsimp only [kernelRun0_A.sl.HS5_6, kernelRun0_A.sl.r]
  rw [(v119_A m c d9).trans (v119_A m c d9').symm, (v108_A m c d9).trans (v108_A m c d9').symm, (v92_A m c d9).trans (v92_A m c d9').symm, (v76_A m c d9).trans (v76_A m c d9').symm, (v60_A m c d9).trans (v60_A m c d9').symm, (v44_A m c d9).trans (v44_A m c d9').symm]

theorem HS6_any (c : Dev nD) (d9 d9' : Vec F S4x512x1024 .f32) : kernelRun0_A.sl.HS6_2 c scM0_9 (Memref.isWhole_whole _) d9 (V m c main_v2) (V m c main_v3) = kernelRun0_A.sl.HS6_2 c scM0_9 (Memref.isWhole_whole _) d9' (V m c main_v2) (V m c main_v3) := by
  dsimp only [kernelRun0_A.sl.HS6_2, kernelRun0_A.sl.r_1]
  rw [(v141_A m c d9).trans (v141_A m c d9').symm, (v130_A m c d9).trans (v130_A m c d9').symm]

/-- None of it depends on what the staging buffer held. -/
theorem stepA9_any (c : Dev nD) (t : Fin cfg0.N) (h0 : t.val % 65 = 0) (h1 : ¬(1 ≤ t.val % 65 ∧ t.val % 65 ≤ 63)) (h2 : ¬t.val % 65 = 64) (d9 d9' : Vec F S4x512x1024 .f32) :
    stepA9 m c t h0 h1 h2 d9 = stepA9 m c t h0 h1 h2 d9' := by
  generalize hX : stepA9 m c t h0 h1 h2 d9' = X
  unfold stepA9 runA
  delta kernelRun0_A
  dsimp only [kernelRun0_A.sl.r_52, kernelRun0_A.sl.r_15, kernelRun0_A.sl.r_65, kernelRun0_A.sl.r_18, kernelRun0_A.sl.r_6, kernelRun0_A.sl.r_25, kernelRun0_A.sl.r_41, kernelRun0_A.sl.r_59, kernelRun0_A.sl.r_66, kernelRun0_A.sl.r_48, kernelRun0_A.sl.r_22, kernelRun0_A.sl.v249, kernelRun0_A.sl.r_62, kernelRun0_A.sl.r_54, kernelRun0_A.sl.r_60, kernelRun0_A.sl.r_46, kernelRun0_A.sl.r_44, kernelRun0_A.sl.r_14, kernelRun0_A.sl.r_43, kernelRun0_A.sl.r_63, kernelRun0_A.sl.r_13, kernelRun0_A.sl.r_12, kernelRun0_A.sl.r_7, kernelRun0_A.sl.r_58, kernelRun0_A.sl.r_10, kernelRun0_A.sl.r_5, kernelRun0_A.sl.r_8, kernelRun0_A.sl.v1028, kernelRun0_A.sl.r_20, kernelRun0_A.sl.r_55, kernelRun0_A.sl.r_51, kernelRun0_A.sl.r_40, kernelRun0_A.sl.r_24, kernelRun0_A.sl.r_57, kernelRun0_A.sl.r_56, kernelRun0_A.sl.r_42, kernelRun0_A.sl.r_23, kernelRun0_A.sl.v348, kernelRun0_A.sl.v346, kernelRun0_A.sl.r_67, kernelRun0_A.sl.v344, kernelRun0_A.sl.v1029, kernelRun0_A.sl.r_71, kernelRun0_A.sl.HS4_5, kernelRun0_A.sl.r_53, kernelRun0_A.sl.v1054, kernelRun0_A.sl.r_70, kernelRun0_A.sl.r_72, kernelRun0_A.sl.r_9, kernelRun0_A.sl.r_21, kernelRun0_A.sl.r_64, kernelRun0_A.sl.r_69, kernelRun0_A.sl.r_38, kernelRun0_A.sl.v247, kernelRun0_A.sl.r_50, kernelRun0_A.sl.r_16, kernelRun0_A.sl.r_2, kernelRun0_A.sl.r_19, kernelRun0_A.sl.r_61, kernelRun0_A.sl.r_39, kernelRun0_A.sl.r_17, kernelRun0_A.sl.r_45, kernelRun0_A.sl.r_68, kernelRun0_A.sl.v1055, kernelRun0_A.sl.r_11, kernelRun0_A.sl.r_49, kernelRun0_A.sl.r_47, kernelRun0_A.sl.r, kernelRun0_A.sl.r_1]
  rw [HS5_any m c d9 d9', HS6_any m c d9 d9', (v172_A m c d9).trans (v172_A m c d9').symm, (v188_A m c d9).trans (v188_A m c d9').symm, (v204_A m c d9).trans (v204_A m c d9').symm, (v220_A m c d9).trans (v220_A m c d9').symm, (v493_A m c d9).trans (v493_A m c d9').symm, (v509_A m c d9).trans (v509_A m c d9').symm, (v600_A m c d9).trans (v600_A m c d9').symm, (v616_A m c d9).trans (v616_A m c d9').symm, (v729_A m c d9).trans (v729_A m c d9').symm, (v745_A m c d9).trans (v745_A m c d9').symm, (v857_A m c d9).trans (v857_A m c d9').symm, (v873_A m c d9).trans (v873_A m c d9').symm, (v950_A m c d9).trans (v950_A m c d9').symm, (v961_A m c d9).trans (v961_A m c d9').symm, (v1037_A m c d9).trans (v1037_A m c d9').symm, (v1048_A m c d9).trans (v1048_A m c d9').symm]
  rw [← hX]
  unfold stepA9 runA
  delta kernelRun0_A
  dsimp only [kernelRun0_A.sl.r_52, kernelRun0_A.sl.r_15, kernelRun0_A.sl.r_65, kernelRun0_A.sl.r_18, kernelRun0_A.sl.r_6, kernelRun0_A.sl.r_25, kernelRun0_A.sl.r_41, kernelRun0_A.sl.r_59, kernelRun0_A.sl.r_66, kernelRun0_A.sl.r_48, kernelRun0_A.sl.r_22, kernelRun0_A.sl.v249, kernelRun0_A.sl.r_62, kernelRun0_A.sl.r_54, kernelRun0_A.sl.r_60, kernelRun0_A.sl.r_46, kernelRun0_A.sl.r_44, kernelRun0_A.sl.r_14, kernelRun0_A.sl.r_43, kernelRun0_A.sl.r_63, kernelRun0_A.sl.r_13, kernelRun0_A.sl.r_12, kernelRun0_A.sl.r_7, kernelRun0_A.sl.r_58, kernelRun0_A.sl.r_10, kernelRun0_A.sl.r_5, kernelRun0_A.sl.r_8, kernelRun0_A.sl.v1028, kernelRun0_A.sl.r_20, kernelRun0_A.sl.r_55, kernelRun0_A.sl.r_51, kernelRun0_A.sl.r_40, kernelRun0_A.sl.r_24, kernelRun0_A.sl.r_57, kernelRun0_A.sl.r_56, kernelRun0_A.sl.r_42, kernelRun0_A.sl.r_23, kernelRun0_A.sl.v348, kernelRun0_A.sl.v346, kernelRun0_A.sl.r_67, kernelRun0_A.sl.v344, kernelRun0_A.sl.v1029, kernelRun0_A.sl.r_71, kernelRun0_A.sl.HS4_5, kernelRun0_A.sl.r_53, kernelRun0_A.sl.v1054, kernelRun0_A.sl.r_70, kernelRun0_A.sl.r_72, kernelRun0_A.sl.r_9, kernelRun0_A.sl.r_21, kernelRun0_A.sl.r_64, kernelRun0_A.sl.r_69, kernelRun0_A.sl.r_38, kernelRun0_A.sl.v247, kernelRun0_A.sl.r_50, kernelRun0_A.sl.r_16, kernelRun0_A.sl.r_2, kernelRun0_A.sl.r_19, kernelRun0_A.sl.r_61, kernelRun0_A.sl.r_39, kernelRun0_A.sl.r_17, kernelRun0_A.sl.r_45, kernelRun0_A.sl.r_68, kernelRun0_A.sl.v1055, kernelRun0_A.sl.r_11, kernelRun0_A.sl.r_49, kernelRun0_A.sl.r_47, kernelRun0_A.sl.r, kernelRun0_A.sl.r_1]

/-- What the first point leaves. -/
def stepA (c : Dev nD) (t : Fin cfg0.N) (h0 : t.val % 65 = 0) (h1 : ¬(1 ≤ t.val % 65 ∧ t.val % 65 ≤ 63)) (h2 : ¬t.val % 65 = 64) : Outs F :=
  stepA9 m c t h0 h1 h2 fun _ => Scalar.ofBits .f32 0#32

end Cert.KernelIdeal.Gen

end
-- ==== Proof.Math.lean ====
/- The arithmetic of extended reals that the comparison of the two attentions needs: root mean squares leave real numbers, a softmax
   in units of the logarithm of 2 is the softmax, and a division of the weighted sum is a division of every weight. -/
module

public import proofs.«01_k».proof.Proof.Spec

@[expose] public section

noncomputable section

open Idealize.ShloMosaic

namespace Layer

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a nonnegative real. -/
theorem sum_mul_coe {ι : Type} (s : Finset ι) (f : ι → EReal) (c : ℝ) (hc : 0 ≤ c) : (∑ i ∈ s, f i) * (c : EReal) = ∑ i ∈ s, f i * c := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

theorem c64_eq : c64 = ((1 / 64 : ℝ) : EReal) := by
  unfold c64; simp [Ideal.ofBits, Ideal.ieee]; norm_cast; norm_num
theorem c512_eq : c512 = ((1 / 512 : ℝ) : EReal) := by
  unfold c512; simp [Ideal.ofBits, Ideal.ieee]; norm_cast; norm_num
theorem c1024_eq : c1024 = ((1 / 1024 : ℝ) : EReal) := by
  unfold c1024; simp [Ideal.ofBits, Ideal.ieee]; norm_cast; norm_num
theorem n64_eq : Ideal.ofBits .f32 0x42800000#32 = ((64 : ℝ) : EReal) := by
  simp [Ideal.ofBits, Ideal.ieee]; norm_cast; norm_num
theorem n512_eq : Ideal.ofBits .f32 0x44000000#32 = ((512 : ℝ) : EReal) := by
  simp [Ideal.ofBits, Ideal.ieee]; norm_cast; norm_num
theorem n1024_eq : Ideal.ofBits .f32 0x44800000#32 = ((1024 : ℝ) : EReal) := by
  simp [Ideal.ofBits, Ideal.ieee]; norm_cast; norm_num
theorem eighth_eq : Ideal.ofBits .f32 0x3E000000#32 = ((1 / 8 : ℝ) : EReal) := by
  simp [Ideal.ofBits, Ideal.ieee]; norm_cast; norm_num
theorem eps_pos : ∃ r : ℝ, 0 < r ∧ eps = r := by
  refine ⟨_, ?_, by unfold eps; simp [Ideal.ofBits, Ideal.ieee]; norm_cast⟩
  positivity

/-- Dividing by the length is multiplying by its reciprocal. -/
theorem div64 (x : EReal) : Ideal.div x (Ideal.ofBits .f32 0x42800000#32) = x * c64 := by
  rw [n64_eq, c64_eq, Ideal.div_coe (by norm_num)]
theorem div512 (x : EReal) : Ideal.div x (Ideal.ofBits .f32 0x44000000#32) = x * c512 := by
  rw [n512_eq, c512_eq, Ideal.div_coe (by norm_num)]
theorem div1024 (x : EReal) : Ideal.div x (Ideal.ofBits .f32 0x44800000#32) = x * c1024 := by
  rw [n1024_eq, c1024_eq, Ideal.div_coe (by norm_num)]

theorem mul_self_nonneg (x : EReal) : 0 ≤ x * x := by
  induction x with
  | bot => simp
  | top => simp
  | coe r => exact_mod_cast _root_.mul_self_nonneg r

/-- An entry of a row over the root of the row's mean square is a real number, whatever the row holds. -/
theorem unit_real {n : ℕ} (f : Fin n → EReal) (l : Fin n) (c : ℝ) (hc : 0 < c) :
    ∃ r : ℝ, f l * Ideal.rsqrt ((∑ e : Fin n, f e * f e) * c + eps) = r := by
  obtain ⟨ε, hε, he⟩ := eps_pos
  rw [he]
  by_cases hf : ∀ e, ∃ r : ℝ, f e = r
  · choose g hg using hf
    have hs : (∑ e : Fin n, f e * f e) * c + ε = (((∑ e : Fin n, g e * g e) * c + ε : ℝ) : EReal) := by
      simp only [hg, ← EReal.coe_mul, ← coe_sum, ← EReal.coe_add]
    have hp : 0 < (∑ e : Fin n, g e * g e) * c + ε := by
      have : 0 ≤ ∑ e : Fin n, g e * g e := Finset.sum_nonneg fun e _ => _root_.mul_self_nonneg _
      positivity
    rw [hs, Ideal.rsqrt_coe, if_neg hp.not_gt, if_neg hp.ne', hg]
    exact ⟨_, (EReal.coe_mul _ _).symm⟩
  · obtain ⟨e, hne⟩ := not_forall.1 hf
    have ht : f e * f e = ⊤ := by
      generalize f e = y at hne
      induction y with
      | bot => simp
      | top => simp
      | coe r => exact absurd ⟨r, rfl⟩ hne
    have hs : ∑ e : Fin n, f e * f e = ⊤ :=
      top_le_iff.1 (ht ▸ Finset.single_le_sum (f := fun e => f e * f e) (fun i _ => mul_self_nonneg _) (Finset.mem_univ e))
    rw [hs, EReal.top_mul_coe_of_pos hc, EReal.top_add_coe, Ideal.rsqrt_top, mul_zero]
    exact ⟨0, rfl⟩

theorem log2e_pos : (0 : ℝ) < (Real.log 2)⁻¹ := inv_pos.2 (Real.log_pos (by norm_num))

/-- A weight in units of the logarithm of 2. -/
theorem weight_eq (y : EReal) (hy : y ≠ ⊤) (m : ℝ) : Ideal.exp2 (log2e * y - log2e * m) = Ideal.exp (y - m) := by
  unfold log2e
  induction y with
  | bot => rw [EReal.coe_mul_bot_of_pos log2e_pos, EReal.bot_sub, EReal.bot_sub]; rfl
  | top => exact absurd rfl hy
  | coe r =>
    rw [← EReal.coe_mul, ← EReal.coe_mul, ← EReal.coe_sub, ← EReal.coe_sub, Ideal.exp2_coe, Ideal.exp_coe]
    congr 1
    rw [Real.rpow_eq_pow, Real.rpow_def_of_pos (by norm_num), ← mul_sub, ← mul_assoc, mul_inv_cancel₀ (Real.log_pos (by norm_num)).ne', one_mul]

theorem log2e_max (a b : EReal) : log2e * max a b = max (log2e * a) (log2e * b) :=
  Monotone.map_max (f := fun x => log2e * x) fun _ _ h => mul_le_mul_of_nonneg_left h (EReal.coe_nonneg.2 log2e_pos.le)

theorem log2e_fold {ι : Type} (s : Finset ι) (f : ι → EReal) :
    s.fold max ⊥ (fun j => log2e * f j) = log2e * s.fold max ⊥ f := by
  have h := Finset.fold_hom (s := s) (f := f) (b := (⊥ : EReal)) (op := max) (op' := max) (m := fun x => log2e * x) (fun a b => log2e_max a b)
  rwa [show log2e * ⊥ = ⊥ from EReal.coe_mul_bot_of_pos log2e_pos] at h

/-- A weight is a nonnegative real, and positive when its score is real. -/
theorem weight_real (y : EReal) (hy : y ≠ ⊤) (m : ℝ) : ∃ r : ℝ, 0 ≤ r ∧ (y ≠ ⊥ → 0 < r) ∧ Ideal.exp (y - m) = r := by
  induction y with
  | bot => exact ⟨0, le_rfl, fun h => absurd rfl h, by rw [EReal.bot_sub]; rfl⟩
  | top => exact absurd rfl hy
  | coe r => exact ⟨Real.exp (r - m), (Real.exp_pos _).le, fun _ => Real.exp_pos _, by rw [← EReal.coe_sub, Ideal.exp_coe]⟩

/-- The largest of scores and sink is real, when one score is and none is infinitely large. -/
theorem largest_real {ι : Type} [Fintype ι] (s : ι → EReal) (k : EReal) (hs : ∀ j, s j ≠ ⊤) (hk : k ≠ ⊤) (j0 : ι) (hj : s j0 ≠ ⊥) :
    ∃ m : ℝ, max (Finset.univ.fold max ⊥ s) k = m := by
  have h1 : max (Finset.univ.fold max ⊥ s) k < ⊤ :=
    max_lt ((Finset.fold_max_lt _).2 ⟨bot_lt_top, fun j _ => lt_top_iff_ne_top.2 (hs j)⟩) (lt_top_iff_ne_top.2 hk)
  have h2 : ⊥ < max (Finset.univ.fold max ⊥ s) k :=
    (bot_lt_iff_ne_bot.2 hj).trans_le (le_max_of_le_left ((Finset.le_fold_max _).2 (Or.inr ⟨j0, Finset.mem_univ _, le_rfl⟩)))
  exact ⟨_, (EReal.coe_toReal h1.ne h2.ne').symm⟩

/-- The sum of the weights is then not zero. -/
theorem total_ne {ι : Type} [Fintype ι] (s : ι → EReal) (k : EReal) (hs : ∀ j, s j ≠ ⊤) (hk : k ≠ ⊤) (j0 : ι) (hj : s j0 ≠ ⊥) :
    (∑ j, Ideal.exp (s j - max (Finset.univ.fold max ⊥ s) k)) + Ideal.exp (k - max (Finset.univ.fold max ⊥ s) k) ≠ 0 := by
  obtain ⟨m, hm⟩ := largest_real s k hs hk j0 hj
  rw [hm]
  choose w hw using fun j => weight_real (s j) (hs j) m
  obtain ⟨q, hq, -, hq'⟩ := weight_real k hk m
  simp only [fun j => (hw j).2.2, hq', ← coe_sum, ← EReal.coe_add]
  exact EReal.coe_ne_zero.2 (add_pos_of_pos_of_nonneg (Finset.sum_pos' (fun j _ => (hw j).1) ⟨j0, Finset.mem_univ _, (hw j0).2.1 hj⟩) hq).ne'

/-- The attention of one head at one row: scores and sink in units of the logarithm of 2 and one division of the weighted sum, against
    the softmax of the scores and the sink. -/
theorem attention {ι : Type} [Fintype ι] (s v : ι → EReal) (k : EReal) (hs : ∀ j, s j ≠ ⊤) (hk : k ≠ ⊤) (j0 : ι) (hj : s j0 ≠ ⊥) :
    Ideal.div (∑ j, Ideal.exp2 (log2e * s j - max (Finset.univ.fold max ⊥ fun j => log2e * s j) (k * log2e)) * v j)
        ((∑ j, Ideal.exp2 (log2e * s j - max (Finset.univ.fold max ⊥ fun j => log2e * s j) (k * log2e)))
          + Ideal.exp2 (k * log2e - max (Finset.univ.fold max ⊥ fun j => log2e * s j) (k * log2e)))
      = ∑ j, Ideal.div (Ideal.exp (s j - max (Finset.univ.fold max ⊥ s) k))
          ((∑ j, Ideal.exp (s j - max (Finset.univ.fold max ⊥ s) k)) + Ideal.exp (k - max (Finset.univ.fold max ⊥ s) k)) * v j := by
  obtain ⟨m, hm⟩ := largest_real s k hs hk j0 hj
  rw [log2e_fold, mul_comm k log2e, ← log2e_max, hm]
  simp only [weight_eq _ (hs _), weight_eq _ hk]
  choose w hw using fun j => weight_real (s j) (hs j) m
  obtain ⟨q, hq, -, hq'⟩ := weight_real k hk m
  simp only [fun j => (hw j).2.2, hq', ← coe_sum, ← EReal.coe_add]
  have hS : 0 < ∑ j, w j + q :=
    add_pos_of_pos_of_nonneg (Finset.sum_pos' (fun j _ => (hw j).1) ⟨j0, Finset.mem_univ _, (hw j0).2.1 hj⟩) hq
  rw [Ideal.div_coe hS.ne', sum_mul_coe _ _ _ (by positivity)]
  refine Finset.sum_congr rfl fun j _ => ?_
  rw [Ideal.div_coe hS.ne', mul_right_comm]

/-- The 256 rows of a block and the block before it, of which a query row `i` of the block sees 128: lane `j` of 128 is row `j` of the block
    before, or of the block itself. -/
def lane (i j : ℕ) : ℕ := if i < j then j else 128 + j

theorem sum_window (i : Fin 128) (f : ℕ → EReal) (h : ∀ w, ¬((i : ℕ) < w ∧ w ≤ i + 128) → f w = 0) :
    ∑ w : Fin 256, f w = ∑ j : Fin 128, f (lane i j) := by
  rw [Fin.sum_univ_two_halves 128 128 rfl, ← Finset.sum_add_distrib]
  refine Finset.sum_congr rfl fun j _ => ?_
  unfold lane
  split_ifs with hj
  · rw [h (128 + (j : ℕ)) (by omega), add_zero]
  · rw [h j (by omega), zero_add]

theorem fold_window (i : Fin 128) (f : ℕ → EReal) (h : ∀ w, w < 256 → ¬((i : ℕ) < w ∧ w ≤ i + 128) → f w = ⊥) :
    (Finset.univ.fold max ⊥ fun w : Fin 257 => f w) = max (Finset.univ.fold max ⊥ fun j : Fin 128 => f (lane i j)) (f 256) := by
  refine le_antisymm ?_ (max_le ?_ ?_)
  · refine (Finset.fold_max_le _).2 ⟨bot_le, fun w _ => ?_⟩
    by_cases hw : (w : ℕ) = 256
    · rw [hw]; exact le_max_right _ _
    by_cases hv : (i : ℕ) < w ∧ (w : ℕ) ≤ i + 128
    · refine le_max_of_le_left ((Finset.le_fold_max _).2 (Or.inr ⟨⟨w % 128, Nat.mod_lt _ (by norm_num)⟩, Finset.mem_univ _, le_of_eq ?_⟩))
      congr 1
      unfold lane
      have := w.isLt
      split_ifs <;> dsimp only at * <;> omega
    · rw [h w (by omega) hv]; exact bot_le
  · refine (Finset.fold_max_le _).2 ⟨bot_le, fun j _ => ?_⟩
    have hl : lane i j < 257 := by unfold lane; split_ifs <;> omega
    exact (Finset.le_fold_max _).2 (Or.inr ⟨⟨lane i j, hl⟩, Finset.mem_univ _, le_rfl⟩)
  · exact (Finset.le_fold_max _).2 (Or.inr ⟨⟨256, by norm_num⟩, Finset.mem_univ _, le_rfl⟩)

namespace Par

variable (P : Par)

/-- The normed query, not scaled. -/
def qr (R c : ℕ) : EReal :=
  P.z R c * Ideal.rsqrt ((∑ e : Fin 64, P.z R (64 * (c / 64) + e) * P.z R (64 * (c / 64) + e)) * c64 + eps) * P.gq (c % 64)
/-- The score of head `hd` at lane `j`. -/
def sr (R hd j : ℕ) : EReal :=
  if hidden R j then ⊥ else
    (∑ e : Fin 64, P.kn (key R j) (64 * (hd / 4) + e) * P.qr R (64 * hd + e)) * Ideal.ofBits .f32 0x3E000000#32
/-- The largest score, the sink's included. -/
def mr (R hd : ℕ) : EReal := max (Finset.univ.fold max ⊥ fun j : Fin 128 => P.sr R hd j) (P.sinks hd)

/-- The gains of the queries and the keys are real, and no sink is infinitely large. -/
structure Fine (P : Par) : Prop where
  gq : ∀ e, ∃ r : ℝ, P.gq e = r
  gk : ∀ e, ∃ r : ℝ, P.gk e = r
  sinks : ∀ hd, P.sinks hd ≠ ⊤

variable {P}

theorem Fine.unit (f : ℕ → EReal) (o c : ℕ) :
    ∃ r : ℝ, f (o + c) * Ideal.rsqrt ((∑ e : Fin 64, f (o + (64 * (c / 64) + e)) * f (o + (64 * (c / 64) + e))) * c64 + eps) = r := by
  obtain ⟨r, hr⟩ := unit_real (fun e : Fin 64 => f (o + (64 * (c / 64) + e))) ⟨c % 64, Nat.mod_lt _ (by norm_num)⟩ (1 / 64) (by norm_num)
  refine ⟨r, ?_⟩
  rw [c64_eq, ← hr]
  dsimp only
  rw [Nat.div_add_mod]

theorem Fine.kn (h : P.Fine) (R c : ℕ) : ∃ r : ℝ, P.kn R c = r := by
  obtain ⟨a, ha⟩ := Fine.unit (P.z R) 512 c
  obtain ⟨g, hg⟩ := h.gk (c % 64)
  exact ⟨a * g, by rw [Par.kn, ha, hg, EReal.coe_mul]⟩

theorem Fine.qn (h : P.Fine) (R c : ℕ) : ∃ r : ℝ, P.qr R c = r ∧ P.qn R c = ((r * (Real.log 256)⁻¹ : ℝ) : EReal) := by
  obtain ⟨a, ha⟩ := Fine.unit (P.z R) 0 c
  obtain ⟨g, hg⟩ := h.gq (c % 64)
  simp only [zero_add] at ha
  refine ⟨a * g, by rw [Par.qr, ha, hg, EReal.coe_mul], ?_⟩
  rw [Par.qn, ha, hg, qscale, EReal.coe_mul, EReal.coe_mul, mul_assoc]

theorem Fine.sr_real (h : P.Fine) (R hd j : ℕ) (hj : ¬hidden R j) : ∃ r : ℝ, P.sr R hd j = r ∧ P.s R hd j = log2e * r := by
  choose k hk using h.kn
  choose q hq using h.qn
  refine ⟨(∑ e : Fin 64, k (key R j) (64 * (hd / 4) + e) * q R (64 * hd + e)) * (1 / 8), ?_, ?_⟩
  · rw [sr, if_neg hj, eighth_eq]
    simp only [hk, fun R c => (hq R c).1, ← EReal.coe_mul, ← coe_sum]
  · rw [s, if_neg hj, log2e]
    simp only [hk, fun R c => (hq R c).2, ← EReal.coe_mul, ← coe_sum]
    congr 1
    rw [show (256 : ℝ) = 2 ^ 8 by norm_num, Real.log_pow, mul_inv, Finset.sum_mul, Finset.mul_sum]
    refine Finset.sum_congr rfl fun e _ => ?_
    push_cast
    ring

theorem Fine.s_eq (h : P.Fine) (R hd j : ℕ) : P.s R hd j = log2e * P.sr R hd j := by
  by_cases hj : hidden R j
  · rw [s, sr, if_pos hj, if_pos hj, log2e, EReal.coe_mul_bot_of_pos log2e_pos]
  · obtain ⟨r, hr, hs⟩ := h.sr_real R hd j hj
    rw [hs, hr]

theorem Fine.sr_top (h : P.Fine) (R hd j : ℕ) : P.sr R hd j ≠ ⊤ := by
  by_cases hj : hidden R j
  · rw [sr, if_pos hj]; exact bot_ne_top
  · obtain ⟨r, hr, -⟩ := h.sr_real R hd j hj
    rw [hr]; exact EReal.coe_ne_top r

theorem Fine.sr_diag (h : P.Fine) (R hd : ℕ) : P.sr R hd (R % 128) ≠ ⊥ := by
  obtain ⟨r, hr, -⟩ := h.sr_real R hd _ fun h => lt_irrefl _ h.2
  rw [hr]; exact EReal.coe_ne_bot r

theorem Fine.total_ne (h : P.Fine) (R hd : ℕ) :
    (∑ j : Fin 128, Ideal.exp (P.sr R hd j - P.mr R hd)) + Ideal.exp (P.sinks hd - P.mr R hd) ≠ 0 :=
  Layer.total_ne (fun j : Fin 128 => P.sr R hd j) _ (fun j => h.sr_top R hd j) (h.sinks _) ⟨R % 128, Nat.mod_lt _ (by norm_num)⟩ (h.sr_diag R hd)

/-- The attention's output is the softmax's. -/
theorem Fine.o_eq (h : P.Fine) (R c : ℕ) : P.o R c =
    ∑ j : Fin 128, Ideal.div (Ideal.exp (P.sr R (c / 64) j - P.mr R (c / 64)))
      ((∑ j : Fin 128, Ideal.exp (P.sr R (c / 64) j - P.mr R (c / 64))) + Ideal.exp (P.sinks (c / 64) - P.mr R (c / 64)))
        * P.v (key R j) (64 * (c / 64 / 4) + c % 64) := by
  unfold o p mx sk mr
  simp only [h.s_eq]
  exact attention (fun j : Fin 128 => P.sr R (c / 64) j) (fun j : Fin 128 => P.v (key R j) (64 * (c / 64 / 4) + c % 64)) _ (fun j => h.sr_top _ _ j)
    (h.sinks _) ⟨R % 128, Nat.mod_lt _ (by norm_num)⟩ (h.sr_diag _ _)

end Par

end Layer

end
-- ==== Proof.Params.lean ====
/- The layer's rows and parameters (Spec.lean) out of the arrays of the two programs: batch and position are one row number, and an
   array is read at its coordinates modulo their sizes. -/
module

public import proofs.«01_k».proof.Proof.Math

@[expose] public section

noncomputable section

open Idealize.ShloMosaic

namespace Layer

/-- The arrays of the launch, in the order of the arguments. -/
structure Arrays where
  x : (⟨3, ![4, 8192, 1024]⟩ : Shape).Idx → EReal
  g1 : (⟨2, ![1, 1024]⟩ : Shape).Idx → EReal
  win : (⟨3, ![1, 1024, 2304]⟩ : Shape).Idx → EReal
  gq : (⟨2, ![1, 64]⟩ : Shape).Idx → EReal
  gk : (⟨2, ![1, 64]⟩ : Shape).Idx → EReal
  sinks : (⟨2, ![1, 8]⟩ : Shape).Idx → EReal
  cw : (⟨3, ![1, 3, 512]⟩ : Shape).Idx → EReal
  ga : (⟨2, ![1, 512]⟩ : Shape).Idx → EReal
  gc : (⟨2, ![1, 512]⟩ : Shape).Idx → EReal
  wo : (⟨3, ![1, 1024, 1024]⟩ : Shape).Idx → EReal
  g2 : (⟨2, ![1, 1024]⟩ : Shape).Idx → EReal
  wu : (⟨3, ![1, 1024, 4096]⟩ : Shape).Idx → EReal
  wd : (⟨3, ![1, 4096, 1024]⟩ : Shape).Idx → EReal

namespace Arrays

variable (A : Arrays)

/-- The rows and parameters that the arrays hold. -/
def par : Par where
  x R c := A.x (ix3 (Fin.ofNat 4 (R / 8192)) (Fin.ofNat 8192 R) (Fin.ofNat 1024 c))
  g1 c := A.g1 (ix2 0 (Fin.ofNat 1024 c))
  win r c := A.win (ix3 0 (Fin.ofNat 1024 r) (Fin.ofNat 2304 c))
  gq c := A.gq (ix2 0 (Fin.ofNat 64 c))
  gk c := A.gk (ix2 0 (Fin.ofNat 64 c))
  sinks c := A.sinks (ix2 0 (Fin.ofNat 8 c))
  cw r c := A.cw (ix3 0 (Fin.ofNat 3 r) (Fin.ofNat 512 c))
  ga c := A.ga (ix2 0 (Fin.ofNat 512 c))
  gc c := A.gc (ix2 0 (Fin.ofNat 512 c))
  wo r c := A.wo (ix3 0 (Fin.ofNat 1024 r) (Fin.ofNat 1024 c))
  g2 c := A.g2 (ix2 0 (Fin.ofNat 1024 c))
  wu r c := A.wu (ix3 0 (Fin.ofNat 1024 r) (Fin.ofNat 4096 c))
  wd r c := A.wd (ix3 0 (Fin.ofNat 4096 r) (Fin.ofNat 1024 c))

theorem ofNat_val {n : ℕ} [NeZero n] (k : ℕ) (h : k < n) : Fin.ofNat n k = ⟨k, h⟩ := Fin.ext (Nat.mod_eq_of_lt h)
theorem ofNat_fin {n : ℕ} [NeZero n] (k : Fin n) : Fin.ofNat n k = k := Fin.ext (Nat.mod_eq_of_lt k.isLt)

theorem x_eq (b : Fin 4) (s : Fin 8192) (c : Fin 1024) : A.par.x (8192 * b + s) c = A.x (ix3 b s c) := by
  unfold par; dsimp only
  congr 2 <;> refine Fin.ext ?_ <;> simp only [Fin.ofNat] <;> omega
theorem g1_eq (c : Fin 1024) : A.par.g1 c = A.g1 (ix2 0 c) := by simp only [par, ofNat_fin]
theorem win_eq (r : Fin 1024) (c : ℕ) (h : c < 2304) : A.par.win r c = A.win (ix3 0 r ⟨c, h⟩) := by
  simp only [par, ofNat_fin, ofNat_val _ h]
theorem gq_eq (c : Fin 64) : A.par.gq c = A.gq (ix2 0 c) := by simp only [par, ofNat_fin]
theorem gk_eq (c : Fin 64) : A.par.gk c = A.gk (ix2 0 c) := by simp only [par, ofNat_fin]
theorem sinks_eq (c : ℕ) (h : c < 8) : A.par.sinks c = A.sinks (ix2 0 ⟨c, h⟩) := by simp only [par, ofNat_val _ h]
theorem cw_eq (r : ℕ) (hr : r < 3) (c : Fin 512) : A.par.cw r c = A.cw (ix3 0 ⟨r, hr⟩ c) := by simp only [par, ofNat_fin, ofNat_val _ hr]
theorem ga_eq (c : Fin 512) : A.par.ga c = A.ga (ix2 0 c) := by simp only [par, ofNat_fin]
theorem gc_eq (c : Fin 512) : A.par.gc c = A.gc (ix2 0 c) := by simp only [par, ofNat_fin]
theorem wo_eq (r : ℕ) (h : r < 1024) (c : Fin 1024) : A.par.wo r c = A.wo (ix3 0 ⟨r, h⟩ c) := by simp only [par, ofNat_fin, ofNat_val _ h]
theorem g2_eq (c : Fin 1024) : A.par.g2 c = A.g2 (ix2 0 c) := by simp only [par, ofNat_fin]
theorem wu_eq (r : Fin 1024) (c : ℕ) (h : c < 4096) : A.par.wu r c = A.wu (ix3 0 r ⟨c, h⟩) := by simp only [par, ofNat_fin, ofNat_val _ h]
theorem wd_eq (r : ℕ) (h : r < 4096) (c : Fin 1024) : A.par.wd r c = A.wd (ix3 0 ⟨r, h⟩ c) := by simp only [par, ofNat_fin, ofNat_val _ h]

/-- Gains and sinks as the claim's precondition wants them. -/
theorem fine (hq : ∀ i, ∃ r : ℝ, A.gq i = r) (hk : ∀ i, ∃ r : ℝ, A.gk i = r) (hs : ∀ i, A.sinks i ≠ ⊤) : A.par.Fine :=
  ⟨fun _ => hq _, fun _ => hk _, fun _ => hs _⟩

end Arrays

end Layer

end
-- ==== Proof.Blocks.lean ====
/- What the grid points find in their input blocks and in the arrays the kernel copies itself: the layer's rows and parameters. -/
module

public import proofs.«01_k».proof.Proof.Gen.KernelIdeal.Frame.Runs
public import proofs.«01_k».proof.Proof.Params
public import Idealize.ShloMosaic.Lib.Pipeline.ValueKit

@[expose] public section

set_option maxRecDepth 16384

noncomputable section

open Idealize.ShloMosaic Idealize.ShloMosaic.TcCoe Idealize.SL.Sem

namespace Cert.KernelIdeal.Gen

variable (m : (ℓ : Loc nD τ sig) → Buf (Elt Ideal) ℓ) (c : Dev nD)

/-- The arrays of the launch. -/
def arrays : Layer.Arrays where
  x := m ((c : Thread nD τ).loc main_arg0)
  g1 := m ((c : Thread nD τ).loc main_arg1)
  win := m ((c : Thread nD τ).loc main_arg2)
  gq := m ((c : Thread nD τ).loc main_arg3)
  gk := m ((c : Thread nD τ).loc main_arg4)
  sinks := m ((c : Thread nD τ).loc main_arg5)
  cw := m ((c : Thread nD τ).loc main_arg6)
  ga := m ((c : Thread nD τ).loc main_arg7)
  gc := m ((c : Thread nD τ).loc main_arg8)
  wo := m ((c : Thread nD τ).loc main_arg9)
  g2 := m ((c : Thread nD τ).loc main_arg10)
  wu := m ((c : Thread nD τ).loc main_arg11)
  wd := m ((c : Thread nD τ).loc main_arg12)

/-- The layer of the launch. -/
def par : Layer.Par := (arrays m c).par

theorem idx0 : ∀ t : Fin cfg0.N, win0_0.index t = ![0] := (by decide +kernel : ∀ t : Fin grid0.N, _)
theorem idx1 : ∀ t : Fin cfg0.N, win0_1.index t = ![min t.val 63, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val - 1, 0] := (by decide +kernel : ∀ t : Fin grid0.N, _)

variable (t : Fin cfg0.N)

theorem sinks_blk (i : Fin 8) : (iblk m c 0 t (ix1 i) : EReal) = (par m c).sinks i := by
  refine Eq.trans ?_ ((arrays m c).sinks_eq i i.isLt).symm
  unfold arrays
  blk_simp [iblk, idx0 t]
  entry_read
  pointwise
  blk_ext [idx0 t]

theorem x_blk (ht : t.val < 64) (r : Fin 512) (l : Fin 1024) : (iblk m c 1 t (ix2 r l) : EReal) = (par m c).x (512 * t.val + r) l := by
  have e := (arrays m c).x_eq ⟨(512 * t.val + r) / 8192, by omega⟩ ⟨(512 * t.val + r) % 8192, by omega⟩ l
  simp only [Nat.div_add_mod] at e
  refine Eq.trans ?_ e.symm
  unfold arrays
  have hm : min t.val 63 = t.val := by omega
  blk_simp [iblk, idx1 t]
  entry_read
  pointwise
  blk_ext [idx1 t]

theorem g1_blk (l : Fin 1024) : (iblk m c 2 t (ix2 0 l) : EReal) = (par m c).g1 l := by
  refine Eq.trans ?_ ((arrays m c).g1_eq l).symm
  unfold arrays
  blk_point [iblk, V, idx2 t]
theorem gq_blk (l : Fin 64) : (iblk m c 3 t (ix2 0 l) : EReal) = (par m c).gq l := by
  refine Eq.trans ?_ ((arrays m c).gq_eq l).symm
  unfold arrays
  blk_point [iblk, V, idx3 t]
theorem gk_blk (l : Fin 64) : (iblk m c 4 t (ix2 0 l) : EReal) = (par m c).gk l := by
  refine Eq.trans ?_ ((arrays m c).gk_eq l).symm
  unfold arrays
  blk_point [iblk, V, idx4 t]
theorem cw_blk (k : Fin 3) (l : Fin 512) : (iblk m c 5 t (ix3 0 k l) : EReal) = (par m c).cw k l := by
  refine Eq.trans ?_ ((arrays m c).cw_eq k k.isLt l).symm
  unfold arrays
  blk_point [iblk, V, idx5 t]
theorem gc_blk (l : Fin 512) : (iblk m c 6 t (ix2 0 l) : EReal) = (par m c).gc l := by
  refine Eq.trans ?_ ((arrays m c).gc_eq l).symm
  unfold arrays
  blk_point [iblk, V, idx6 t]
theorem ga_blk (l : Fin 512) : (iblk m c 7 t (ix2 0 l) : EReal) = (par m c).ga l := by
  refine Eq.trans ?_ ((arrays m c).ga_eq l).symm
  unfold arrays
  blk_point [iblk, V, idx7 t]
theorem g2_blk (l : Fin 1024) : (iblk m c 8 t (ix2 0 l) : EReal) = (par m c).g2 l := by
  refine Eq.trans ?_ ((arrays m c).g2_eq l).symm
  unfold arrays
  blk_point [iblk, V, idx8 t]

theorem win_arr (r : Fin 1024) (l : Fin 2304) : (V m c main_v2 (ix2 r l) : EReal) = (par m c).win r l := by
  refine Eq.trans ?_ ((arrays m c).win_eq r l l.isLt).symm
  unfold arrays
  entry_read
  pointwise
theorem wo_arr (r : Fin 1024) (l : Fin 1024) : (V m c main_v3 (ix2 r l) : EReal) = (par m c).wo r l := by
  refine Eq.trans ?_ ((arrays m c).wo_eq r r.isLt l).symm
  unfold arrays
  entry_read
  pointwise
theorem wu_arr (r : Fin 1024) (l : Fin 4096) : (V m c main_v4 (ix2 r l) : EReal) = (par m c).wu r l := by
  refine Eq.trans ?_ ((arrays m c).wu_eq r l l.isLt).symm
  unfold arrays
  entry_read
  pointwise
theorem wd_arr (r : Fin 4096) (l : Fin 1024) : (V m c main_v5 (ix2 r l) : EReal) = (par m c).wd r l := by
  refine Eq.trans ?_ ((arrays m c).wd_eq r r.isLt l).symm
  unfold arrays
  entry_read
  pointwise

end Cert.KernelIdeal.Gen

end
-- ==== Proof.WeightsA.lean ====
/- The four matrices after the first point: each is stored piece by piece as its copies arrive, and the pieces together are the matrix
   that lies in the main memory. -/
module

public import proofs.«01_k».proof.Proof.Slots
public import proofs.«01_k».proof.Proof.Blocks
public import proofs.«01_k».proof.Proof.Load
public import Idealize.ShloMosaic.Lib.Claim
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.KernelIdeal.Gen

open Cert.KernelIdeal.Tile

/-- A piece that holds a function's values where it lies. -/
theorem tile_of {M N m n a b : ℕ} (inb : ∀ i, (![a, b] : Fin 2 → ℕ) i + (![m, n] : Fin 2 → ℕ) i ≤ (![M, N] : Fin 2 → ℕ) i)
    (w : (⟨2, ![m, n]⟩ : Shape).Idx → EReal) (f : (⟨2, ![M, N]⟩ : Shape).Idx → EReal)
    (h : ∀ x, w x = f ((Rect.unit (s := ⟨2, ![M, N]⟩) ![a, b] ![m, n] inb).emb x)) (y : (⟨2, ![M, N]⟩ : Shape).Idx) :
    View.TileAt (S := ⟨2, ![M, N]⟩) (Val := Elt Ideal) (e := .bf16) y ![a, b] ![m, n] w (f y) := fun x hx =>
  (h x).trans (congrArg f (funext fun i => Fin.ext (by
    rw [Rect.emb_apply]
    have := hx i
    show (![a, b] : Fin 2 → ℕ) i + 1 * (x i : ℕ) = _
    omega)))

/-- A stored piece is the piece that its copy brought. -/
theorem piece_at (X : S512x1024.Idx → EReal) (h : S512x1024.ShapeCasts S1x512x1024) (x : S512x1024.Idx) :
    k0_pay9 (F := Ideal) (shapeCast S1x512x1024 X h) x = X x := by
  unfold k0_pay9
  rw [shapeCast_self]
  show shapeCast S512x1024 (shapeCast S1x512x1024 X h) _ x = X x
  rw [shapeCast_shapeCast]

theorem piece_at' (X : S512x256.Idx → EReal) (h : S512x256.ShapeCasts S1x512x256) (x : S512x256.Idx) :
    k0_pay12 (F := Ideal) (shapeCast S1x512x256 X h) x = X x := by
  unfold k0_pay12
  rw [shapeCast_self]
  show shapeCast S512x256 (shapeCast S1x512x256 X h) _ x = X x
  rw [shapeCast_shapeCast]

variable (m : (ℓ : Loc nD τ sig) → Buf (Elt Ideal) ℓ) (c : Dev nD) (d9 : Vec Ideal S4x512x1024 .f32)

theorem win_canon (y : S1024x2304.Idx) :
    View.canon (kernelRun0_A.sl.HS5_6 (F := Ideal) c scM0_9 (Memref.isWhole_whole _) d9 (V m c main_v2) (V m c main_v3)) y = V m c main_v2 y := by
  dsimp only [kernelRun0_A.sl.HS5_6, kernelRun0_A.sl.r]
  rw [v119_A m c d9, v108_A m c d9, v92_A m c d9, v76_A m c d9, v60_A m c d9, v44_A m c d9]
  refine View.canon_eq_of_allAt _ _ _ (View.cover_of_tiledBy _ ![512, 256] (by sl_kernel_rfl) y) ?_
  refine View.allAt_cons_unit _ _ _ _ _ (tile_of _ _ (V m c main_v2) (fun x => piece_at' _ _ x) y) ?_
  refine View.allAt_cons_unit _ _ _ _ _ (tile_of _ _ (V m c main_v2) (fun x => piece_at _ _ x) y) ?_
  refine View.allAt_cons_unit _ _ _ _ _ (tile_of _ _ (V m c main_v2) (fun x => piece_at _ _ x) y) ?_
  refine View.allAt_cons_unit _ _ _ _ _ (tile_of _ _ (V m c main_v2) (fun x => piece_at' _ _ x) y) ?_
  refine View.allAt_cons_unit _ _ _ _ _ (tile_of _ _ (V m c main_v2) (fun x => piece_at _ _ x) y) ?_
  exact View.allAt_cons_unit _ _ _ _ _ (tile_of _ _ (V m c main_v2) (fun x => piece_at _ _ x) y) (View.allAt_nil _ _)

theorem wo_canon (y : S1024x1024.Idx) :
    View.canon (kernelRun0_A.sl.HS6_2 (F := Ideal) c scM0_9 (Memref.isWhole_whole _) d9 (V m c main_v2) (V m c main_v3)) y = V m c main_v3 y := by
  dsimp only [kernelRun0_A.sl.HS6_2, kernelRun0_A.sl.r_1]
  rw [v141_A m c d9, v130_A m c d9]
  refine View.canon_eq_of_allAt _ _ _ (View.cover_of_tiledBy _ ![512, 1024] (by sl_kernel_rfl) y) ?_
  refine View.allAt_cons_unit _ _ _ _ _ (tile_of _ _ (V m c main_v3) (fun x => piece_at _ _ x) y) ?_
  exact View.allAt_cons_unit _ _ _ _ _ (tile_of _ _ (V m c main_v3) (fun x => piece_at _ _ x) y) (View.allAt_nil _ _)

end Cert.KernelIdeal.Gen

end
-- ==== Proof.IRunB.lean ====
/- The body of the kernel over the extended reals run at the points in the middle of the grid: what its stores leave. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
set_option maxHeartbeats 20000000 in
/-- What the stores of the body leave in each buffer at the points in the middle of the grid, with the proof that the body run on these buffers leaves it. -/
noncomputable def kernelRun0_B (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S128x512 .bf16) (harg17 : arg17.IsWhole) (arg18 : Memref sig .tc .vmem S8x512 .f32) (harg18 : arg18.IsWhole) (arg19 : Memref sig .tc .vmem S512x1024 .bf16) (harg19 : arg19.IsWhole) (arg20 : Memref sig .tc .vmem S1024x2304 .bf16) (harg20 : arg20.IsWhole) (arg21 : Memref sig .tc .vmem S1024x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S4x512x1024 .f32) (harg24 : arg24.IsWhole) (hc0 : ¬cond0_0 i) (hc1 : cond0_1 i) (hc2 : ¬cond0_2 i)
    (x0 : Vec F S8 .f32) (x1 : Vec F S512x1024 .f32) (x2 : Vec F S1x1024 .f32) (x3 : Vec F S1x64 .f32) (x4 : Vec F S1x64 .f32) (x5 : Vec F S1x3x512 .f32) (x6 : Vec F S1x512 .f32) (x7 : Vec F S1x512 .f32) (x8 : Vec F S1x1024 .f32) (xs0 : Vec F S512x1024 .f32) (xs1 : Vec F S512x1024 .bf16) (xs2 : Vec F S128x512 .bf16) (xs3 : Vec F S8x512 .f32) (xs5 : Vec F S1024x2304 .bf16) (xs6 : Vec F S1024x1024 .bf16) (xs7 : Vec F S1024x4096 .bf16) (xs8 : Vec F S4096x1024 .bf16) (fh0 : HbBuf0 (F := F) c hbM0_0) (fh1 : HbBuf0 (F := F) c hbM0_1) (fh2 : HbBuf0 (F := F) c hbM0_2) (fh3 : HbBuf0 (F := F) c hbM0_3) :
    Σ' (L9 : List (View.Piece (Elt F) S512x1024 .f32)), Σ' (LS0 : List (View.Piece (Elt F) S512x1024 .f32)), Σ' (LS1 : List (View.Piece (Elt F) S512x1024 .bf16)), Σ' (LS2 : List (View.Piece (Elt F) S128x512 .bf16)), Σ' (LS3 : List (View.Piece (Elt F) S8x512 .f32)), Σ' (LS5 : List (View.Piece (Elt F) S1024x2304 .bf16)), Σ' (LS6 : List (View.Piece (Elt F) S1024x1024 .bf16)), Σ' (LS7 : List (View.Piece (Elt F) S1024x4096 .bf16)), Σ' (LS8 : List (View.Piece (Elt F) S4096x1024 .bf16)), { LT4 : List (View.Piece (Elt F) S512x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3 ∗ (∃ d, owns (c : Thread nD τ) arg19 fullShare d) ∗ owns (c : Thread nD τ) arg20 fullShare xs5 ∗ owns (c : Thread nD τ) arg21 fullShare xs6 ∗ owns (c : Thread nD τ) arg22 fullShare xs7 ∗ owns (c : Thread nD τ) arg23 fullShare xs8 ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ f, arg19.view.loc (c : Thread nD τ) ↦[arg19.view.set]{fullShare} arg19.view.writes (Elt F) f LT4) ∗ owns (c : Thread nD τ) arg20 fullShare xs5 ∗ owns (c : Thread nD τ) arg21 fullShare xs6 ∗ owns (c : Thread nD τ) arg22 fullShare xs7 ∗ owns (c : Thread nD τ) arg23 fullShare xs8 ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_layer i arg1 harg1 arg2 harg2 arg3 harg3 arg4 harg4 arg5 harg5 arg6 harg6 arg7 harg7 arg8 harg8 arg9 harg9 (Memref.whole main_v2) (Memref.isWhole_whole _) (Memref.whole main_v3) (Memref.isWhole_whole _) (Memref.whole main_v4) (Memref.isWhole_whole _) (Memref.whole main_v5) (Memref.isWhole_whole _) arg14 harg14 arg15 harg15 arg16 harg16 arg17 harg17 arg18 harg18 arg19 harg19 arg20 harg20 arg21 harg21 arg22 harg22 arg23 harg23 arg24 harg24 cc0_scratch10) K } := by
  refine ⟨?_, ?_, ?_, ?_, ?_, [], [], [], [], ?_, fun W K => ?run⟩
  case run =>
    simp only [cc0_layer_eq_skeleton]; unfold cc0_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%ds4, %fs4, -, HS4⟩, ⟨%fs5, %hfs5, HS5⟩, ⟨%fs6, %hfs6, HS6⟩, ⟨%fs7, %hfs7, HS7⟩, ⟨%fs8, %hfs8, HS8⟩, ⟨%ds9, %fs9, -, HS9⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hfs0; obtain rfl := harg16.eq_unread hfs1; obtain rfl := harg17.eq_unread hfs2; obtain rfl := harg18.eq_unread hfs3; obtain rfl := harg20.eq_unread hfs5; obtain rfl := harg21.eq_unread hfs6; obtain rfl := harg22.eq_unread hfs7; obtain rfl := harg23.eq_unread hfs8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]
    · iexists _; isplitr; · ipureintro; exact harg20.read_unread _
      iexact HS5
    isplitl [HS6]
    · iexists _; isplitr; · ipureintro; exact harg21.read_unread _
      iexact HS6
    isplitl [HS7]
    · iexists _; isplitr; · ipureintro; exact harg22.read_unread _
      iexact HS7
    isplitl [HS8]
    · iexists _; isplitr; · ipureintro; exact harg23.read_unread _
      iexact HS8
    isplitl [HS9]
    · iexists _, _; isplitr; swap; · iexact HS9
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.IStepB.lean ====
/- The grid of the kernel over the extended reals run point by point: what the buffers hold after each point, and that the arguments are left as they were. -/
module

public import proofs.«01_k».proof.Proof.IOuts
public import proofs.«01_k».proof.Proof.IRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The run at the points in the middle of the grid, on the buffers of point `t`. -/
def runB (c : Dev nD) (t : Fin cfg0.N) (h0 : ¬t.val % 65 = 0) (h1 : (1 ≤ t.val % 65 ∧ t.val % 65 ≤ 63)) (h2 : ¬t.val % 65 = 64) (o : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) o.2.1 o.2.2.1 o.2.2.2.1 o.2.2.2.2.1 o.2.2.2.2.2.1 o.2.2.2.2.2.2.1 o.2.2.2.2.2.2.2.1 o.2.2.2.2.2.2.2.2 (V m c main_v2) (V m c main_v3) (V m c main_v4) (V m c main_v5)

theorem cover0_B_9 (c : Dev nD) (t : Fin cfg0.N) (h0 : ¬t.val % 65 = 0) (h1 : (1 ≤ t.val % 65 ∧ t.val % 65 ≤ 63)) (h2 : ¬t.val % 65 = 64) (o : Outs F) (y : S512x1024.Idx) :
    ∃ pc ∈ (runB m c t h0 h1 h2 o).1, y ∈ pc.1.set :=
  View.cover_of_tiledBy (runB m c t h0 h1 h2 o).1 ![512, 256] (by sl_kernel_rfl) y

theorem scover0_B_0 (c : Dev nD) (t : Fin cfg0.N) (h0 : ¬t.val % 65 = 0) (h1 : (1 ≤ t.val % 65 ∧ t.val % 65 ≤ 63)) (h2 : ¬t.val % 65 = 64) (o : Outs F) (y : S512x1024.Idx) :
    ∃ pc ∈ (runB m c t h0 h1 h2 o).2.1, y ∈ pc.1.set :=
  View.cover_of_tiledL (runB m c t h0 h1 h2 o).2.1 S512x1024.size (by sl_kernel_rfl) y

theorem scover0_B_1 (c : Dev nD) (t : Fin cfg0.N) (h0 : ¬t.val % 65 = 0) (h1 : (1 ≤ t.val % 65 ∧ t.val % 65 ≤ 63)) (h2 : ¬t.val % 65 = 64) (o : Outs F) (y : S512x1024.Idx) :
    ∃ pc ∈ (runB m c t h0 h1 h2 o).2.2.1, y ∈ pc.1.set :=
  View.cover_of_tiledL (runB m c t h0 h1 h2 o).2.2.1 S512x1024.size (by sl_kernel_rfl) y

theorem scover0_B_2 (c : Dev nD) (t : Fin cfg0.N) (h0 : ¬t.val % 65 = 0) (h1 : (1 ≤ t.val % 65 ∧ t.val % 65 ≤ 63)) (h2 : ¬t.val % 65 = 64) (o : Outs F) (y : S128x512.Idx) :
    ∃ pc ∈ (runB m c t h0 h1 h2 o).2.2.2.1, y ∈ pc.1.set :=
  View.cover_of_tiledL (runB m c t h0 h1 h2 o).2.2.2.1 S128x512.size (by sl_kernel_rfl) y

theorem scover0_B_3 (c : Dev nD) (t : Fin cfg0.N) (h0 : ¬t.val % 65 = 0) (h1 : (1 ≤ t.val % 65 ∧ t.val % 65 ≤ 63)) (h2 : ¬t.val % 65 = 64) (o : Outs F) (y : S8x512.Idx) :
    ∃ pc ∈ (runB m c t h0 h1 h2 o).2.2.2.2.1, y ∈ pc.1.set :=
  View.cover_of_tiledL (runB m c t h0 h1 h2 o).2.2.2.2.1 S8x512.size (by sl_kernel_rfl) y

/-- What a middle point leaves over the contents `o` of the buffers. -/
def stepB (c : Dev nD) (t : Fin cfg0.N) (h0 : ¬t.val % 65 = 0) (h1 : (1 ≤ t.val % 65 ∧ t.val % 65 ≤ 63)) (h2 : ¬t.val % 65 = 64) (o : Outs F) : Outs F :=
  (VO0_9.read (Elt F) (VO0_9.writes (Elt F) VO0_9.junk (runB m c t h0 h1 h2 o).1),
    VS0_0.read (Elt F) (VS0_0.writes (Elt F) VS0_0.junk (runB m c t h0 h1 h2 o).2.1),
    VS0_1.read (Elt F) (VS0_1.writes (Elt F) VS0_1.junk (runB m c t h0 h1 h2 o).2.2.1),
    VS0_2.read (Elt F) (VS0_2.writes (Elt F) VS0_2.junk (runB m c t h0 h1 h2 o).2.2.2.1),
    VS0_3.read (Elt F) (VS0_3.writes (Elt F) VS0_3.junk (runB m c t h0 h1 h2 o).2.2.2.2.1),
    o.2.2.2.2.2.1,
    o.2.2.2.2.2.2.1,
    o.2.2.2.2.2.2.2.1,
    o.2.2.2.2.2.2.2.2)

end Cert.KernelIdeal.Gen

end
-- ==== Proof.MixB.lean ====
/- What a middle point makes of its tile: each step of the body as the tile's, then the rows after the mixer and what is carried on. -/
module

public import proofs.«01_k».proof.Proof.InB
public import proofs.«01_k».proof.Proof.IStepB

@[expose] public section

set_option maxRecDepth 16384

noncomputable section

open Idealize.ShloMosaic Idealize.ShloMosaic.TcCoe Idealize.SL.Sem

namespace Cert.KernelIdeal.Gen

open Cert.KernelIdeal.Tile

variable (m : (ℓ : Loc nD τ sig) → Buf (Elt Ideal) ℓ) (c : Dev nD) (t : Fin cfg0.N) (o : Outs Ideal)

theorem zero_select {α : Type} (x y : α) : Scalar.select 0#1 x y = y := rfl

theorem v53_eq : kernelRun0_B.sl.v53 (F := Ideal) c (ms0_1 t) (hs0_1 t) (iblk m c 1 t) = k0_pay133 (F := Ideal) (inB m c t o).x := by
  simp only [kernelRun0_B.sl.v53]
  simp only [k0_pay133, inB, Tile.load, Scalar.ofBits]

theorem v67_eq : kernelRun0_B.sl.v67 (F := Ideal) c (ms0_1 t) (hs0_1 t) (ms0_2 t) (hs0_2 t) (iblk m c 1 t) (iblk m c 2 t) = (inB m c t o).h := by
  simp only [kernelRun0_B.sl.v67, kernelRun0_B.sl.v66, kernelRun0_B.sl.v65, kernelRun0_B.sl.v63, kernelRun0_B.sl.v62, kernelRun0_B.sl.v61, kernelRun0_B.sl.v60, kernelRun0_B.sl.v59, kernelRun0_B.sl.cst_37, kernelRun0_B.sl.v58, kernelRun0_B.sl.v57, kernelRun0_B.sl.cst_36, kernelRun0_B.sl.v56, kernelRun0_B.sl.v55, kernelRun0_B.sl.v54]
  rw [v53_eq m c t o]
  simp only [In.h, k0_pay134, k0_pay133, inB, Tile.load, Scalar.ofBits]

theorem v69_eq : kernelRun0_B.sl.v69 (F := Ideal) c (ms0_1 t) (hs0_1 t) (ms0_2 t) (hs0_2 t) scM0_5 (Memref.isWhole_whole _) (iblk m c 1 t) (iblk m c 2 t) o.2.2.2.2.2.1 = (inB m c t o).zq := by
  simp only [kernelRun0_B.sl.v69, kernelRun0_B.sl.cst_42]
  rw [v67_eq m c t o]
  simp only [In.zq, k0_pay147, inB, Tile.load, Scalar.ofBits]

theorem v71_eq : kernelRun0_B.sl.v71 (F := Ideal) c (ms0_1 t) (hs0_1 t) (ms0_2 t) (hs0_2 t) scM0_5 (Memref.isWhole_whole _) (iblk m c 1 t) (iblk m c 2 t) o.2.2.2.2.2.1 = (inB m c t o).zkv := by
  simp only [kernelRun0_B.sl.v71, kernelRun0_B.sl.cst]
  rw [v67_eq m c t o]
  simp only [In.zkv, In.h, k0_pay136, inB, Tile.load, Scalar.ofBits]

theorem v72_eq : kernelRun0_B.sl.v72 (F := Ideal) c (ms0_1 t) (hs0_1 t) (ms0_2 t) (hs0_2 t) scM0_5 (Memref.isWhole_whole _) (iblk m c 1 t) (iblk m c 2 t) o.2.2.2.2.2.1 = (inB m c t o).k := by
  simp only [kernelRun0_B.sl.v72]
  rw [v71_eq m c t o]
  simp only [In.k, In.zkv, k0_pay137]

theorem v73_eq : kernelRun0_B.sl.v73 (F := Ideal) c (ms0_1 t) (hs0_1 t) (ms0_2 t) (hs0_2 t) scM0_5 (Memref.isWhole_whole _) (iblk m c 1 t) (iblk m c 2 t) o.2.2.2.2.2.1 = (inB m c t o).v := by
  simp only [kernelRun0_B.sl.v73]
  rw [v71_eq m c t o]
  simp only [In.v, In.zkv, k0_pay138]

theorem r_1_eq : kernelRun0_B.sl.r_1 (F := Ideal) c (ms0_1 t) (hs0_1 t) (ms0_2 t) (hs0_2 t) (ms0_3 t) (hs0_3 t) scM0_5 (Memref.isWhole_whole _) (iblk m c 1 t) (iblk m c 2 t) (iblk m c 3 t) o.2.2.2.2.2.1 = (inB m c t o).qn := by
  simp only [kernelRun0_B.sl.r_1, kernelRun0_B.sl.v145, kernelRun0_B.sl.v144, kernelRun0_B.sl.v92, kernelRun0_B.sl.cst_51, kernelRun0_B.sl.v142, kernelRun0_B.sl.v141, kernelRun0_B.sl.v140, kernelRun0_B.sl.v137, kernelRun0_B.sl.v136, kernelRun0_B.sl.v135, kernelRun0_B.sl.v129, kernelRun0_B.sl.v128, kernelRun0_B.sl.v79, kernelRun0_B.sl.cst_17, kernelRun0_B.sl.v75, kernelRun0_B.sl.v74, kernelRun0_B.sl.v139, kernelRun0_B.sl.v138, kernelRun0_B.sl.v133, kernelRun0_B.sl.v132, kernelRun0_B.sl.v131, kernelRun0_B.sl.v127, kernelRun0_B.sl.v125, kernelRun0_B.sl.v124, kernelRun0_B.sl.v123, kernelRun0_B.sl.v120, kernelRun0_B.sl.v119, kernelRun0_B.sl.v118, kernelRun0_B.sl.v112, kernelRun0_B.sl.v111, kernelRun0_B.sl.v122, kernelRun0_B.sl.v121, kernelRun0_B.sl.v116, kernelRun0_B.sl.v115, kernelRun0_B.sl.v114, kernelRun0_B.sl.v110, kernelRun0_B.sl.v108, kernelRun0_B.sl.v107, kernelRun0_B.sl.v106, kernelRun0_B.sl.v103, kernelRun0_B.sl.v102, kernelRun0_B.sl.v101, kernelRun0_B.sl.v95, kernelRun0_B.sl.v94, kernelRun0_B.sl.v105, kernelRun0_B.sl.v104, kernelRun0_B.sl.v99, kernelRun0_B.sl.v98, kernelRun0_B.sl.v97, kernelRun0_B.sl.v93, kernelRun0_B.sl.v91, kernelRun0_B.sl.v90, kernelRun0_B.sl.v89, kernelRun0_B.sl.v86, kernelRun0_B.sl.v85, kernelRun0_B.sl.v84, kernelRun0_B.sl.v78, kernelRun0_B.sl.v77, kernelRun0_B.sl.v88, kernelRun0_B.sl.v87, kernelRun0_B.sl.v82, kernelRun0_B.sl.v81, kernelRun0_B.sl.v80]
  rw [v69_eq m c t o]
  simp only [In.qn, qms, k0_pay143, k0_pay144, k0_pay145, k0_pay140, k0_pay146, k0_pay139, k0_pay141, k0_pay142, inB, Tile.load, Scalar.ofBits]

theorem r_2_eq : kernelRun0_B.sl.r_2 (F := Ideal) c (ms0_1 t) (hs0_1 t) (ms0_2 t) (hs0_2 t) (ms0_4 t) (hs0_4 t) scM0_5 (Memref.isWhole_whole _) (iblk m c 1 t) (iblk m c 2 t) (iblk m c 4 t) o.2.2.2.2.2.1 = (inB m c t o).kn := by
  simp only [kernelRun0_B.sl.r_2, kernelRun0_B.sl.v164, kernelRun0_B.sl.v92, kernelRun0_B.sl.cst_51, kernelRun0_B.sl.v162, kernelRun0_B.sl.v161, kernelRun0_B.sl.v160, kernelRun0_B.sl.v157, kernelRun0_B.sl.v156, kernelRun0_B.sl.v155, kernelRun0_B.sl.v149, kernelRun0_B.sl.v79, kernelRun0_B.sl.cst_17, kernelRun0_B.sl.v75, kernelRun0_B.sl.v74, kernelRun0_B.sl.v159, kernelRun0_B.sl.v158, kernelRun0_B.sl.v153, kernelRun0_B.sl.v152, kernelRun0_B.sl.v151]
  rw [v72_eq m c t o]
  simp only [In.kn, k0_pay139, k0_pay141, k0_pay142, inB, Tile.load, Scalar.ofBits]

theorem v214_eq : kernelRun0_B.sl.v214 (F := Ideal) c (ms0_1 t) (hs0_1 t) (ms0_2 t) (hs0_2 t) (ms0_3 t) (hs0_3 t) scM0_5 (Memref.isWhole_whole _) (iblk m c 1 t) (iblk m c 2 t) (iblk m c 3 t) o.2.2.2.2.2.1 = (inB m c t o).qa := by
  simp only [kernelRun0_B.sl.v214, kernelRun0_B.sl.v213, kernelRun0_B.sl.v212, kernelRun0_B.sl.cst_17, kernelRun0_B.sl.cst_93]
  rw [r_1_eq m c t o]
  simp only [In.qa, k0_pay154, k0_pay153, Scalar.ofBits]

theorem v217_eq : kernelRun0_B.sl.v217 (F := Ideal) c (ms0_1 t) (hs0_1 t) (ms0_2 t) (hs0_2 t) (ms0_3 t) (hs0_3 t) scM0_5 (Memref.isWhole_whole _) (iblk m c 1 t) (iblk m c 2 t) (iblk m c 3 t) o.2.2.2.2.2.1 = (inB m c t o).qb := by
  simp only [kernelRun0_B.sl.v217, kernelRun0_B.sl.v216, kernelRun0_B.sl.v212, kernelRun0_B.sl.cst_17, kernelRun0_B.sl.cst_93]
  rw [r_1_eq m c t o]
  simp only [In.qb, k0_pay155, k0_pay153, Scalar.ofBits]

theorem v224_eq : kernelRun0_B.sl.v224 (F := Ideal) c (ms0_1 t) (hs0_1 t) (ms0_2 t) (hs0_2 t) (ms0_4 t) (hs0_4 t) scM0_5 (Memref.isWhole_whole _) (iblk m c 1 t) (iblk m c 2 t) (iblk m c 4 t) o.2.2.2.2.2.1 = (inB m c t o).kv := by
  simp only [kernelRun0_B.sl.v224, kernelRun0_B.sl.v223, kernelRun0_B.sl.v222, kernelRun0_B.sl.v221, kernelRun0_B.sl.v220, kernelRun0_B.sl.v219, kernelRun0_B.sl.v218]
  rw [r_2_eq m c t o, v73_eq m c t o]
  simp only [In.kv, k0_pay156, inB, Tile.load, Scalar.ofBits]

theorem v166_eq : kernelRun0_B.sl.v166 (F := Ideal) c (ms0_1 t) (hs0_1 t) (ms0_2 t) (hs0_2 t) scM0_5 (Memref.isWhole_whole _) (iblk m c 1 t) (iblk m c 2 t) o.2.2.2.2.2.1 = k0_pay147 (F := Ideal) (inB m c t o).h (inB m c t o).wc := by
  simp only [kernelRun0_B.sl.v166, kernelRun0_B.sl.cst_42]
  rw [v67_eq m c t o]
  simp only [k0_pay147, inB, Tile.load, Scalar.ofBits]

theorem v168_eq : kernelRun0_B.sl.v168 (F := Ideal) c (ms0_1 t) (hs0_1 t) (ms0_2 t) (hs0_2 t) scM0_5 (Memref.isWhole_whole _) (iblk m c 1 t) (iblk m c 2 t) o.2.2.2.2.2.1 = k0_pay147 (F := Ideal) (inB m c t o).h (inB m c t o).wi := by
  simp only [kernelRun0_B.sl.v168, kernelRun0_B.sl.cst_42]
  rw [v67_eq m c t o]
  simp only [k0_pay147, inB, Tile.load, Scalar.ofBits]

theorem v230_eq : kernelRun0_B.sl.v230 (F := Ideal) c (ms0_1 t) (hs0_1 t) (ms0_2 t) (hs0_2 t) scM0_5 (Memref.isWhole_whole _) (iblk m c 1 t) (iblk m c 2 t) o.2.2.2.2.2.1 = (inB m c t o).u := by
  simp only [kernelRun0_B.sl.v230]
  rw [v166_eq m c t o, v168_eq m c t o]
  simp only [In.u, k0_pay158]

theorem r_eq : kernelRun0_B.sl.r (F := Ideal) c (ms0_1 t) (hs0_1 t) (ms0_2 t) (hs0_2 t) scM0_5 (Memref.isWhole_whole _) (iblk m c 1 t) (iblk m c 2 t) o.2.2.2.2.2.1 = k0_pay147 (F := Ideal) (inB m c t o).h (inB m c t o).wb := by
  simp only [kernelRun0_B.sl.r]
  rw [v67_eq m c t o]
  simp only [k0_pay147, k0_pay149, inB, Tile.load, Scalar.ofBits]

theorem v236_eq : kernelRun0_B.sl.v236 (F := Ideal) c (grid0.coords t) (ms0_1 t) (hs0_1 t) (ms0_2 t) (hs0_2 t) scM0_3 (Memref.isWhole_whole _) scM0_5 (Memref.isWhole_whole _) (iblk m c 1 t) (iblk m c 2 t) o.2.2.2.2.1 o.2.2.2.2.2.1 = k0_pay160 (F := Ideal) (inB m c t o).b (k0_pay147 (F := Ideal) (inB m c t o).h (inB m c t o).wc) (k0_pay147 (F := Ideal) (inB m c t o).h (inB m c t o).wi) (inB m c t o).ut := by
  simp only [kernelRun0_B.sl.v236, kernelRun0_B.sl.v235, kernelRun0_B.sl.v234, kernelRun0_B.sl.v233, kernelRun0_B.sl.v232, kernelRun0_B.sl.cst_17, kernelRun0_B.sl.v21, kernelRun0_B.sl.v20, kernelRun0_B.sl.v13, kernelRun0_B.sl.v19, kernelRun0_B.sl.v18, kernelRun0_B.sl.v14, kernelRun0_B.sl.v17, kernelRun0_B.sl.v15]
  rw [v230_eq m c t o]
  simp only [In.u, k0_pay160, k0_pay159, k0_pay158, begins, inB, Tile.load, Scalar.ofBits]

theorem v246_eq : kernelRun0_B.sl.v246 (F := Ideal) c (grid0.coords t) (ms0_1 t) (hs0_1 t) (ms0_2 t) (hs0_2 t) (ms0_5 t) (hs0_5 t) scM0_3 (Memref.isWhole_whole _) scM0_5 (Memref.isWhole_whole _) (iblk m c 1 t) (iblk m c 2 t) (iblk m c 5 t) o.2.2.2.2.1 o.2.2.2.2.2.1 = k0_pay162 (F := Ideal) (inB m c t o).b (k0_pay147 (F := Ideal) (inB m c t o).h (inB m c t o).wc) (k0_pay147 (F := Ideal) (inB m c t o).h (inB m c t o).wi) (inB m c t o).ut (inB m c t o).c0 := by
  simp only [kernelRun0_B.sl.v246, kernelRun0_B.sl.v238, kernelRun0_B.sl.v237, kernelRun0_B.sl.v234, kernelRun0_B.sl.v233, kernelRun0_B.sl.v232, kernelRun0_B.sl.cst_17, kernelRun0_B.sl.v21, kernelRun0_B.sl.v20, kernelRun0_B.sl.v13, kernelRun0_B.sl.v19, kernelRun0_B.sl.v18, kernelRun0_B.sl.v14, kernelRun0_B.sl.v17, kernelRun0_B.sl.v15, kernelRun0_B.sl.v245, kernelRun0_B.sl.v244]
  rw [v230_eq m c t o]
  simp only [In.u, k0_pay162, k0_pay159, k0_pay158, begins, inB, Tile.load, Scalar.ofBits]

theorem r_14_eq : kernelRun0_B.sl.r_14 (F := Ideal) c (ms0_0 t) (hs0_0 t) (iblk m c 0 t) = (inB m c t o).ska := by
  simp only [kernelRun0_B.sl.r_14, kernelRun0_B.sl.r_9, kernelRun0_B.sl.cst_127, kernelRun0_B.sl.r_6, kernelRun0_B.sl.r_8, kernelRun0_B.sl.r_5, kernelRun0_B.sl.r_7, kernelRun0_B.sl.r_4]
  simp only [In.ska, sink, k0_pay167, k0_pay166, Matrix.cons_val, inB, Tile.load, Scalar.ofBits]

theorem r_15_eq : kernelRun0_B.sl.r_15 (F := Ideal) c (ms0_0 t) (hs0_0 t) (iblk m c 0 t) = (inB m c t o).skb := by
  simp only [kernelRun0_B.sl.r_15, kernelRun0_B.sl.r_13, kernelRun0_B.sl.r_12, kernelRun0_B.sl.r_11, kernelRun0_B.sl.r_10]
  simp only [In.skb, sink, Matrix.cons_val, inB, Tile.load, Scalar.ofBits]

theorem v473_eq : kernelRun0_B.sl.v473 (F := Ideal) c (grid0.coords t) (ms0_0 t) (hs0_0 t) (ms0_1 t) (hs0_1 t) (ms0_2 t) (hs0_2 t) (ms0_3 t) (hs0_3 t) (ms0_4 t) (hs0_4 t) (ms0_7 t) (hs0_7 t) scM0_2 (Memref.isWhole_whole _) scM0_5 (Memref.isWhole_whole _) (iblk m c 0 t) (iblk m c 1 t) (iblk m c 2 t) (iblk m c 3 t) (iblk m c 4 t) (iblk m c 7 t) o.2.2.2.1 o.2.2.2.2.2.1 = (inB m c t o).y0 := by
  simp only [kernelRun0_B.sl.v473, kernelRun0_B.sl.v470, kernelRun0_B.sl.v469, kernelRun0_B.sl.v468, kernelRun0_B.sl.v466, kernelRun0_B.sl.v465, kernelRun0_B.sl.v464, kernelRun0_B.sl.v463, kernelRun0_B.sl.v462, kernelRun0_B.sl.cst_37, kernelRun0_B.sl.v461, kernelRun0_B.sl.v460, kernelRun0_B.sl.cst_180, kernelRun0_B.sl.v459, kernelRun0_B.sl.v458, kernelRun0_B.sl.v457, kernelRun0_B.sl.v456, kernelRun0_B.sl.v455, kernelRun0_B.sl.v454, kernelRun0_B.sl.v428, kernelRun0_B.sl.v426, kernelRun0_B.sl.v425, kernelRun0_B.sl.v424, kernelRun0_B.sl.r_17, kernelRun0_B.sl.r_3, kernelRun0_B.sl.v21, kernelRun0_B.sl.v20, kernelRun0_B.sl.v13, kernelRun0_B.sl.v19, kernelRun0_B.sl.v18, kernelRun0_B.sl.v14, kernelRun0_B.sl.v17, kernelRun0_B.sl.v15, kernelRun0_B.sl.v423, kernelRun0_B.sl.v422, kernelRun0_B.sl.cst, kernelRun0_B.sl.v421, kernelRun0_B.sl.v414, kernelRun0_B.sl.v413, kernelRun0_B.sl.v412, kernelRun0_B.sl.v420, kernelRun0_B.sl.v419, kernelRun0_B.sl.v418, kernelRun0_B.sl.r_18, kernelRun0_B.sl.v79, kernelRun0_B.sl.cst_17, kernelRun0_B.sl.v416, kernelRun0_B.sl.v427, kernelRun0_B.sl.v453, kernelRun0_B.sl.v443, kernelRun0_B.sl.v441, kernelRun0_B.sl.v440, kernelRun0_B.sl.v439, kernelRun0_B.sl.r_19, kernelRun0_B.sl.v438, kernelRun0_B.sl.v437, kernelRun0_B.sl.v436, kernelRun0_B.sl.v429, kernelRun0_B.sl.v435, kernelRun0_B.sl.v434, kernelRun0_B.sl.v433, kernelRun0_B.sl.r_20, kernelRun0_B.sl.v431, kernelRun0_B.sl.v442, kernelRun0_B.sl.v452, kernelRun0_B.sl.v451, kernelRun0_B.sl.v450, kernelRun0_B.sl.v449, kernelRun0_B.sl.v448, kernelRun0_B.sl.v447, kernelRun0_B.sl.v446, kernelRun0_B.sl.v445, kernelRun0_B.sl.v444]
  rw [r_14_eq m c t o, r_15_eq m c t o, v214_eq m c t o, v217_eq m c t o, v224_eq m c t o]
  simp only [In.y0, block, heads, wtd, score, stack, mx, pr, zero_select, k0_pay232, k0_pay173, k0_pay174, k0_pay175, k0_pay176, k0_pay177, k0_pay178, k0_pay179, k0_pay180, k0_pay181, k0_pay182, k0_pay183, inB, Tile.load, Scalar.ofBits, begins]

theorem v583_eq : kernelRun0_B.sl.v583 (F := Ideal) c (ms0_0 t) (hs0_0 t) (ms0_1 t) (hs0_1 t) (ms0_2 t) (hs0_2 t) (ms0_3 t) (hs0_3 t) (ms0_4 t) (hs0_4 t) (ms0_7 t) (hs0_7 t) scM0_5 (Memref.isWhole_whole _) (iblk m c 0 t) (iblk m c 1 t) (iblk m c 2 t) (iblk m c 3 t) (iblk m c 4 t) (iblk m c 7 t) o.2.2.2.2.2.1 = (inB m c t o).y1 := by
  simp only [kernelRun0_B.sl.v583, kernelRun0_B.sl.v580, kernelRun0_B.sl.v579, kernelRun0_B.sl.v468, kernelRun0_B.sl.v576, kernelRun0_B.sl.v575, kernelRun0_B.sl.v574, kernelRun0_B.sl.v573, kernelRun0_B.sl.v462, kernelRun0_B.sl.cst_37, kernelRun0_B.sl.v571, kernelRun0_B.sl.v460, kernelRun0_B.sl.cst_180, kernelRun0_B.sl.v569, kernelRun0_B.sl.v568, kernelRun0_B.sl.v567, kernelRun0_B.sl.v566, kernelRun0_B.sl.v565, kernelRun0_B.sl.v564, kernelRun0_B.sl.v538, kernelRun0_B.sl.v536, kernelRun0_B.sl.v535, kernelRun0_B.sl.v534, kernelRun0_B.sl.v378, kernelRun0_B.sl.v377, kernelRun0_B.sl.v376, kernelRun0_B.sl.v375, kernelRun0_B.sl.v374, kernelRun0_B.sl.r_22, kernelRun0_B.sl.v533, kernelRun0_B.sl.v532, kernelRun0_B.sl.cst, kernelRun0_B.sl.v531, kernelRun0_B.sl.v524, kernelRun0_B.sl.v523, kernelRun0_B.sl.v530, kernelRun0_B.sl.v529, kernelRun0_B.sl.v528, kernelRun0_B.sl.v380, kernelRun0_B.sl.v379, kernelRun0_B.sl.v79, kernelRun0_B.sl.cst_17, kernelRun0_B.sl.v526, kernelRun0_B.sl.v537, kernelRun0_B.sl.v563, kernelRun0_B.sl.v553, kernelRun0_B.sl.v551, kernelRun0_B.sl.v550, kernelRun0_B.sl.v549, kernelRun0_B.sl.v395, kernelRun0_B.sl.v394, kernelRun0_B.sl.v393, kernelRun0_B.sl.v392, kernelRun0_B.sl.v391, kernelRun0_B.sl.v390, kernelRun0_B.sl.v389, kernelRun0_B.sl.v387, kernelRun0_B.sl.v381, kernelRun0_B.sl.r_21, kernelRun0_B.sl.v386, kernelRun0_B.sl.v385, kernelRun0_B.sl.v384, kernelRun0_B.sl.v383, kernelRun0_B.sl.v382, kernelRun0_B.sl.v388, kernelRun0_B.sl.v548, kernelRun0_B.sl.v547, kernelRun0_B.sl.v546, kernelRun0_B.sl.v539, kernelRun0_B.sl.v545, kernelRun0_B.sl.v544, kernelRun0_B.sl.v543, kernelRun0_B.sl.v397, kernelRun0_B.sl.v396, kernelRun0_B.sl.v541, kernelRun0_B.sl.v552, kernelRun0_B.sl.v562, kernelRun0_B.sl.v561, kernelRun0_B.sl.v560, kernelRun0_B.sl.v559, kernelRun0_B.sl.v558, kernelRun0_B.sl.v557, kernelRun0_B.sl.v556, kernelRun0_B.sl.v555, kernelRun0_B.sl.v554]
  rw [r_14_eq m c t o, r_15_eq m c t o, v214_eq m c t o, v217_eq m c t o, v224_eq m c t o]
  simp only [In.y1, block, heads, wtd, score, stack, mx, pr, zero_select, k0_pay232, k0_pay203, k0_pay174, k0_pay175, k0_pay176, k0_pay177, k0_pay178, k0_pay179, k0_pay180, k0_pay181, k0_pay182, k0_pay183, inB, Tile.load, Scalar.ofBits, begins]

theorem v693_eq : kernelRun0_B.sl.v693 (F := Ideal) c (ms0_0 t) (hs0_0 t) (ms0_1 t) (hs0_1 t) (ms0_2 t) (hs0_2 t) (ms0_3 t) (hs0_3 t) (ms0_4 t) (hs0_4 t) (ms0_7 t) (hs0_7 t) scM0_5 (Memref.isWhole_whole _) (iblk m c 0 t) (iblk m c 1 t) (iblk m c 2 t) (iblk m c 3 t) (iblk m c 4 t) (iblk m c 7 t) o.2.2.2.2.2.1 = (inB m c t o).y2 := by
  simp only [kernelRun0_B.sl.v693, kernelRun0_B.sl.v690, kernelRun0_B.sl.v689, kernelRun0_B.sl.v468, kernelRun0_B.sl.v686, kernelRun0_B.sl.v685, kernelRun0_B.sl.v684, kernelRun0_B.sl.v683, kernelRun0_B.sl.v462, kernelRun0_B.sl.cst_37, kernelRun0_B.sl.v681, kernelRun0_B.sl.v460, kernelRun0_B.sl.cst_180, kernelRun0_B.sl.v679, kernelRun0_B.sl.v678, kernelRun0_B.sl.v677, kernelRun0_B.sl.v676, kernelRun0_B.sl.v675, kernelRun0_B.sl.v674, kernelRun0_B.sl.v648, kernelRun0_B.sl.v646, kernelRun0_B.sl.v645, kernelRun0_B.sl.v644, kernelRun0_B.sl.v489, kernelRun0_B.sl.v488, kernelRun0_B.sl.v487, kernelRun0_B.sl.v486, kernelRun0_B.sl.v485, kernelRun0_B.sl.v484, kernelRun0_B.sl.v483, kernelRun0_B.sl.v481, kernelRun0_B.sl.cst, kernelRun0_B.sl.v475, kernelRun0_B.sl.v474, kernelRun0_B.sl.v480, kernelRun0_B.sl.v479, kernelRun0_B.sl.v478, kernelRun0_B.sl.v477, kernelRun0_B.sl.v476, kernelRun0_B.sl.v482, kernelRun0_B.sl.v643, kernelRun0_B.sl.v642, kernelRun0_B.sl.v641, kernelRun0_B.sl.v634, kernelRun0_B.sl.v640, kernelRun0_B.sl.v639, kernelRun0_B.sl.v638, kernelRun0_B.sl.v491, kernelRun0_B.sl.v490, kernelRun0_B.sl.v79, kernelRun0_B.sl.cst_17, kernelRun0_B.sl.v636, kernelRun0_B.sl.v647, kernelRun0_B.sl.v673, kernelRun0_B.sl.v663, kernelRun0_B.sl.v661, kernelRun0_B.sl.v660, kernelRun0_B.sl.v659, kernelRun0_B.sl.v506, kernelRun0_B.sl.v505, kernelRun0_B.sl.v504, kernelRun0_B.sl.v503, kernelRun0_B.sl.v502, kernelRun0_B.sl.v501, kernelRun0_B.sl.v500, kernelRun0_B.sl.v498, kernelRun0_B.sl.v492, kernelRun0_B.sl.v497, kernelRun0_B.sl.v496, kernelRun0_B.sl.v495, kernelRun0_B.sl.v494, kernelRun0_B.sl.v493, kernelRun0_B.sl.v499, kernelRun0_B.sl.v658, kernelRun0_B.sl.v657, kernelRun0_B.sl.v656, kernelRun0_B.sl.v649, kernelRun0_B.sl.v655, kernelRun0_B.sl.v654, kernelRun0_B.sl.v653, kernelRun0_B.sl.v508, kernelRun0_B.sl.v507, kernelRun0_B.sl.v651, kernelRun0_B.sl.v662, kernelRun0_B.sl.v672, kernelRun0_B.sl.v671, kernelRun0_B.sl.v670, kernelRun0_B.sl.v669, kernelRun0_B.sl.v668, kernelRun0_B.sl.v667, kernelRun0_B.sl.v666, kernelRun0_B.sl.v665, kernelRun0_B.sl.v664]
  rw [r_14_eq m c t o, r_15_eq m c t o, v214_eq m c t o, v217_eq m c t o, v224_eq m c t o]
  simp only [In.y2, block, heads, wtd, score, stack, mx, pr, zero_select, k0_pay232, k0_pay219, k0_pay174, k0_pay175, k0_pay176, k0_pay177, k0_pay178, k0_pay179, k0_pay180, k0_pay181, k0_pay182, k0_pay183, inB, Tile.load, Scalar.ofBits, begins]

theorem v768_eq : kernelRun0_B.sl.v768 (F := Ideal) c (ms0_0 t) (hs0_0 t) (ms0_1 t) (hs0_1 t) (ms0_2 t) (hs0_2 t) (ms0_3 t) (hs0_3 t) (ms0_4 t) (hs0_4 t) (ms0_7 t) (hs0_7 t) scM0_5 (Memref.isWhole_whole _) (iblk m c 0 t) (iblk m c 1 t) (iblk m c 2 t) (iblk m c 3 t) (iblk m c 4 t) (iblk m c 7 t) o.2.2.2.2.2.1 = (inB m c t o).y3 := by
  simp only [kernelRun0_B.sl.v768, kernelRun0_B.sl.v765, kernelRun0_B.sl.v764, kernelRun0_B.sl.v468, kernelRun0_B.sl.v761, kernelRun0_B.sl.v760, kernelRun0_B.sl.v759, kernelRun0_B.sl.v758, kernelRun0_B.sl.v462, kernelRun0_B.sl.cst_37, kernelRun0_B.sl.v756, kernelRun0_B.sl.v460, kernelRun0_B.sl.cst_180, kernelRun0_B.sl.v754, kernelRun0_B.sl.v753, kernelRun0_B.sl.v752, kernelRun0_B.sl.v751, kernelRun0_B.sl.v750, kernelRun0_B.sl.v749, kernelRun0_B.sl.v723, kernelRun0_B.sl.v721, kernelRun0_B.sl.v720, kernelRun0_B.sl.v719, kernelRun0_B.sl.v599, kernelRun0_B.sl.v598, kernelRun0_B.sl.v597, kernelRun0_B.sl.v596, kernelRun0_B.sl.v595, kernelRun0_B.sl.v594, kernelRun0_B.sl.v593, kernelRun0_B.sl.v591, kernelRun0_B.sl.cst, kernelRun0_B.sl.v585, kernelRun0_B.sl.v584, kernelRun0_B.sl.v590, kernelRun0_B.sl.v589, kernelRun0_B.sl.v588, kernelRun0_B.sl.v587, kernelRun0_B.sl.v586, kernelRun0_B.sl.v592, kernelRun0_B.sl.v718, kernelRun0_B.sl.v717, kernelRun0_B.sl.v716, kernelRun0_B.sl.v709, kernelRun0_B.sl.v715, kernelRun0_B.sl.v714, kernelRun0_B.sl.v713, kernelRun0_B.sl.v601, kernelRun0_B.sl.v600, kernelRun0_B.sl.v79, kernelRun0_B.sl.cst_17, kernelRun0_B.sl.v711, kernelRun0_B.sl.v722, kernelRun0_B.sl.v748, kernelRun0_B.sl.v738, kernelRun0_B.sl.v736, kernelRun0_B.sl.v735, kernelRun0_B.sl.v734, kernelRun0_B.sl.v616, kernelRun0_B.sl.v615, kernelRun0_B.sl.v614, kernelRun0_B.sl.v613, kernelRun0_B.sl.v612, kernelRun0_B.sl.v611, kernelRun0_B.sl.v610, kernelRun0_B.sl.v608, kernelRun0_B.sl.v602, kernelRun0_B.sl.v607, kernelRun0_B.sl.v606, kernelRun0_B.sl.v605, kernelRun0_B.sl.v604, kernelRun0_B.sl.v603, kernelRun0_B.sl.v609, kernelRun0_B.sl.v733, kernelRun0_B.sl.v732, kernelRun0_B.sl.v731, kernelRun0_B.sl.v724, kernelRun0_B.sl.v730, kernelRun0_B.sl.v729, kernelRun0_B.sl.v728, kernelRun0_B.sl.v618, kernelRun0_B.sl.v617, kernelRun0_B.sl.v726, kernelRun0_B.sl.v737, kernelRun0_B.sl.v747, kernelRun0_B.sl.v746, kernelRun0_B.sl.v745, kernelRun0_B.sl.v744, kernelRun0_B.sl.v743, kernelRun0_B.sl.v742, kernelRun0_B.sl.v741, kernelRun0_B.sl.v740, kernelRun0_B.sl.v739]
  rw [r_14_eq m c t o, r_15_eq m c t o, v214_eq m c t o, v217_eq m c t o, v224_eq m c t o]
  simp only [In.y3, block, heads, wtd, score, stack, mx, pr, zero_select, k0_pay232, k0_pay228, k0_pay174, k0_pay175, k0_pay176, k0_pay177, k0_pay178, k0_pay179, k0_pay180, k0_pay181, k0_pay182, k0_pay183, inB, Tile.load, Scalar.ofBits, begins]

theorem HS4_eq : kernelRun0_B.sl.HS4_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_2 (Memref.isWhole_whole _) scM0_3 (Memref.isWhole_whole _) scM0_5 (Memref.isWhole_whole _) (iblk m c 0 t) (iblk m c 1 t) (iblk m c 2 t) (iblk m c 3 t) (iblk m c 4 t) (iblk m c 5 t) (iblk m c 6 t) (iblk m c 7 t) o.2.2.2.1 o.2.2.2.2.1 o.2.2.2.2.2.1 = halves (inB m c t o) := by
  dsimp only [kernelRun0_B.sl.HS4_5]
  rw [v768_eq m c t o, v693_eq m c t o, v583_eq m c t o, v473_eq m c t o, r_eq m c t o, v230_eq m c t o, v236_eq m c t o, v246_eq m c t o]
  rfl

theorem mixed_eq : kernelRun0_B.sl.v790 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_2 (Memref.isWhole_whole _) scM0_3 (Memref.isWhole_whole _) scM0_4 scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) o.2.2.2.1 o.2.2.2.2.1 o.2.2.2.2.2.1 o.2.2.2.2.2.2.1 = after (k0_pay133 (F := Ideal) (inB m c t o).x) (scM0_4.view.readCov (halves (inB m c t o)) (Rect.unit (s := S512x1024) ![0, 512] S512x512.size inb_S512x1024_S512x512_0_512).toLoadRect) (scM0_4.view.readCov (halves (inB m c t o)) (Rect.unit (s := S512x1024) ![0, 0] S512x512.size inb_S512x1024_S512x512_0_0).toLoadRect) (load scM0_6 (Memref.isWhole_whole _) o.2.2.2.2.2.2.1 (Rect.unit (s := S1024x1024) ![512, 0] S512x1024.size inb_S1024x1024_S512x1024_512_0)) (load scM0_6 (Memref.isWhole_whole _) o.2.2.2.2.2.2.1 (Rect.unit (s := S1024x1024) ![0, 0] S512x1024.size inb_S1024x1024_S512x1024_0_0)) := by
  dsimp only [kernelRun0_B.sl.v790, kernelRun0_B.sl.v772, kernelRun0_B.sl.v771, kernelRun0_B.sl.v769, kernelRun0_B.sl.v789, kernelRun0_B.sl.v787, kernelRun0_B.sl.cst_271]
  rw [HS4_eq m c t o, v53_eq m c t o]
  dsimp only [after, k0_pay236, k0_pay233, Tile.load]

variable (h0 : ¬t.val % 65 = 0) (h1 : (1 ≤ t.val % 65 ∧ t.val % 65 ≤ 63)) (h2 : ¬t.val % 65 = 64)

theorem kv_B : (stepB m c t h0 h1 h2 o).2.2.2.1 = k0_pay157 (inB m c t o).v (inB m c t o).kn := by
  unfold stepB
  dsimp only
  unfold runB
  delta kernelRun0_B
  dsimp only
  rw [View.read_writes_junk_eq_canon, View.canon_cons_unit_lit _ _ _ (by decide)]
  rfl

theorem u_B : (stepB m c t h0 h1 h2 o).2.2.2.2.1 = k0_pay161 (k0_pay147 (F := Ideal) (inB m c t o).h (inB m c t o).wc) (k0_pay147 (F := Ideal) (inB m c t o).h (inB m c t o).wi) := by
  unfold stepB
  dsimp only
  unfold runB
  delta kernelRun0_B
  dsimp only
  rw [View.read_writes_junk_eq_canon, View.canon_cons_unit_lit _ _ _ (by decide)]
  rfl

theorem x1_B : (stepB m c t h0 h1 h2 o).2.1 = k0_pay256 (F := Ideal) (after (k0_pay133 (F := Ideal) (inB m c t o).x) (scM0_4.view.readCov (halves (inB m c t o)) (Rect.unit (s := S512x1024) ![0, 512] S512x512.size inb_S512x1024_S512x512_0_512).toLoadRect) (scM0_4.view.readCov (halves (inB m c t o)) (Rect.unit (s := S512x1024) ![0, 0] S512x512.size inb_S512x1024_S512x512_0_0).toLoadRect) (load scM0_6 (Memref.isWhole_whole _) o.2.2.2.2.2.2.1 (Rect.unit (s := S1024x1024) ![512, 0] S512x1024.size inb_S1024x1024_S512x1024_512_0)) (load scM0_6 (Memref.isWhole_whole _) o.2.2.2.2.2.2.1 (Rect.unit (s := S1024x1024) ![0, 0] S512x1024.size inb_S1024x1024_S512x1024_0_0))) := by
  unfold stepB
  dsimp only
  unfold runB
  delta kernelRun0_B
  dsimp only
  rw [View.read_writes_junk_eq_canon, View.canon_cons_unit_lit _ _ _ (by decide)]
  rw [mixed_eq m c t o]

theorem hm_B : (stepB m c t h0 h1 h2 o).2.2.1 = k0_pay3 (F := Ideal) (k0_pay257 (F := Ideal) (after (k0_pay133 (F := Ideal) (inB m c t o).x) (scM0_4.view.readCov (halves (inB m c t o)) (Rect.unit (s := S512x1024) ![0, 512] S512x512.size inb_S512x1024_S512x512_0_512).toLoadRect) (scM0_4.view.readCov (halves (inB m c t o)) (Rect.unit (s := S512x1024) ![0, 0] S512x512.size inb_S512x1024_S512x512_0_0).toLoadRect) (load scM0_6 (Memref.isWhole_whole _) o.2.2.2.2.2.2.1 (Rect.unit (s := S1024x1024) ![512, 0] S512x1024.size inb_S1024x1024_S512x1024_512_0)) (load scM0_6 (Memref.isWhole_whole _) o.2.2.2.2.2.2.1 (Rect.unit (s := S1024x1024) ![0, 0] S512x1024.size inb_S1024x1024_S512x1024_0_0))) (g2B m c t)) := by
  unfold stepB
  dsimp only
  unfold runB
  delta kernelRun0_B
  dsimp only
  rw [View.read_writes_junk_eq_canon, View.canon_cons_unit_lit _ _ _ (by decide)]
  dsimp only [kernelRun0_B.sl.r_25]
  rw [mixed_eq m c t o]
  rfl

end Cert.KernelIdeal.Gen

end
-- ==== Proof.PassB.lean ====
/- The output block of a middle point: each store of the block is one slab of the four passes. -/
module

public import proofs.«01_k».proof.Proof.InB
public import proofs.«01_k».proof.Proof.IStepB

@[expose] public section

set_option maxRecDepth 16384

noncomputable section

open Idealize.ShloMosaic Idealize.ShloMosaic.TcCoe Idealize.SL.Sem

namespace Cert.KernelIdeal.Gen

open Cert.KernelIdeal.Tile

variable (m : (ℓ : Loc nD τ sig) → Buf (Elt Ideal) ℓ) (c : Dev nD) (t : Fin cfg0.N) (o : Outs Ideal)

theorem H9_2_B : kernelRun0_B.sl.H9_2 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_1 (F := Ideal) c scM0_0 (Memref.isWhole_whole _) o.2.1) ![0, 0] inb_S512x1024_S512x256_0_0 (acts (hmB o) (wuB o 0)) (wdB o 0 0) := by
  dsimp only [kernelRun0_B.sl.H9_2, kernelRun0_B.sl.v310, kernelRun0_B.sl.v51, kernelRun0_B.sl.v50, kernelRun0_B.sl.v49, kernelRun0_B.sl.v27, kernelRun0_B.sl.cst_17, kernelRun0_B.sl.v47, kernelRun0_B.sl.cst, kernelRun0_B.sl.v44, kernelRun0_B.sl.v43, kernelRun0_B.sl.v42, kernelRun0_B.sl.v40, kernelRun0_B.sl.v37, kernelRun0_B.sl.v36, kernelRun0_B.sl.v35, kernelRun0_B.sl.v33, kernelRun0_B.sl.v30, kernelRun0_B.sl.v29, kernelRun0_B.sl.v28, kernelRun0_B.sl.v26, k0_pay128, k0_pay171, k0_pay224, k0_pay263, put, slab, down, acts, up, hmB, wuB, wdB, Matrix.cons_val, Tile.load, Scalar.ofBits]

theorem H9_3_B : kernelRun0_B.sl.H9_3 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_2 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 0)) (wdB o 0 1) := by
  dsimp only [kernelRun0_B.sl.H9_3, kernelRun0_B.sl.r_16, kernelRun0_B.sl.v317, kernelRun0_B.sl.v51, kernelRun0_B.sl.v50, kernelRun0_B.sl.v49, kernelRun0_B.sl.v27, kernelRun0_B.sl.cst_17, kernelRun0_B.sl.v47, kernelRun0_B.sl.cst, kernelRun0_B.sl.v44, kernelRun0_B.sl.v43, kernelRun0_B.sl.v42, kernelRun0_B.sl.v40, kernelRun0_B.sl.v37, kernelRun0_B.sl.v36, kernelRun0_B.sl.v35, kernelRun0_B.sl.v33, kernelRun0_B.sl.v30, kernelRun0_B.sl.v29, kernelRun0_B.sl.v28, kernelRun0_B.sl.v26, k0_pay128, k0_pay172, k0_pay224, k0_pay263, put, slab, down, acts, up, hmB, wuB, wdB, Matrix.cons_val, Tile.load, Scalar.ofBits]

theorem H9_4_B : kernelRun0_B.sl.H9_4 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_3 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 0)) (wdB o 0 2) := by
  dsimp only [kernelRun0_B.sl.H9_4, kernelRun0_B.sl.v403, kernelRun0_B.sl.v402, kernelRun0_B.sl.cst, kernelRun0_B.sl.v398, kernelRun0_B.sl.v51, kernelRun0_B.sl.v50, kernelRun0_B.sl.v49, kernelRun0_B.sl.v27, kernelRun0_B.sl.cst_17, kernelRun0_B.sl.v47, kernelRun0_B.sl.v44, kernelRun0_B.sl.v43, kernelRun0_B.sl.v42, kernelRun0_B.sl.v40, kernelRun0_B.sl.v37, kernelRun0_B.sl.v36, kernelRun0_B.sl.v35, kernelRun0_B.sl.v33, kernelRun0_B.sl.v30, kernelRun0_B.sl.v29, kernelRun0_B.sl.v28, kernelRun0_B.sl.v26, kernelRun0_B.sl.v400, kernelRun0_B.sl.v399, k0_pay128, k0_pay224, k0_pay263, put, slab, down, acts, up, hmB, wuB, wdB, Matrix.cons_val, Tile.load, Scalar.ofBits]

theorem H9_5_B : kernelRun0_B.sl.H9_5 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_4 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 0)) (wdB o 0 3) := by
  dsimp only [kernelRun0_B.sl.H9_5, kernelRun0_B.sl.v410, kernelRun0_B.sl.v409, kernelRun0_B.sl.cst, kernelRun0_B.sl.v398, kernelRun0_B.sl.v51, kernelRun0_B.sl.v50, kernelRun0_B.sl.v49, kernelRun0_B.sl.v27, kernelRun0_B.sl.cst_17, kernelRun0_B.sl.v47, kernelRun0_B.sl.v44, kernelRun0_B.sl.v43, kernelRun0_B.sl.v42, kernelRun0_B.sl.v40, kernelRun0_B.sl.v37, kernelRun0_B.sl.v36, kernelRun0_B.sl.v35, kernelRun0_B.sl.v33, kernelRun0_B.sl.v30, kernelRun0_B.sl.v29, kernelRun0_B.sl.v28, kernelRun0_B.sl.v26, kernelRun0_B.sl.v407, kernelRun0_B.sl.v406, k0_pay128, k0_pay224, k0_pay263, put, slab, down, acts, up, hmB, wuB, wdB, Matrix.cons_val, Tile.load, Scalar.ofBits]

theorem H9_6_B : kernelRun0_B.sl.H9_6 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_5 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 0] inb_S512x1024_S512x256_0_0 (acts (hmB o) (wuB o 1)) (wdB o 1 0) := by
  dsimp only [kernelRun0_B.sl.H9_6, kernelRun0_B.sl.v699, kernelRun0_B.sl.v698, kernelRun0_B.sl.cst, kernelRun0_B.sl.r_23, kernelRun0_B.sl.v694, kernelRun0_B.sl.v632, kernelRun0_B.sl.v631, kernelRun0_B.sl.v630, kernelRun0_B.sl.v27, kernelRun0_B.sl.cst_17, kernelRun0_B.sl.v628, kernelRun0_B.sl.v625, kernelRun0_B.sl.v624, kernelRun0_B.sl.v623, kernelRun0_B.sl.v621, kernelRun0_B.sl.v522, kernelRun0_B.sl.v521, kernelRun0_B.sl.v520, kernelRun0_B.sl.v518, kernelRun0_B.sl.v515, kernelRun0_B.sl.v514, kernelRun0_B.sl.v513, kernelRun0_B.sl.v511, kernelRun0_B.sl.v696, kernelRun0_B.sl.v695, k0_pay128, k0_pay224, k0_pay263, put, slab, down, acts, up, hmB, wuB, wdB, Matrix.cons_val, Tile.load, Scalar.ofBits]

theorem H9_7_B : kernelRun0_B.sl.H9_7 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_6 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 1)) (wdB o 1 1) := by
  dsimp only [kernelRun0_B.sl.H9_7, kernelRun0_B.sl.v706, kernelRun0_B.sl.v705, kernelRun0_B.sl.cst, kernelRun0_B.sl.v694, kernelRun0_B.sl.v632, kernelRun0_B.sl.v631, kernelRun0_B.sl.v630, kernelRun0_B.sl.v27, kernelRun0_B.sl.cst_17, kernelRun0_B.sl.v628, kernelRun0_B.sl.v625, kernelRun0_B.sl.v624, kernelRun0_B.sl.v623, kernelRun0_B.sl.v621, kernelRun0_B.sl.v522, kernelRun0_B.sl.v521, kernelRun0_B.sl.v520, kernelRun0_B.sl.v518, kernelRun0_B.sl.v515, kernelRun0_B.sl.v514, kernelRun0_B.sl.v513, kernelRun0_B.sl.v511, kernelRun0_B.sl.v703, kernelRun0_B.sl.v702, k0_pay128, k0_pay224, k0_pay263, put, slab, down, acts, up, hmB, wuB, wdB, Matrix.cons_val, Tile.load, Scalar.ofBits]

theorem H9_8_B : kernelRun0_B.sl.H9_8 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_7 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 1)) (wdB o 1 2) := by
  dsimp only [kernelRun0_B.sl.H9_8, kernelRun0_B.sl.v778, kernelRun0_B.sl.v777, kernelRun0_B.sl.cst, kernelRun0_B.sl.v694, kernelRun0_B.sl.v632, kernelRun0_B.sl.v631, kernelRun0_B.sl.v630, kernelRun0_B.sl.v27, kernelRun0_B.sl.cst_17, kernelRun0_B.sl.v628, kernelRun0_B.sl.v625, kernelRun0_B.sl.v624, kernelRun0_B.sl.v623, kernelRun0_B.sl.v621, kernelRun0_B.sl.v522, kernelRun0_B.sl.v521, kernelRun0_B.sl.v520, kernelRun0_B.sl.v518, kernelRun0_B.sl.v515, kernelRun0_B.sl.v514, kernelRun0_B.sl.v513, kernelRun0_B.sl.v511, kernelRun0_B.sl.v775, kernelRun0_B.sl.v774, k0_pay128, k0_pay224, k0_pay263, put, slab, down, acts, up, hmB, wuB, wdB, Matrix.cons_val, Tile.load, Scalar.ofBits]

theorem H9_9_B : kernelRun0_B.sl.H9_9 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_8 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 1)) (wdB o 1 3) := by
  dsimp only [kernelRun0_B.sl.H9_9, kernelRun0_B.sl.v785, kernelRun0_B.sl.v784, kernelRun0_B.sl.cst, kernelRun0_B.sl.v694, kernelRun0_B.sl.v632, kernelRun0_B.sl.v631, kernelRun0_B.sl.v630, kernelRun0_B.sl.v27, kernelRun0_B.sl.cst_17, kernelRun0_B.sl.v628, kernelRun0_B.sl.v625, kernelRun0_B.sl.v624, kernelRun0_B.sl.v623, kernelRun0_B.sl.v621, kernelRun0_B.sl.v522, kernelRun0_B.sl.v521, kernelRun0_B.sl.v520, kernelRun0_B.sl.v518, kernelRun0_B.sl.v515, kernelRun0_B.sl.v514, kernelRun0_B.sl.v513, kernelRun0_B.sl.v511, kernelRun0_B.sl.v782, kernelRun0_B.sl.v781, k0_pay128, k0_pay224, k0_pay263, put, slab, down, acts, up, hmB, wuB, wdB, Matrix.cons_val, Tile.load, Scalar.ofBits]

theorem H9_10_B : kernelRun0_B.sl.H9_10 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_9 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 0] inb_S512x1024_S512x256_0_0 (acts (hmB o) (wuB o 2)) (wdB o 2 0) := by
  dsimp only [kernelRun0_B.sl.H9_10, kernelRun0_B.sl.v824, kernelRun0_B.sl.v823, kernelRun0_B.sl.cst, kernelRun0_B.sl.v819, kernelRun0_B.sl.v818, kernelRun0_B.sl.v817, kernelRun0_B.sl.v816, kernelRun0_B.sl.v27, kernelRun0_B.sl.cst_17, kernelRun0_B.sl.v814, kernelRun0_B.sl.v811, kernelRun0_B.sl.v810, kernelRun0_B.sl.v809, kernelRun0_B.sl.v807, kernelRun0_B.sl.v804, kernelRun0_B.sl.v803, kernelRun0_B.sl.v802, kernelRun0_B.sl.v800, kernelRun0_B.sl.v797, kernelRun0_B.sl.v796, kernelRun0_B.sl.v795, kernelRun0_B.sl.v793, kernelRun0_B.sl.v821, kernelRun0_B.sl.v820, k0_pay128, k0_pay224, k0_pay263, put, slab, down, acts, up, hmB, wuB, wdB, Matrix.cons_val, Tile.load, Scalar.ofBits]

theorem H9_11_B : kernelRun0_B.sl.H9_11 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_10 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 2)) (wdB o 2 1) := by
  dsimp only [kernelRun0_B.sl.H9_11, kernelRun0_B.sl.v831, kernelRun0_B.sl.v830, kernelRun0_B.sl.cst, kernelRun0_B.sl.v819, kernelRun0_B.sl.v818, kernelRun0_B.sl.v817, kernelRun0_B.sl.v816, kernelRun0_B.sl.v27, kernelRun0_B.sl.cst_17, kernelRun0_B.sl.v814, kernelRun0_B.sl.v811, kernelRun0_B.sl.v810, kernelRun0_B.sl.v809, kernelRun0_B.sl.v807, kernelRun0_B.sl.v804, kernelRun0_B.sl.v803, kernelRun0_B.sl.v802, kernelRun0_B.sl.v800, kernelRun0_B.sl.v797, kernelRun0_B.sl.v796, kernelRun0_B.sl.v795, kernelRun0_B.sl.v793, kernelRun0_B.sl.v828, kernelRun0_B.sl.v827, k0_pay128, k0_pay224, k0_pay263, put, slab, down, acts, up, hmB, wuB, wdB, Matrix.cons_val, Tile.load, Scalar.ofBits]

theorem H9_12_B : kernelRun0_B.sl.H9_12 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_11 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 2)) (wdB o 2 2) := by
  dsimp only [kernelRun0_B.sl.H9_12, kernelRun0_B.sl.v838, kernelRun0_B.sl.v837, kernelRun0_B.sl.cst, kernelRun0_B.sl.v819, kernelRun0_B.sl.v818, kernelRun0_B.sl.v817, kernelRun0_B.sl.v816, kernelRun0_B.sl.v27, kernelRun0_B.sl.cst_17, kernelRun0_B.sl.v814, kernelRun0_B.sl.v811, kernelRun0_B.sl.v810, kernelRun0_B.sl.v809, kernelRun0_B.sl.v807, kernelRun0_B.sl.v804, kernelRun0_B.sl.v803, kernelRun0_B.sl.v802, kernelRun0_B.sl.v800, kernelRun0_B.sl.v797, kernelRun0_B.sl.v796, kernelRun0_B.sl.v795, kernelRun0_B.sl.v793, kernelRun0_B.sl.v835, kernelRun0_B.sl.v834, k0_pay128, k0_pay224, k0_pay263, put, slab, down, acts, up, hmB, wuB, wdB, Matrix.cons_val, Tile.load, Scalar.ofBits]

theorem H9_13_B : kernelRun0_B.sl.H9_13 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_12 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 2)) (wdB o 2 3) := by
  dsimp only [kernelRun0_B.sl.H9_13, kernelRun0_B.sl.v845, kernelRun0_B.sl.v844, kernelRun0_B.sl.cst, kernelRun0_B.sl.v819, kernelRun0_B.sl.v818, kernelRun0_B.sl.v817, kernelRun0_B.sl.v816, kernelRun0_B.sl.v27, kernelRun0_B.sl.cst_17, kernelRun0_B.sl.v814, kernelRun0_B.sl.v811, kernelRun0_B.sl.v810, kernelRun0_B.sl.v809, kernelRun0_B.sl.v807, kernelRun0_B.sl.v804, kernelRun0_B.sl.v803, kernelRun0_B.sl.v802, kernelRun0_B.sl.v800, kernelRun0_B.sl.v797, kernelRun0_B.sl.v796, kernelRun0_B.sl.v795, kernelRun0_B.sl.v793, kernelRun0_B.sl.v842, kernelRun0_B.sl.v841, k0_pay128, k0_pay224, k0_pay263, put, slab, down, acts, up, hmB, wuB, wdB, Matrix.cons_val, Tile.load, Scalar.ofBits]

theorem H9_14_B : kernelRun0_B.sl.H9_14 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_13 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 0] inb_S512x1024_S512x256_0_0 (acts (hmB o) (wuB o 3)) (wdB o 3 0) := by
  dsimp only [kernelRun0_B.sl.H9_14, kernelRun0_B.sl.v880, kernelRun0_B.sl.v879, kernelRun0_B.sl.cst, kernelRun0_B.sl.v875, kernelRun0_B.sl.v874, kernelRun0_B.sl.v873, kernelRun0_B.sl.v872, kernelRun0_B.sl.v27, kernelRun0_B.sl.cst_17, kernelRun0_B.sl.v870, kernelRun0_B.sl.r_24, kernelRun0_B.sl.v867, kernelRun0_B.sl.v866, kernelRun0_B.sl.v865, kernelRun0_B.sl.v863, kernelRun0_B.sl.v860, kernelRun0_B.sl.v859, kernelRun0_B.sl.v858, kernelRun0_B.sl.v856, kernelRun0_B.sl.v853, kernelRun0_B.sl.v852, kernelRun0_B.sl.v851, kernelRun0_B.sl.v849, kernelRun0_B.sl.v877, kernelRun0_B.sl.v876, k0_pay128, k0_pay224, k0_pay263, put, slab, down, acts, up, hmB, wuB, wdB, Matrix.cons_val, Tile.load, Scalar.ofBits]

theorem H9_15_B : kernelRun0_B.sl.H9_15 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_14 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 3)) (wdB o 3 1) := by
  dsimp only [kernelRun0_B.sl.H9_15, kernelRun0_B.sl.v887, kernelRun0_B.sl.v886, kernelRun0_B.sl.cst, kernelRun0_B.sl.v875, kernelRun0_B.sl.v874, kernelRun0_B.sl.v873, kernelRun0_B.sl.v872, kernelRun0_B.sl.v27, kernelRun0_B.sl.cst_17, kernelRun0_B.sl.v870, kernelRun0_B.sl.r_24, kernelRun0_B.sl.v867, kernelRun0_B.sl.v866, kernelRun0_B.sl.v865, kernelRun0_B.sl.v863, kernelRun0_B.sl.v860, kernelRun0_B.sl.v859, kernelRun0_B.sl.v858, kernelRun0_B.sl.v856, kernelRun0_B.sl.v853, kernelRun0_B.sl.v852, kernelRun0_B.sl.v851, kernelRun0_B.sl.v849, kernelRun0_B.sl.v884, kernelRun0_B.sl.v883, k0_pay128, k0_pay224, k0_pay263, put, slab, down, acts, up, hmB, wuB, wdB, Matrix.cons_val, Tile.load, Scalar.ofBits]

theorem H9_16_B : kernelRun0_B.sl.H9_16 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_B.sl.H9_15 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 3)) (wdB o 3 2) := by
  dsimp only [kernelRun0_B.sl.H9_16, kernelRun0_B.sl.v894, kernelRun0_B.sl.v893, kernelRun0_B.sl.cst, kernelRun0_B.sl.v875, kernelRun0_B.sl.v874, kernelRun0_B.sl.v873, kernelRun0_B.sl.v872, kernelRun0_B.sl.v27, kernelRun0_B.sl.cst_17, kernelRun0_B.sl.v870, kernelRun0_B.sl.r_24, kernelRun0_B.sl.v867, kernelRun0_B.sl.v866, kernelRun0_B.sl.v865, kernelRun0_B.sl.v863, kernelRun0_B.sl.v860, kernelRun0_B.sl.v859, kernelRun0_B.sl.v858, kernelRun0_B.sl.v856, kernelRun0_B.sl.v853, kernelRun0_B.sl.v852, kernelRun0_B.sl.v851, kernelRun0_B.sl.v849, kernelRun0_B.sl.v891, kernelRun0_B.sl.v890, k0_pay128, k0_pay224, k0_pay263, put, slab, down, acts, up, hmB, wuB, wdB, Matrix.cons_val, Tile.load, Scalar.ofBits]

theorem last_B (h0 h1 h2) : (runB m c t h0 h1 h2 o).1
    = put (ms0_9 t).view (kernelRun0_B.sl.H9_16 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 3)) (wdB o 3 3) := by
  unfold runB
  delta kernelRun0_B
  dsimp only
  dsimp only [kernelRun0_B.sl.v875, kernelRun0_B.sl.v874, kernelRun0_B.sl.v873, kernelRun0_B.sl.v872, kernelRun0_B.sl.v27, kernelRun0_B.sl.cst_17, kernelRun0_B.sl.v870, kernelRun0_B.sl.cst, kernelRun0_B.sl.r_24, kernelRun0_B.sl.v867, kernelRun0_B.sl.v866, kernelRun0_B.sl.v865, kernelRun0_B.sl.v863, kernelRun0_B.sl.v860, kernelRun0_B.sl.v859, kernelRun0_B.sl.v858, kernelRun0_B.sl.v856, kernelRun0_B.sl.v853, kernelRun0_B.sl.v852, kernelRun0_B.sl.v851, kernelRun0_B.sl.v849, kernelRun0_B.sl.v898, kernelRun0_B.sl.v897, k0_pay128, k0_pay224, k0_pay255, k0_pay263, put, slab, down, acts, up, hmB, wuB, wdB, Matrix.cons_val, Tile.load, Scalar.ofBits]

/-- The block is the rows after the mixer with the channel mixer's four passes. -/
theorem out_B (h0 h1 h2) : (stepB m c t h0 h1 h2 o).1 = View.canon (block4 (ms0_9 t).view (x1B o) (hmB o) (wuB o) (wdB o)) := by
  unfold stepB
  dsimp only
  rw [View.read_writes_junk_eq_canon, last_B, H9_16_B, H9_15_B, H9_14_B, H9_13_B, H9_12_B, H9_11_B, H9_10_B, H9_9_B, H9_8_B, H9_7_B, H9_6_B, H9_5_B, H9_4_B, H9_3_B, H9_2_B]
  rfl

end Cert.KernelIdeal.Gen

end
-- ==== Proof.IRunC.lean ====
/- The body of the kernel over the extended reals run at the last grid point: what its stores leave. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
set_option maxHeartbeats 20000000 in
/-- What the stores of the body leave in each buffer at the last grid point, with the proof that the body run on these buffers leaves it. -/
noncomputable def kernelRun0_C (c : Dev nD) (i : grid0.Coords) (arg1 : Memref sig .tc .smem S8 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024 .f32) (harg9 : arg9.IsWhole) (arg14 : Memref sig .tc .vmem S512x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S128x512 .bf16) (harg17 : arg17.IsWhole) (arg18 : Memref sig .tc .vmem S8x512 .f32) (harg18 : arg18.IsWhole) (arg19 : Memref sig .tc .vmem S512x1024 .bf16) (harg19 : arg19.IsWhole) (arg20 : Memref sig .tc .vmem S1024x2304 .bf16) (harg20 : arg20.IsWhole) (arg21 : Memref sig .tc .vmem S1024x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S4x512x1024 .f32) (harg24 : arg24.IsWhole) (hc0 : ¬cond0_0 i) (hc1 : ¬cond0_1 i) (hc2 : cond0_2 i)
    (x0 : Vec F S8 .f32) (x1 : Vec F S512x1024 .f32) (x2 : Vec F S1x1024 .f32) (x3 : Vec F S1x64 .f32) (x4 : Vec F S1x64 .f32) (x5 : Vec F S1x3x512 .f32) (x6 : Vec F S1x512 .f32) (x7 : Vec F S1x512 .f32) (x8 : Vec F S1x1024 .f32) (xs0 : Vec F S512x1024 .f32) (xs1 : Vec F S512x1024 .bf16) (xs2 : Vec F S128x512 .bf16) (xs3 : Vec F S8x512 .f32) (xs5 : Vec F S1024x2304 .bf16) (xs6 : Vec F S1024x1024 .bf16) (xs7 : Vec F S1024x4096 .bf16) (xs8 : Vec F S4096x1024 .bf16) (fh0 : HbBuf0 (F := F) c hbM0_0) (fh1 : HbBuf0 (F := F) c hbM0_1) (fh2 : HbBuf0 (F := F) c hbM0_2) (fh3 : HbBuf0 (F := F) c hbM0_3) :
    Σ' (L9 : List (View.Piece (Elt F) S512x1024 .f32)), Σ' (LS0 : List (View.Piece (Elt F) S512x1024 .f32)), Σ' (LS1 : List (View.Piece (Elt F) S512x1024 .bf16)), Σ' (LS2 : List (View.Piece (Elt F) S128x512 .bf16)), Σ' (LS3 : List (View.Piece (Elt F) S8x512 .f32)), Σ' (LS5 : List (View.Piece (Elt F) S1024x2304 .bf16)), Σ' (LS6 : List (View.Piece (Elt F) S1024x1024 .bf16)), Σ' (LS7 : List (View.Piece (Elt F) S1024x4096 .bf16)), Σ' (LS8 : List (View.Piece (Elt F) S4096x1024 .bf16)), { LT4 : List (View.Piece (Elt F) S512x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3 ∗ (∃ d, owns (c : Thread nD τ) arg19 fullShare d) ∗ owns (c : Thread nD τ) arg20 fullShare xs5 ∗ owns (c : Thread nD τ) arg21 fullShare xs6 ∗ owns (c : Thread nD τ) arg22 fullShare xs7 ∗ owns (c : Thread nD τ) arg23 fullShare xs8 ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg14.view.loc (c : Thread nD τ) ↦[arg14.view.set]{fullShare} arg14.view.writes (Elt F) f L9) ∗ owns (c : Thread nD τ) arg15 fullShare xs0 ∗ owns (c : Thread nD τ) arg16 fullShare xs1 ∗ owns (c : Thread nD τ) arg17 fullShare xs2 ∗ owns (c : Thread nD τ) arg18 fullShare xs3 ∗ (∃ d, owns (c : Thread nD τ) arg19 fullShare d) ∗ owns (c : Thread nD τ) arg20 fullShare xs5 ∗ owns (c : Thread nD τ) arg21 fullShare xs6 ∗ owns (c : Thread nD τ) arg22 fullShare xs7 ∗ owns (c : Thread nD τ) arg23 fullShare xs8 ∗ (∃ d, owns (c : Thread nD τ) arg24 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_layer i arg1 harg1 arg2 harg2 arg3 harg3 arg4 harg4 arg5 harg5 arg6 harg6 arg7 harg7 arg8 harg8 arg9 harg9 (Memref.whole main_v2) (Memref.isWhole_whole _) (Memref.whole main_v3) (Memref.isWhole_whole _) (Memref.whole main_v4) (Memref.isWhole_whole _) (Memref.whole main_v5) (Memref.isWhole_whole _) arg14 harg14 arg15 harg15 arg16 harg16 arg17 harg17 arg18 harg18 arg19 harg19 arg20 harg20 arg21 harg21 arg22 harg22 arg23 harg23 arg24 harg24 cc0_scratch10) K } := by
  refine ⟨?_, [], [], [], [], [], [], [], [], [], fun W K => ?run⟩
  case run =>
    simp only [cc0_layer_eq_skeleton]; unfold cc0_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%ds4, %fs4, -, HS4⟩, ⟨%fs5, %hfs5, HS5⟩, ⟨%fs6, %hfs6, HS6⟩, ⟨%fs7, %hfs7, HS7⟩, ⟨%fs8, %hfs8, HS8⟩, ⟨%ds9, %fs9, -, HS9⟩, Hq0, Hq1, Hq2, Hq3, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg15.eq_unread hfs0; obtain rfl := harg16.eq_unread hfs1; obtain rfl := harg17.eq_unread hfs2; obtain rfl := harg18.eq_unread hfs3; obtain rfl := harg20.eq_unread hfs5; obtain rfl := harg21.eq_unread hfs6; obtain rfl := harg22.eq_unread hfs7; obtain rfl := harg23.eq_unread hfs8
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]
    · iexists _; isplitr; · ipureintro; exact harg18.read_unread _
      iexact HS3
    isplitl [HS4]
    · iexists _, _; isplitr; swap; · iexact HS4
      ipureintro; rfl
    isplitl [HS5]
    · iexists _; isplitr; · ipureintro; exact harg20.read_unread _
      iexact HS5
    isplitl [HS6]
    · iexists _; isplitr; · ipureintro; exact harg21.read_unread _
      iexact HS6
    isplitl [HS7]
    · iexists _; isplitr; · ipureintro; exact harg22.read_unread _
      iexact HS7
    isplitl [HS8]
    · iexists _; isplitr; · ipureintro; exact harg23.read_unread _
      iexact HS8
    isplitl [HS9]
    · iexists _, _; isplitr; swap; · iexact HS9
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.IStepC.lean ====
/- The grid of the kernel over the extended reals run point by point: what the buffers hold after each point, and that the arguments are left as they were. -/
module

public import proofs.«01_k».proof.Proof.IOuts
public import proofs.«01_k».proof.Proof.IRunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The run at the last grid point, on the buffers of point `t`. -/
def runC (c : Dev nD) (t : Fin cfg0.N) (h0 : ¬t.val % 65 = 0) (h1 : ¬(1 ≤ t.val % 65 ∧ t.val % 65 ≤ 63)) (h2 : t.val % 65 = 64) (o : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) o.2.1 o.2.2.1 o.2.2.2.1 o.2.2.2.2.1 o.2.2.2.2.2.1 o.2.2.2.2.2.2.1 o.2.2.2.2.2.2.2.1 o.2.2.2.2.2.2.2.2 (V m c main_v2) (V m c main_v3) (V m c main_v4) (V m c main_v5)

theorem cover0_C_9 (c : Dev nD) (t : Fin cfg0.N) (h0 : ¬t.val % 65 = 0) (h1 : ¬(1 ≤ t.val % 65 ∧ t.val % 65 ≤ 63)) (h2 : t.val % 65 = 64) (o : Outs F) (y : S512x1024.Idx) :
    ∃ pc ∈ (runC m c t h0 h1 h2 o).1, y ∈ pc.1.set :=
  View.cover_of_tiledBy (runC m c t h0 h1 h2 o).1 ![512, 256] (by sl_kernel_rfl) y

/-- What the last point leaves over the contents `o` of the buffers. -/
def stepC (c : Dev nD) (t : Fin cfg0.N) (h0 : ¬t.val % 65 = 0) (h1 : ¬(1 ≤ t.val % 65 ∧ t.val % 65 ≤ 63)) (h2 : t.val % 65 = 64) (o : Outs F) : Outs F :=
  (VO0_9.read (Elt F) (VO0_9.writes (Elt F) VO0_9.junk (runC m c t h0 h1 h2 o).1),
    o.2.1,
    o.2.2.1,
    o.2.2.2.1,
    o.2.2.2.2.1,
    o.2.2.2.2.2.1,
    o.2.2.2.2.2.2.1,
    o.2.2.2.2.2.2.2.1,
    o.2.2.2.2.2.2.2.2)

end Cert.KernelIdeal.Gen

end
-- ==== Proof.PassC.lean ====
/- The output block of a last point: each store of the block is one slab of the four passes. -/
module

public import proofs.«01_k».proof.Proof.InB
public import proofs.«01_k».proof.Proof.IStepC

@[expose] public section

set_option maxRecDepth 16384

noncomputable section

open Idealize.ShloMosaic Idealize.ShloMosaic.TcCoe Idealize.SL.Sem

namespace Cert.KernelIdeal.Gen

open Cert.KernelIdeal.Tile

variable (m : (ℓ : Loc nD τ sig) → Buf (Elt Ideal) ℓ) (c : Dev nD) (t : Fin cfg0.N) (o : Outs Ideal)

theorem H9_2_C : kernelRun0_C.sl.H9_2 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_1 (F := Ideal) c scM0_0 (Memref.isWhole_whole _) o.2.1) ![0, 0] inb_S512x1024_S512x256_0_0 (acts (hmB o) (wuB o 0)) (wdB o 0 0) := by
  dsimp only [kernelRun0_C.sl.H9_2, kernelRun0_C.sl.v42, kernelRun0_C.sl.r_4, k0_pay128, k0_pay224, k0_pay258, k0_pay259, k0_pay260, k0_pay261, k0_pay262, k0_pay263, put, slab, down, acts, up, hmB, wuB, wdB, Matrix.cons_val, Tile.load, Scalar.ofBits]

theorem H9_3_C : kernelRun0_C.sl.H9_3 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_2 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 0)) (wdB o 0 1) := by
  dsimp only [kernelRun0_C.sl.H9_3, kernelRun0_C.sl.v49, kernelRun0_C.sl.r_3, kernelRun0_C.sl.r_2, kernelRun0_C.sl.r_1, kernelRun0_C.sl.r, k0_pay128, k0_pay224, k0_pay258, k0_pay259, k0_pay260, k0_pay261, k0_pay263, k0_pay264, put, slab, down, acts, up, hmB, wuB, wdB, Matrix.cons_val, Tile.load, Scalar.ofBits]

theorem H9_4_C : kernelRun0_C.sl.H9_4 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_3 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 0)) (wdB o 0 2) := by
  dsimp only [kernelRun0_C.sl.H9_4, kernelRun0_C.sl.v56, kernelRun0_C.sl.r_3, kernelRun0_C.sl.r_2, kernelRun0_C.sl.r_1, kernelRun0_C.sl.r, k0_pay128, k0_pay224, k0_pay258, k0_pay259, k0_pay260, k0_pay261, k0_pay263, k0_pay265, put, slab, down, acts, up, hmB, wuB, wdB, Matrix.cons_val, Tile.load, Scalar.ofBits]

theorem H9_5_C : kernelRun0_C.sl.H9_5 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_4 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 0)) (wdB o 0 3) := by
  dsimp only [kernelRun0_C.sl.H9_5, kernelRun0_C.sl.v63, kernelRun0_C.sl.r_3, kernelRun0_C.sl.r_2, kernelRun0_C.sl.r_1, kernelRun0_C.sl.r, k0_pay128, k0_pay224, k0_pay258, k0_pay259, k0_pay260, k0_pay261, k0_pay263, k0_pay266, put, slab, down, acts, up, hmB, wuB, wdB, Matrix.cons_val, Tile.load, Scalar.ofBits]

theorem H9_6_C : kernelRun0_C.sl.H9_6 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_5 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 0] inb_S512x1024_S512x256_0_0 (acts (hmB o) (wuB o 1)) (wdB o 1 0) := by
  dsimp only [kernelRun0_C.sl.H9_6, kernelRun0_C.sl.cst_80, kernelRun0_C.sl.r_11, kernelRun0_C.sl.r_10, kernelRun0_C.sl.v98, kernelRun0_C.sl.r_9, k0_pay128, k0_pay224, k0_pay263, k0_pay267, k0_pay268, k0_pay269, k0_pay270, k0_pay271, k0_pay272, k0_pay273, put, slab, down, acts, up, hmB, wuB, wdB, Matrix.cons_val, Tile.load, Scalar.ofBits]

theorem H9_7_C : kernelRun0_C.sl.H9_7 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_6 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 1)) (wdB o 1 1) := by
  dsimp only [kernelRun0_C.sl.H9_7, kernelRun0_C.sl.v105, kernelRun0_C.sl.r_8, kernelRun0_C.sl.r_7, kernelRun0_C.sl.r_6, kernelRun0_C.sl.r_5, k0_pay128, k0_pay224, k0_pay263, k0_pay267, k0_pay268, k0_pay269, k0_pay270, k0_pay274, put, slab, down, acts, up, hmB, wuB, wdB, Matrix.cons_val, Tile.load, Scalar.ofBits]

theorem H9_8_C : kernelRun0_C.sl.H9_8 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_7 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 1)) (wdB o 1 2) := by
  dsimp only [kernelRun0_C.sl.H9_8, kernelRun0_C.sl.v112, kernelRun0_C.sl.r_8, kernelRun0_C.sl.r_7, kernelRun0_C.sl.r_6, kernelRun0_C.sl.r_5, k0_pay128, k0_pay224, k0_pay263, k0_pay267, k0_pay268, k0_pay269, k0_pay270, k0_pay275, put, slab, down, acts, up, hmB, wuB, wdB, Matrix.cons_val, Tile.load, Scalar.ofBits]

theorem H9_9_C : kernelRun0_C.sl.H9_9 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_8 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 1)) (wdB o 1 3) := by
  dsimp only [kernelRun0_C.sl.H9_9, kernelRun0_C.sl.v119, kernelRun0_C.sl.r_8, kernelRun0_C.sl.r_7, kernelRun0_C.sl.r_6, kernelRun0_C.sl.r_5, k0_pay128, k0_pay224, k0_pay263, k0_pay267, k0_pay268, k0_pay269, k0_pay270, k0_pay276, put, slab, down, acts, up, hmB, wuB, wdB, Matrix.cons_val, Tile.load, Scalar.ofBits]

theorem H9_10_C : kernelRun0_C.sl.H9_10 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_9 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 0] inb_S512x1024_S512x256_0_0 (acts (hmB o) (wuB o 2)) (wdB o 2 0) := by
  dsimp only [kernelRun0_C.sl.H9_10, kernelRun0_C.sl.v154, kernelRun0_C.sl.cst_108, kernelRun0_C.sl.r_12, k0_pay128, k0_pay224, k0_pay263, k0_pay277, k0_pay278, k0_pay279, k0_pay280, k0_pay281, k0_pay282, put, slab, down, acts, up, hmB, wuB, wdB, Matrix.cons_val, Tile.load, Scalar.ofBits]

theorem H9_11_C : kernelRun0_C.sl.H9_11 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_10 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 2)) (wdB o 2 1) := by
  dsimp only [kernelRun0_C.sl.H9_11, kernelRun0_C.sl.v161, kernelRun0_C.sl.r_17, kernelRun0_C.sl.cst_108, kernelRun0_C.sl.r_12, k0_pay128, k0_pay224, k0_pay263, k0_pay277, k0_pay278, k0_pay279, k0_pay280, k0_pay281, k0_pay283, k0_pay284, put, slab, down, acts, up, hmB, wuB, wdB, Matrix.cons_val, Tile.load, Scalar.ofBits]

theorem H9_12_C : kernelRun0_C.sl.H9_12 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_11 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 2)) (wdB o 2 2) := by
  dsimp only [kernelRun0_C.sl.H9_12, kernelRun0_C.sl.v168, kernelRun0_C.sl.r_16, kernelRun0_C.sl.r_15, kernelRun0_C.sl.r_14, kernelRun0_C.sl.r_13, kernelRun0_C.sl.cst_108, kernelRun0_C.sl.r_12, k0_pay128, k0_pay224, k0_pay263, k0_pay277, k0_pay278, k0_pay279, k0_pay280, k0_pay281, k0_pay285, put, slab, down, acts, up, hmB, wuB, wdB, Matrix.cons_val, Tile.load, Scalar.ofBits]

theorem H9_13_C : kernelRun0_C.sl.H9_13 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_12 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 2)) (wdB o 2 3) := by
  dsimp only [kernelRun0_C.sl.H9_13, kernelRun0_C.sl.v175, kernelRun0_C.sl.r_16, kernelRun0_C.sl.r_15, kernelRun0_C.sl.r_14, kernelRun0_C.sl.r_13, kernelRun0_C.sl.cst_108, kernelRun0_C.sl.r_12, k0_pay128, k0_pay224, k0_pay263, k0_pay277, k0_pay278, k0_pay279, k0_pay280, k0_pay281, k0_pay286, put, slab, down, acts, up, hmB, wuB, wdB, Matrix.cons_val, Tile.load, Scalar.ofBits]

theorem H9_14_C : kernelRun0_C.sl.H9_14 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_13 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 0] inb_S512x1024_S512x256_0_0 (acts (hmB o) (wuB o 3)) (wdB o 3 0) := by
  dsimp only [kernelRun0_C.sl.H9_14, kernelRun0_C.sl.v210, kernelRun0_C.sl.r_19, kernelRun0_C.sl.r_18, k0_pay128, k0_pay224, k0_pay263, k0_pay287, k0_pay288, k0_pay289, k0_pay290, k0_pay291, put, slab, down, acts, up, hmB, wuB, wdB, Matrix.cons_val, Tile.load, Scalar.ofBits]

theorem H9_15_C : kernelRun0_C.sl.H9_15 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_14 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 256] inb_S512x1024_S512x256_0_256 (acts (hmB o) (wuB o 3)) (wdB o 3 1) := by
  dsimp only [kernelRun0_C.sl.H9_15, kernelRun0_C.sl.r_24, kernelRun0_C.sl.r_19, kernelRun0_C.sl.r_18, kernelRun0_C.sl.r_23, kernelRun0_C.sl.v217, k0_pay128, k0_pay224, k0_pay263, k0_pay287, k0_pay288, k0_pay289, k0_pay290, k0_pay292, k0_pay293, k0_pay4, put, slab, down, acts, up, hmB, wuB, wdB, Matrix.cons_val, Tile.load, Scalar.ofBits]

theorem H9_16_C : kernelRun0_C.sl.H9_16 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2
    = put (ms0_9 t).view (kernelRun0_C.sl.H9_15 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 512] inb_S512x1024_S512x256_0_512 (acts (hmB o) (wuB o 3)) (wdB o 3 2) := by
  dsimp only [kernelRun0_C.sl.H9_16, kernelRun0_C.sl.v224, kernelRun0_C.sl.r_22, kernelRun0_C.sl.r_21, kernelRun0_C.sl.r_20, kernelRun0_C.sl.r_19, kernelRun0_C.sl.r_18, k0_pay128, k0_pay224, k0_pay263, k0_pay287, k0_pay288, k0_pay289, k0_pay290, k0_pay5, put, slab, down, acts, up, hmB, wuB, wdB, Matrix.cons_val, Tile.load, Scalar.ofBits]

theorem last_C (h0 h1 h2) : (runC m c t h0 h1 h2 o).1
    = put (ms0_9 t).view (kernelRun0_C.sl.H9_16 (F := Ideal) c (ms0_9 t) scM0_0 (Memref.isWhole_whole _) scM0_1 (Memref.isWhole_whole _) scM0_7 (Memref.isWhole_whole _) scM0_8 (Memref.isWhole_whole _) o.2.1 o.2.2.1 o.2.2.2.2.2.2.2.1 o.2.2.2.2.2.2.2.2) ![0, 768] inb_S512x1024_S512x256_0_768 (acts (hmB o) (wuB o 3)) (wdB o 3 3) := by
  unfold runC
  delta kernelRun0_C
  dsimp only
  dsimp only [kernelRun0_C.sl.r_18, kernelRun0_C.sl.r_20, kernelRun0_C.sl.r_19, kernelRun0_C.sl.r_21, kernelRun0_C.sl.r_22, kernelRun0_C.sl.v231, k0_pay128, k0_pay224, k0_pay263, k0_pay287, k0_pay288, k0_pay289, k0_pay290, k0_pay6, put, slab, down, acts, up, hmB, wuB, wdB, Matrix.cons_val, Tile.load, Scalar.ofBits]

/-- The block is the rows after the mixer with the channel mixer's four passes. -/
theorem out_C (h0 h1 h2) : (stepC m c t h0 h1 h2 o).1 = View.canon (block4 (ms0_9 t).view (x1B o) (hmB o) (wuB o) (wdB o)) := by
  unfold stepC
  dsimp only
  rw [View.read_writes_junk_eq_canon, last_C, H9_16_C, H9_15_C, H9_14_C, H9_13_C, H9_12_C, H9_11_C, H9_10_C, H9_9_C, H9_8_C, H9_7_C, H9_6_C, H9_5_C, H9_4_C, H9_3_C, H9_2_C]
  rfl

end Cert.KernelIdeal.Gen

end
-- ==== Proof.Carry.lean ====
/- What the buffers hold between two grid points: the rows after the mixer of the last tile, those rows normed, the keys, values and gated
   inputs the next tile needs, and the four matrices. A middle point keeps this and finishes the tile before; the last point finishes the
   last tile. -/
module

public import proofs.«01_k».proof.Proof.MixB
public import proofs.«01_k».proof.Proof.PassB
public import proofs.«01_k».proof.Proof.PassC
public import proofs.«01_k».proof.Proof.Blocks

@[expose] public section

set_option maxRecDepth 16384

noncomputable section

open Idealize.ShloMosaic Idealize.ShloMosaic.TcCoe Idealize.SL.Sem

namespace Cert.KernelIdeal.Gen

open Cert.KernelIdeal.Tile

section Loads

variable {κ : Kind} {sp : Space} {e : EltTy} {Val : EltTy → Type}

theorem load_of {M N m n a b : ℕ} (A : Memref sig κ sp ⟨2, ![M, N]⟩ e) (h : A.IsWhole) (X : (⟨2, ![M, N]⟩ : Shape).Idx → Val e)
    (inb : ∀ i, (![a, b] : Fin 2 → ℕ) i + (![m, n] : Fin 2 → ℕ) i ≤ (![M, N] : Fin 2 → ℕ) i) (r : Fin m) (c : Fin n)
    (R : Fin M) (C : Fin N) (hr : (R : ℕ) = a + r) (hc : (C : ℕ) = b + c) :
    load A h X (Rect.unit (s := ⟨2, ![M, N]⟩) ![a, b] ![m, n] inb) (ix2 r c) = X (ix2 R C) := by
  obtain ⟨R, hR⟩ := R
  obtain ⟨C, hC⟩ := C
  simp only at hr hc
  subst hr hc
  exact load_at A h X inb r c hR hC

theorem load_of3 {L M N l m n a b d : ℕ} (A : Memref sig κ sp ⟨3, ![L, M, N]⟩ e) (h : A.IsWhole) (X : (⟨3, ![L, M, N]⟩ : Shape).Idx → Val e)
    (inb : ∀ i, (![a, b, d] : Fin 3 → ℕ) i + (![l, m, n] : Fin 3 → ℕ) i ≤ (![L, M, N] : Fin 3 → ℕ) i) (q : Fin l) (r : Fin m) (c : Fin n)
    (Q : Fin L) (R : Fin M) (C : Fin N) (hq : (Q : ℕ) = a + q) (hr : (R : ℕ) = b + r) (hc : (C : ℕ) = d + c) :
    load A h X (Rect.unit (s := ⟨3, ![L, M, N]⟩) ![a, b, d] ![l, m, n] inb) (ix3 q r c) = X (ix3 Q R C) := by
  obtain ⟨Q, hQ⟩ := Q
  obtain ⟨R, hR⟩ := R
  obtain ⟨C, hC⟩ := C
  simp only at hq hr hc
  subst hq hr hc
  exact load_at3 A h X inb q r c hQ hR hC

end Loads

/-- The buffers after the tile of the 512 rows from `R0` is mixed. -/
structure Holds (P : Layer.Par) (R0 : ℕ) (o : Outs Ideal) : Prop where
  x1 : ∀ (r : Fin 512) (l : Fin 1024), (o.2.1 (ix2 r l) : EReal) = P.x1 (R0 + r) l
  hm : ∀ (r : Fin 512) (l : Fin 1024), (o.2.2.1 (ix2 r l) : EReal) = P.hm (R0 + r) l
  kv : ∀ (i : Fin 128) (l : Fin 512), (o.2.2.2.1 (ix2 i l) : EReal) = P.kv (R0 + (384 + i)) l
  u : ∀ (i : Fin 8) (l : Fin 512), (o.2.2.2.2.1 (ix2 i l) : EReal) = P.u (R0 + (504 + i)) l
  win : ∀ (k : Fin 1024) (l : Fin 2304), (o.2.2.2.2.2.1 (ix2 k l) : EReal) = P.win k l
  wo : ∀ (k : Fin 1024) (l : Fin 1024), (o.2.2.2.2.2.2.1 (ix2 k l) : EReal) = P.wo k l
  wu : ∀ (k : Fin 1024) (l : Fin 4096), (o.2.2.2.2.2.2.2.1 (ix2 k l) : EReal) = P.wu k l
  wd : ∀ (k : Fin 4096) (l : Fin 1024), (o.2.2.2.2.2.2.2.2 (ix2 k l) : EReal) = P.wd k l

section Parts

variable {T : In} {P : Layer.Par} {R0 : ℕ}

theorem kv_part (H : T.Of P R0) (i : Fin 128) (l : Fin 512) : (k0_pay157 (F := Ideal) T.v T.kn (ix2 i l) : EReal) = P.kv (R0 + (384 + i)) l := by
  have h := H.kv_at ⟨384 + i, by omega⟩ l
  unfold In.kv at h
  refine Eq.trans ?_ h
  unfold k0_pay157
  generalize k0_pay156 (F := Ideal) T.v T.kn = X
  pointwise

theorem u_part (H : T.Of P R0) (i : Fin 8) (l : Fin 512) :
    (k0_pay161 (F := Ideal) (k0_pay147 (F := Ideal) T.h T.wc) (k0_pay147 (F := Ideal) T.h T.wi) (ix2 i l) : EReal) = P.u (R0 + (504 + i)) l := by
  have h := H.u_at ⟨504 + i, by omega⟩ l
  unfold In.u at h
  refine Eq.trans ?_ h
  unfold k0_pay161
  generalize k0_pay158 (F := Ideal) (k0_pay147 (F := Ideal) T.h T.wc) (k0_pay147 (F := Ideal) T.h T.wi) = X
  pointwise

end Parts

variable (m : (ℓ : Loc nD τ sig) → Buf (Elt Ideal) ℓ) (c : Dev nD) (t : Fin cfg0.N) (o : Outs Ideal)

theorem g2B_at (l : Fin 1024) : (g2B m c t (ix2 0 l) : EReal) = (par m c).g2 l :=
  Eq.trans (load_of (ms0_8 t) (hs0_8 t) (iblk m c 8 t) _ 0 l 0 l (by simp) (by simp)) (g2_blk m c t l)

set_option maxHeartbeats 1000000 in
/-- What a middle point reads is the layer at its tile. -/
theorem inB_of (h : 1 ≤ t.val ∧ t.val ≤ 63) (H : Holds (par m c) (512 * (t.val - 1)) o) : (inB m c t o).Of (par m c) (512 * t.val) where
  tile := by omega
  x r l := Eq.trans (load_of (ms0_1 t) (hs0_1 t) (iblk m c 1 t) _ r l r l (by simp) (by simp)) (x_blk m c t (by omega) r l)
  g1 l := Eq.trans (load_of (ms0_2 t) (hs0_2 t) (iblk m c 2 t) _ 0 l 0 l (by simp) (by simp)) (g1_blk m c t l)
  wq k l := Eq.trans (load_of scM0_5 (Memref.isWhole_whole _) o.2.2.2.2.2.1 _ k l k ⟨l, by omega⟩ (by simp) (by simp)) (H.win k _)
  wkv k l := Eq.trans (load_of scM0_5 (Memref.isWhole_whole _) o.2.2.2.2.2.1 _ k l k ⟨512 + l, by omega⟩ (by simp) rfl) (H.win k _)
  wb k l := Eq.trans (load_of scM0_5 (Memref.isWhole_whole _) o.2.2.2.2.2.1 _ k l k ⟨768 + l, by omega⟩ (by simp) rfl) (H.win k _)
  wc k l := Eq.trans (load_of scM0_5 (Memref.isWhole_whole _) o.2.2.2.2.2.1 _ k l k ⟨1280 + l, by omega⟩ (by simp) rfl) (H.win k _)
  wi k l := Eq.trans (load_of scM0_5 (Memref.isWhole_whole _) o.2.2.2.2.2.1 _ k l k ⟨1792 + l, by omega⟩ (by simp) rfl) (H.win k _)
  gq l := Eq.trans (load_of (ms0_3 t) (hs0_3 t) (iblk m c 3 t) _ 0 l 0 l (by simp) (by simp)) (gq_blk m c t l)
  gk l := Eq.trans (load_of (ms0_4 t) (hs0_4 t) (iblk m c 4 t) _ 0 l 0 l (by simp) (by simp)) (gk_blk m c t l)
  b := (begins_eq t).trans (congrArg BitVec.ofBool (decide_eq_decide.mpr (by omega)))
  kvp _ i l := Eq.trans (load_of scM0_2 (Memref.isWhole_whole _) o.2.2.2.1 _ i l i l (by simp) (by simp)) ((H.kv i l).trans (by congr 1; omega))
  ut _ i l := Eq.trans (load_of scM0_3 (Memref.isWhole_whole _) o.2.2.2.2.1 _ i l i l (by simp) (by simp)) ((H.u i l).trans (by congr 1; omega))
  c0 l := Eq.trans (load_of3 (ms0_5 t) (hs0_5 t) (iblk m c 5 t) _ 0 0 l 0 0 l (by simp) (by simp) (by simp)) (cw_blk m c t 0 l)
  c1 l := Eq.trans (load_of3 (ms0_5 t) (hs0_5 t) (iblk m c 5 t) _ 0 0 l 0 1 l (by simp) (by simp) (by simp)) (cw_blk m c t 1 l)
  c2 l := Eq.trans (load_of3 (ms0_5 t) (hs0_5 t) (iblk m c 5 t) _ 0 0 l 0 2 l (by simp) (by simp) (by simp)) (cw_blk m c t 2 l)
  gc l := Eq.trans (load_of (ms0_6 t) (hs0_6 t) (iblk m c 6 t) _ 0 l 0 l (by simp) (by simp)) (gc_blk m c t l)
  ga l := Eq.trans (load_of (ms0_7 t) (hs0_7 t) (iblk m c 7 t) _ 0 l 0 l (by simp) (by simp)) (ga_blk m c t l)
  sk i := by
    fin_cases i <;> exact (sink_eq (ms0_0 t) (hs0_0 t) (iblk m c 0 t) _ (by decide) _).trans (sinks_blk m c t _)

variable {P : Layer.Par} {R0 : ℕ}

theorem wuB_at (H : Holds P R0 o) (i g : Fin 4) (k : Fin 1024) (l : Fin 256) :
    (wuB o i g (ix2 k l) : EReal) = P.wu k (1024 * i + (256 * g + l)) := by
  refine Eq.trans ?_ (H.wu k ⟨1024 * i + (256 * g + l), by omega⟩)
  unfold wuB
  generalize o.2.2.2.2.2.2.2.1 = X
  fin_cases i <;> fin_cases g <;> exact load_of (Val := Elt Ideal) scM0_7 (Memref.isWhole_whole _) X _ k l k _ (by simp) (by simp; try omega)

theorem wdB_at (H : Holds P R0 o) (i j : Fin 4) (k : Fin 1024) (l : Fin 256) :
    (wdB o i j (ix2 k l) : EReal) = P.wd (1024 * i + k) (256 * j + l) := by
  refine Eq.trans ?_ (H.wd ⟨1024 * i + k, by omega⟩ ⟨256 * j + l, by omega⟩)
  unfold wdB
  generalize o.2.2.2.2.2.2.2.2 = X
  fin_cases i <;> fin_cases j <;> exact load_of (Val := Elt Ideal) scM0_8 (Memref.isWhole_whole _) X _ k l _ _ (by simp) (by simp)

/-- What finishes a tile is the channel mixer of the layer. -/
theorem finish_at (v : View sig .tc .vmem S512x1024 .f32) (H : Holds P R0 o) (r : Fin 512) (l : Fin 1024) :
    (View.canon (block4 v (x1B o) (hmB o) (wuB o) (wdB o)) (ix2 r l) : EReal) = P.out (R0 + r) l :=
  block4_at v (x1B o) (hmB o) (wuB o) (wdB o)
    (fun r l => by unfold x1B; exact Eq.trans (load_of scM0_0 (Memref.isWhole_whole _) o.2.1 _ r l r l (by simp) (by simp)) (H.x1 r l))
    (fun r l => by unfold hmB; exact Eq.trans (load_of scM0_1 (Memref.isWhole_whole _) o.2.2.1 _ r l r l (by simp) (by simp)) (H.hm r l))
    (wuB_at o H) (wdB_at o H) r l

variable (h0 : ¬t.val % 65 = 0)

theorem out_B_at (h1 : (1 ≤ t.val % 65 ∧ t.val % 65 ≤ 63)) (h2 : ¬t.val % 65 = 64) (H : Holds P R0 o) (r : Fin 512) (l : Fin 1024) :
    ((stepB m c t h0 h1 h2 o).1 (ix2 r l) : EReal) = P.out (R0 + r) l := by
  rw [out_B m c t o h0 h1 h2]
  exact finish_at o _ H r l

theorem out_C_at (h1 : ¬(1 ≤ t.val % 65 ∧ t.val % 65 ≤ 63)) (h2 : t.val % 65 = 64) (H : Holds P R0 o) (r : Fin 512) (l : Fin 1024) :
    ((stepC m c t h0 h1 h2 o).1 (ix2 r l) : EReal) = P.out (R0 + r) l := by
  rw [out_C m c t o h0 h1 h2]
  exact finish_at o _ H r l

/-- A middle point leaves the buffers ready for the point after. -/
theorem holds_B (h1 : (1 ≤ t.val % 65 ∧ t.val % 65 ≤ 63)) (h2 : ¬t.val % 65 = 64) (H : Holds (par m c) (512 * (t.val - 1)) o) :
    Holds (par m c) (512 * t.val) (stepB m c t h0 h1 h2 o) := by
  have hN : t.val < 65 := lt_of_lt_of_eq t.isLt N_0
  have ht : 1 ≤ t.val ∧ t.val ≤ 63 := by omega
  have O := inB_of m c t o ht H
  have hx := fun r l => mixed_at O scM0_4.view scM0_4.view
    (load scM0_6 (Memref.isWhole_whole _) o.2.2.2.2.2.2.1 (Rect.unit (s := S1024x1024) ![512, 0] S512x1024.size inb_S1024x1024_S512x1024_512_0))
    (load scM0_6 (Memref.isWhole_whole _) o.2.2.2.2.2.2.1 (Rect.unit (s := S1024x1024) ![0, 0] S512x1024.size inb_S1024x1024_S512x1024_0_0))
    (fun k l => Eq.trans (load_of scM0_6 (Memref.isWhole_whole _) o.2.2.2.2.2.2.1 _ k l ⟨512 + k, by omega⟩ l rfl (by simp)) (H.wo _ l))
    (fun k l => Eq.trans (load_of scM0_6 (Memref.isWhole_whole _) o.2.2.2.2.2.2.1 _ k l ⟨k, by omega⟩ l (by simp) (by simp)) (H.wo _ l)) r l
  refine ⟨fun r l => ?_, fun r l => ?_, fun i l => ?_, fun i l => ?_, H.win, H.wo, H.wu, H.wd⟩
  · rw [x1_B m c t o h0 h1 h2]
    refine Eq.trans ?_ (hx r l)
    unfold k0_pay256
    pointwise
  · rw [hm_B m c t o h0 h1 h2]
    refine Eq.trans ?_ (hm_at _ _ hx (g2B_at m c t) r l)
    unfold k0_pay3
    pointwise
  · rw [kv_B m c t o h0 h1 h2]
    exact kv_part O i l
  · rw [u_B m c t o h0 h1 h2]
    exact u_part O i l

end Cert.KernelIdeal.Gen

end
-- ==== Proof.CarryA.lean ====
/- The first point of the grid leaves the buffers ready for the second: its tile is mixed as every other tile is, with no rows before it, and
   the four matrices are in place. -/
module

public import proofs.«01_k».proof.Proof.MixA
public import proofs.«01_k».proof.Proof.IStepA
public import proofs.«01_k».proof.Proof.WeightsA
public import proofs.«01_k».proof.Proof.Carry

@[expose] public section

set_option maxRecDepth 16384

noncomputable section

open Idealize.ShloMosaic Idealize.ShloMosaic.TcCoe Idealize.SL.Sem

namespace Cert.KernelIdeal.Gen

open Cert.KernelIdeal.Tile

variable (m : (ℓ : Loc nD τ sig) → Buf (Elt Ideal) ℓ) (c : Dev nD) (t : Fin cfg0.N) (d9 : Vec Ideal S4x512x1024 .f32)

theorem win_cols {n b : ℕ} (inb : ∀ i, (![0, b] : Fin 2 → ℕ) i + (![1024, n] : Fin 2 → ℕ) i ≤ (![1024, 2304] : Fin 2 → ℕ) i)
    (k : Fin 1024) (l : Fin n) (C : Fin 2304) (h : (C : ℕ) = b + l) :
    (scM0_5.view.readCov (kernelRun0_A.sl.HS5_6 (F := Ideal) c scM0_9 (Memref.isWhole_whole _) d9 (V m c main_v2) (V m c main_v3))
      (Rect.unit (s := ⟨2, ![1024, 2304]⟩) ![0, b] ![1024, n] inb).toLoadRect (ix2 k l) : EReal) = (par m c).win k C := by
  obtain ⟨C, hC⟩ := C
  simp only at h
  subst h
  refine Eq.trans (readCov_at scM0_5.view _ inb k l (by omega) hC) ((win_canon m c d9 _).trans ?_)
  refine Eq.trans ?_ (win_arr m c k ⟨b + l, hC⟩)
  congr 2
  exact Fin.ext (by simp)

theorem wo_rows {a : ℕ} (inb : ∀ i, (![a, 0] : Fin 2 → ℕ) i + (![512, 1024] : Fin 2 → ℕ) i ≤ (![1024, 1024] : Fin 2 → ℕ) i)
    (k : Fin 512) (l : Fin 1024) (R : Fin 1024) (h : (R : ℕ) = a + k) :
    (scM0_6.view.readCov (kernelRun0_A.sl.HS6_2 (F := Ideal) c scM0_9 (Memref.isWhole_whole _) d9 (V m c main_v2) (V m c main_v3))
      (Rect.unit (s := ⟨2, ![1024, 1024]⟩) ![a, 0] ![512, 1024] inb).toLoadRect (ix2 k l) : EReal) = (par m c).wo R l := by
  obtain ⟨R, hR⟩ := R
  simp only at h
  subst h
  refine Eq.trans (readCov_at scM0_6.view _ inb k l hR (by omega)) ((wo_canon m c d9 _).trans ?_)
  refine Eq.trans ?_ (wo_arr m c ⟨a + k, hR⟩ l)
  congr 2
  exact Fin.ext (by simp)

set_option maxHeartbeats 1000000 in
/-- What the first point reads is the layer at its tile. -/
theorem inA_of (ht : t.val = 0) : (inA m c t d9).Of (par m c) (512 * t.val) where
  tile := by omega
  x r l := Eq.trans (load_of (ms0_1 t) (hs0_1 t) (iblk m c 1 t) _ r l r l (by simp) (by simp)) (x_blk m c t (by omega) r l)
  g1 l := Eq.trans (load_of (ms0_2 t) (hs0_2 t) (iblk m c 2 t) _ 0 l 0 l (by simp) (by simp)) (g1_blk m c t l)
  wq k l := by
    unfold inA
    dsimp only [kernelRun0_A.sl.v247]
    exact win_cols m c d9 _ k l ⟨l, by omega⟩ (by simp)
  wkv k l := by
    unfold inA
    dsimp only [kernelRun0_A.sl.v249]
    exact win_cols m c d9 _ k l ⟨512 + l, by omega⟩ (by simp)
  wb k l := by
    unfold inA
    dsimp only [kernelRun0_A.sl.v348]
    exact win_cols m c d9 _ k l ⟨768 + l, by omega⟩ (by simp)
  wc k l := by
    unfold inA
    dsimp only [kernelRun0_A.sl.v344]
    exact win_cols m c d9 _ k l ⟨1280 + l, by omega⟩ (by simp)
  wi k l := by
    unfold inA
    dsimp only [kernelRun0_A.sl.v346]
    exact win_cols m c d9 _ k l ⟨1792 + l, by omega⟩ (by simp)
  gq l := Eq.trans (load_of (ms0_3 t) (hs0_3 t) (iblk m c 3 t) _ 0 l 0 l (by simp) (by simp)) (gq_blk m c t l)
  gk l := Eq.trans (load_of (ms0_4 t) (hs0_4 t) (iblk m c 4 t) _ 0 l 0 l (by simp) (by simp)) (gk_blk m c t l)
  b := by rw [ht]; rfl
  kvp h := absurd (by rw [ht]) h
  ut h := absurd (by rw [ht]) h
  c0 l := Eq.trans (load_of3 (ms0_5 t) (hs0_5 t) (iblk m c 5 t) _ 0 0 l 0 0 l (by simp) (by simp) (by simp)) (cw_blk m c t 0 l)
  c1 l := Eq.trans (load_of3 (ms0_5 t) (hs0_5 t) (iblk m c 5 t) _ 0 0 l 0 1 l (by simp) (by simp) (by simp)) (cw_blk m c t 1 l)
  c2 l := Eq.trans (load_of3 (ms0_5 t) (hs0_5 t) (iblk m c 5 t) _ 0 0 l 0 2 l (by simp) (by simp) (by simp)) (cw_blk m c t 2 l)
  gc l := Eq.trans (load_of (ms0_6 t) (hs0_6 t) (iblk m c 6 t) _ 0 l 0 l (by simp) (by simp)) (gc_blk m c t l)
  ga l := Eq.trans (load_of (ms0_7 t) (hs0_7 t) (iblk m c 7 t) _ 0 l 0 l (by simp) (by simp)) (ga_blk m c t l)
  sk i := by
    fin_cases i <;> exact (sink_eq (ms0_0 t) (hs0_0 t) (iblk m c 0 t) _ (by decide) _).trans (sinks_blk m c t _)

variable (h0 : t.val % 65 = 0) (h1 : ¬(1 ≤ t.val % 65 ∧ t.val % 65 ≤ 63)) (h2 : ¬t.val % 65 = 64)

/-- The rows after the mixer, at the first point. -/
def x1A : S512x1024.Idx → EReal :=
  after (k0_pay133 (F := Ideal) (inA m c t d9).x)
    (scM0_4.view.readCov (halves (inA m c t d9)) (Rect.unit (s := S512x1024) ![0, 512] S512x512.size inb_S512x1024_S512x512_0_512).toLoadRect)
    (scM0_4.view.readCov (halves (inA m c t d9)) (Rect.unit (s := S512x1024) ![0, 0] S512x512.size inb_S512x1024_S512x512_0_0).toLoadRect)
    (kernelRun0_A.sl.v1029 (F := Ideal) c scM0_6 scM0_9 (Memref.isWhole_whole _) d9 (V m c main_v2) (V m c main_v3))
    (kernelRun0_A.sl.v1055 (F := Ideal) c scM0_6 scM0_9 (Memref.isWhole_whole _) d9 (V m c main_v2) (V m c main_v3))

theorem x1A_at (ht : t.val = 0) (r : Fin 512) (l : Fin 1024) : (x1A m c t d9 (ix2 r l) : EReal) = (par m c).x1 (512 * t.val + r) l :=
  mixed_at (inA_of m c t d9 ht) scM0_4.view scM0_4.view _ _
    (fun k l => by dsimp only [kernelRun0_A.sl.v1029]; exact wo_rows m c d9 _ k l ⟨512 + k, by omega⟩ rfl)
    (fun k l => by dsimp only [kernelRun0_A.sl.v1055]; exact wo_rows m c d9 _ k l ⟨k, by omega⟩ (by simp)) r l

theorem x1_A : (stepA9 m c t h0 h1 h2 d9).2.1 = k0_pay1 (F := Ideal) (x1A m c t d9) := by
  unfold stepA9
  dsimp only
  unfold runA
  delta kernelRun0_A
  dsimp only
  rw [View.read_writes_junk_eq_canon, View.canon_cons_unit_lit _ _ _ (by decide)]
  rw [mixed_eqA m c t d9]
  rfl

theorem hm_A : (stepA9 m c t h0 h1 h2 d9).2.2.1 = k0_pay2 (F := Ideal) (x1A m c t d9) (g2B m c t) := by
  unfold stepA9
  dsimp only
  unfold runA
  delta kernelRun0_A
  dsimp only
  rw [View.read_writes_junk_eq_canon, View.canon_cons_unit_lit _ _ _ (by decide)]
  rw [mixed_eqA m c t d9]
  rfl

theorem kv_A : (stepA9 m c t h0 h1 h2 d9).2.2.2.1 = k0_pay157 (F := Ideal) (inA m c t d9).v (inA m c t d9).kn := by
  unfold stepA9
  dsimp only
  unfold runA
  delta kernelRun0_A
  dsimp only
  rw [View.read_writes_junk_eq_canon, View.canon_cons_unit_lit _ _ _ (by decide)]
  rw [r_7_eqA m c t d9, r_19_eqA m c t d9]
  rfl

theorem u_A : (stepA9 m c t h0 h1 h2 d9).2.2.2.2.1
    = k0_pay161 (k0_pay147 (F := Ideal) (inA m c t d9).h (inA m c t d9).wc) (k0_pay147 (F := Ideal) (inA m c t d9).h (inA m c t d9).wi) := by
  unfold stepA9
  dsimp only
  unfold runA
  delta kernelRun0_A
  dsimp only
  rw [View.read_writes_junk_eq_canon, View.canon_cons_unit_lit _ _ _ (by decide)]
  rw [r_15_eqA m c t d9, r_16_eqA m c t d9]
  rfl

theorem win_A : (stepA9 m c t h0 h1 h2 d9).2.2.2.2.2.1
    = View.canon (kernelRun0_A.sl.HS5_6 (F := Ideal) c scM0_9 (Memref.isWhole_whole _) d9 (V m c main_v2) (V m c main_v3)) := by
  unfold stepA9
  dsimp only
  unfold runA
  delta kernelRun0_A
  dsimp only
  rw [View.read_writes_junk_eq_canon]

theorem wo_A : (stepA9 m c t h0 h1 h2 d9).2.2.2.2.2.2.1
    = View.canon (kernelRun0_A.sl.HS6_2 (F := Ideal) c scM0_9 (Memref.isWhole_whole _) d9 (V m c main_v2) (V m c main_v3)) := by
  unfold stepA9
  dsimp only
  unfold runA
  delta kernelRun0_A
  dsimp only
  rw [View.read_writes_junk_eq_canon]

theorem wu_A (y : S1024x4096.Idx) : (stepA9 m c t h0 h1 h2 d9).2.2.2.2.2.2.2.1 y = V m c main_v4 y := by
  unfold stepA9
  dsimp only
  unfold runA
  delta kernelRun0_A
  dsimp only
  rw [View.read_writes_junk_eq_canon]
  dsimp only [kernelRun0_A.sl.r_2]
  rw [v616_A m c d9, v600_A m c d9, v509_A m c d9, v493_A m c d9, v220_A m c d9, v204_A m c d9, v188_A m c d9, v172_A m c d9]
  refine View.canon_eq_of_allAt _ _ _ (View.cover_of_tiledBy _ ![512, 1024] (by sl_kernel_rfl) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  refine View.allAt_cons_unit _ _ _ _ _ (tile_of _ _ (V m c main_v4) (fun x => piece_at _ _ x) y) ?_
  exact View.allAt_nil _ _

theorem wd_A (y : S4096x1024.Idx) : (stepA9 m c t h0 h1 h2 d9).2.2.2.2.2.2.2.2 y = V m c main_v5 y := by
  unfold stepA9
  dsimp only
  unfold runA
  delta kernelRun0_A
  dsimp only
  rw [View.read_writes_junk_eq_canon]
  rw [v1048_A m c d9, v1037_A m c d9, v961_A m c d9, v950_A m c d9, v873_A m c d9, v857_A m c d9, v745_A m c d9, v729_A m c d9]
  refine View.canon_eq_of_allAt _ _ _ (View.cover_of_tiledBy _ ![512, 1024] (by sl_kernel_rfl) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  refine View.allAt_cons_unit _ _ _ _ _ (tile_of _ _ (V m c main_v5) (fun x => piece_at _ _ x) y) ?_
  exact View.allAt_nil _ _

/-- The first point leaves the buffers ready for the point after, whatever they held before. -/
theorem holds_A9 (d9 : Vec Ideal S4x512x1024 .f32) : Holds (par m c) (512 * t.val) (stepA9 m c t h0 h1 h2 d9) := by
  have hN : t.val < 65 := lt_of_lt_of_eq t.isLt N_0
  have ht : t.val = 0 := by omega
  have O := inA_of m c t d9 ht
  have hx := x1A_at m c t d9 ht
  refine ⟨fun r l => ?_, fun r l => ?_, fun i l => ?_, fun i l => ?_, fun k l => ?_, fun k l => ?_, fun k l => ?_, fun k l => ?_⟩
  · rw [x1_A m c t d9 h0 h1 h2]
    refine Eq.trans ?_ (hx r l)
    generalize x1A m c t d9 = X
    unfold k0_pay1
    pointwise
  · rw [hm_A m c t d9 h0 h1 h2]
    refine Eq.trans ?_ (hm_at _ _ hx (g2B_at m c t) r l)
    show (k0_pay3 (F := Ideal) (k0_pay257 (F := Ideal) (x1A m c t d9) (g2B m c t)) (ix2 r l) : EReal) = _
    generalize k0_pay257 (F := Ideal) (x1A m c t d9) (g2B m c t) = X
    unfold k0_pay3
    pointwise
  · rw [kv_A m c t d9 h0 h1 h2]
    exact kv_part O i l
  · rw [u_A m c t d9 h0 h1 h2]
    exact u_part O i l
  · rw [win_A m c t d9 h0 h1 h2]
    exact (win_canon m c d9 _).trans (win_arr m c k l)
  · rw [wo_A m c t d9 h0 h1 h2]
    exact (wo_canon m c d9 _).trans (wo_arr m c k l)
  · exact (wu_A m c t d9 h0 h1 h2 _).trans (wu_arr m c k l)
  · exact (wd_A m c t d9 h0 h1 h2 _).trans (wd_arr m c k l)

/-- The first point leaves the buffers ready for the point after. -/
theorem holds_A : Holds (par m c) (512 * t.val) (stepA m c t h0 h1 h2) := by
  unfold stepA
  exact holds_A9 m c t h0 h1 h2 _

end Cert.KernelIdeal.Gen

end
-- ==== Proof.IFrame.lean ====
/- The grid of the kernel over the extended reals run point by point: what the buffers hold after each point, and that the arguments are left as they were. -/
module

public import proofs.«01_k».proof.Proof.IStepA
public import proofs.«01_k».proof.Proof.IStepB
public import proofs.«01_k».proof.Proof.IStepC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the buffers hold after point `n`. -/
def outsAt0 (c : Dev nD) : (n : ℕ) → n < cfg0.N → Outs F
  | 0, hn => stepA m c ⟨0, hn⟩ (Nat.zero_mod _) (by show ¬(1 ≤ 0 % 65 ∧ 0 % 65 ≤ 63); decide) (by show ¬0 % 65 = 64; decide)
  | n + 1, hn =>
    if h0 : (n + 1) % 65 = 0 then
      if h1 : (1 ≤ (n + 1) % 65 ∧ (n + 1) % 65 ≤ 63) then
        False.elim (by have hN : n + 1 < 65 := lt_of_lt_of_eq hn (show cfg0.N = 65 from N_0); omega)
      else
        if h2 : (n + 1) % 65 = 64 then
          False.elim (by have hN : n + 1 < 65 := lt_of_lt_of_eq hn (show cfg0.N = 65 from N_0); omega)
        else
          stepA m c ⟨n + 1, hn⟩ h0 h1 h2
    else
      if h1 : (1 ≤ (n + 1) % 65 ∧ (n + 1) % 65 ≤ 63) then
        if h2 : (n + 1) % 65 = 64 then
          False.elim (by have hN : n + 1 < 65 := lt_of_lt_of_eq hn (show cfg0.N = 65 from N_0); omega)
        else
          stepB m c ⟨n + 1, hn⟩ h0 h1 h2 (outsAt0 c n (Nat.lt_of_succ_lt hn))
      else
        if h2 : (n + 1) % 65 = 64 then
          stepC m c ⟨n + 1, hn⟩ h0 h1 h2 (outsAt0 c n (Nat.lt_of_succ_lt hn))
        else
          False.elim (by have hN : n + 1 < 65 := lt_of_lt_of_eq hn (show cfg0.N = 65 from N_0); omega)

theorem outsAt0_A (c : Dev nD) (t : Fin cfg0.N) (h0 : t.val % 65 = 0) (h1 : ¬(1 ≤ t.val % 65 ∧ t.val % 65 ≤ 63)) (h2 : ¬t.val % 65 = 64) :
    outsAt0 m c t.val t.isLt = stepA m c t h0 h1 h2 := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 65 = 0) (h1 : (1 ≤ t.val % 65 ∧ t.val % 65 ≤ 63)) (h2 : ¬t.val % 65 = 64) :
    outsAt0 m c t.val t.isLt = stepB m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 65 = 0) (h1 : ¬(1 ≤ t.val % 65 ∧ t.val % 65 ≤ 63)) (h2 : t.val % 65 = 64) :
    outsAt0 m c t.val t.isLt = stepC m c t h0 h1 h2 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ (∃ d, owns (c : Thread nD τ) scM0_4 fullShare d) ∗ owns (c : Thread nD τ) scM0_5 fullShare ((outsAt0 m c n hn).2.2.2.2.2.1) ∗ owns (c : Thread nD τ) scM0_6 fullShare ((outsAt0 m c n hn).2.2.2.2.2.2.1) ∗ owns (c : Thread nD τ) scM0_7 fullShare ((outsAt0 m c n hn).2.2.2.2.2.2.2.1) ∗ owns (c : Thread nD τ) scM0_8 fullShare ((outsAt0 m c n hn).2.2.2.2.2.2.2.2) ∗ (∃ d, owns (c : Thread nD τ) scM0_9 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v2) ∗ hbPt0 c hbM0_1 (V m c main_v3) ∗ hbPt0 c hbM0_2 (V m c main_v4) ∗ hbPt0 c hbM0_3 (V m c main_v5)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ (∃ d, owns (c : Thread nD τ) scM0_4 fullShare d) ∗ owns (c : Thread nD τ) scM0_5 fullShare ((outsAt0 m c n hn).2.2.2.2.2.1) ∗ owns (c : Thread nD τ) scM0_6 fullShare ((outsAt0 m c n hn).2.2.2.2.2.2.1) ∗ owns (c : Thread nD τ) scM0_7 fullShare ((outsAt0 m c n hn).2.2.2.2.2.2.2.1) ∗ owns (c : Thread nD τ) scM0_8 fullShare ((outsAt0 m c n hn).2.2.2.2.2.2.2.2) ∗ (∃ d, owns (c : Thread nD τ) scM0_9 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v2) ∗ hbPt0 c hbM0_1 (V m c main_v3) ∗ hbPt0 c hbM0_2 (V m c main_v4) ∗ hbPt0 c hbM0_3 (V m c main_v5))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ (∃ d, owns (c : Thread nD τ) scM0_4 fullShare d) ∗ owns (c : Thread nD τ) scM0_5 fullShare ((outsAt0 m c (n - 1) (by omega)).2.2.2.2.2.1) ∗ owns (c : Thread nD τ) scM0_6 fullShare ((outsAt0 m c (n - 1) (by omega)).2.2.2.2.2.2.1) ∗ owns (c : Thread nD τ) scM0_7 fullShare ((outsAt0 m c (n - 1) (by omega)).2.2.2.2.2.2.2.1) ∗ owns (c : Thread nD τ) scM0_8 fullShare ((outsAt0 m c (n - 1) (by omega)).2.2.2.2.2.2.2.2) ∗ (∃ d, owns (c : Thread nD τ) scM0_9 fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_v2) ∗ hbPt0 c hbM0_1 (V m c main_v3) ∗ hbPt0 c hbM0_2 (V m c main_v4) ∗ hbPt0 c hbM0_3 (V m c main_v5))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 65 := lt_of_lt_of_eq t.isLt (show cfg0.N = 65 from N_0)
  by_cases h0 : t.val % 65 = 0
  · by_cases h1 : (1 ≤ t.val % 65 ∧ t.val % 65 ≤ 63)
    · exfalso; omega
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [Dat.leavesExact_idle (dats m 0 c) 9 t (idleAt0_9_A t ((hcond0_0 t).mpr h0) (fun h => h1 ((hcond0_1 t).mp h)) (fun h => h2 ((hcond0_2 t).mp h))) (noFlush0_9_A t ((hcond0_0 t).mpr h0) (fun h => h1 ((hcond0_1 t).mp h)) (fun h => h2 ((hcond0_2 t).mp h)))]
        by_cases hz : t.val = 0
        · rw [PhiS_castSucc m c t, PhiS_zero m c _ _ hz, PhiD0_eq]
          rw [outsAt0_A m c t h0 h1 h2]
          iintro ⟨⟨⟨HS0, HS1, HS2, HS3, HS4, HS5, HS6, HS7, HS8, ⟨%e9, HS9⟩⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          rw [show stepA m c t h0 h1 h2 = stepA9 m c t h0 h1 h2 e9 from stepA9_any m c t h0 h1 h2 _ e9]
          unfold stepA9; (try dsimp only)
          iapply ((runA m c t h0 h1 h2 e9).2.2.2.2.2.2.2.2.2.2 _ W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [Hq0]; · iexact Hq0
          isplitl [Hq1]; · iexact Hq1
          isplitl [Hq2]; · iexact Hq2
          isplitl [Hq3]; · iexact Hq3
          isplitl [Hh0]; · iexact Hh0
          isplitl [Hh1]; · iexact Hh1
          isplitl [Hh2]; · iexact Hh2
          isplitl [Hh3]; · iexact Hh3
          isplitl [HW]; · iexact HW
          iintro ⟨H0, H1, H2, H3, H4, H5, H6, H7, H8, H9, ⟨%es0, HS0⟩, ⟨%es1, HS1⟩, ⟨%es2, HS2⟩, ⟨%es3, HS3⟩, HS4, ⟨%es5, HS5⟩, ⟨%es6, HS6⟩, ⟨%es7, HS7⟩, ⟨%es8, HS8⟩, HS9, Hq0, Hq1, Hq2, Hq3, Hh0, Hh1, Hh2, Hh3, ⟨%W', HW'⟩⟩
          isplitl [HS0 HS1 HS2 HS3 HS4 HS5 HS6 HS7 HS8 HS9 Hg Hq0 Hq1 Hq2 Hq3 Hh0 Hh1 Hh2 Hh3]
          · isplitl [HS0 HS1 HS2 HS3 HS4 HS5 HS6 HS7 HS8 HS9]
            · isplitl [HS0]
              · unfold owns; iexists _; isplitr
                swap; · iexact HS0
                ipureintro; exact View.read_writes_of_cover _ _ _ _ _ (scover0_A_0 m c t h0 h1 h2 e9)
              isplitl [HS1]
              · unfold owns; iexists _; isplitr
                swap; · iexact HS1
                ipureintro; exact View.read_writes_of_cover _ _ _ _ _ (scover0_A_1 m c t h0 h1 h2 e9)
              isplitl [HS2]
              · unfold owns; iexists _; isplitr
                swap; · iexact HS2
                ipureintro; exact View.read_writes_of_cover _ _ _ _ _ (scover0_A_2 m c t h0 h1 h2 e9)
              isplitl [HS3]
              · unfold owns; iexists _; isplitr
                swap; · iexact HS3
                ipureintro; exact View.read_writes_of_cover _ _ _ _ _ (scover0_A_3 m c t h0 h1 h2 e9)
              isplitl [HS4]; · iexact HS4
              isplitl [HS5]
              · unfold owns; iexists _; isplitr
                swap; · iexact HS5
                ipureintro; exact View.read_writes_of_cover _ _ _ _ _ (scover0_A_5 m c t h0 h1 h2 e9)
              isplitl [HS6]
              · unfold owns; iexists _; isplitr
                swap; · iexact HS6
                ipureintro; exact View.read_writes_of_cover _ _ _ _ _ (scover0_A_6 m c t h0 h1 h2 e9)
              isplitl [HS7]
              · unfold owns; iexists _; isplitr
                swap; · iexact HS7
                ipureintro; exact View.read_writes_of_cover _ _ _ _ _ (scover0_A_7 m c t h0 h1 h2 e9)
              isplitl [HS8]
              · unfold owns; iexists _; isplitr
                swap; · iexact HS8
                ipureintro; exact View.read_writes_of_cover _ _ _ _ _ (scover0_A_8 m c t h0 h1 h2 e9)
              iexact HS9
            isplitl [Hg]
            · iexact Hg
            isplitl [Hq0 Hq1 Hq2 Hq3]
            · isplitl [Hq0]; · iexact Hq0
              isplitl [Hq1]; · iexact Hq1
              isplitl [Hq2]; · iexact Hq2
              iexact Hq3
            isplitl [Hh0]; · iexact Hh0
            isplitl [Hh1]; · iexact Hh1
            isplitl [Hh2]; · iexact Hh2
            iexact Hh3
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexists _; iexact H9
        · exfalso; have hN : t.val < 65 := lt_of_lt_of_eq t.isLt (show cfg0.N = 65 from N_0); omega
  · by_cases h1 : (1 ≤ t.val % 65 ∧ t.val % 65 ≤ 63)
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h))], after0_9]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2]
          unfold stepB; (try dsimp only)
          iintro ⟨⟨⟨HS0, HS1, HS2, HS3, HS4, HS5, HS6, HS7, HS8, HS9⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((runB m c t h0 h1 h2 _).2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [Hq0]; · iexact Hq0
          isplitl [Hq1]; · iexact Hq1
          isplitl [Hq2]; · iexact Hq2
          isplitl [Hq3]; · iexact Hq3
          isplitl [Hh0]; · iexact Hh0
          isplitl [Hh1]; · iexact Hh1
          isplitl [Hh2]; · iexact Hh2
          isplitl [Hh3]; · iexact Hh3
          isplitl [HW]; · iexact HW
          iintro ⟨H0, H1, H2, H3, H4, H5, H6, H7, H8, ⟨%e9, H9⟩, ⟨%es0, HS0⟩, ⟨%es1, HS1⟩, ⟨%es2, HS2⟩, ⟨%es3, HS3⟩, ⟨%fT4, HS4⟩, HS5, HS6, HS7, HS8, HS9, Hq0, Hq1, Hq2, Hq3, Hh0, Hh1, Hh2, Hh3, ⟨%W', HW'⟩⟩
          isplitl [HS0 HS1 HS2 HS3 HS4 HS5 HS6 HS7 HS8 HS9 Hg Hq0 Hq1 Hq2 Hq3 Hh0 Hh1 Hh2 Hh3]
          · isplitl [HS0 HS1 HS2 HS3 HS4 HS5 HS6 HS7 HS8 HS9]
            · isplitl [HS0]
              · unfold owns; iexists _; isplitr
                swap; · iexact HS0
                ipureintro; exact View.read_writes_of_cover _ _ _ _ _ (scover0_B_0 m c t h0 h1 h2 _)
              isplitl [HS1]
              · unfold owns; iexists _; isplitr
                swap; · iexact HS1
                ipureintro; exact View.read_writes_of_cover _ _ _ _ _ (scover0_B_1 m c t h0 h1 h2 _)
              isplitl [HS2]
              · unfold owns; iexists _; isplitr
                swap; · iexact HS2
                ipureintro; exact View.read_writes_of_cover _ _ _ _ _ (scover0_B_2 m c t h0 h1 h2 _)
              isplitl [HS3]
              · unfold owns; iexists _; isplitr
                swap; · iexact HS3
                ipureintro; exact View.read_writes_of_cover _ _ _ _ _ (scover0_B_3 m c t h0 h1 h2 _)
              isplitl [HS4]
              · iexists _; unfold owns; iexists _; isplitr
                swap; · iexact HS4
                ipureintro; rfl
              isplitl [HS5]; · iexact HS5
              isplitl [HS6]; · iexact HS6
              isplitl [HS7]; · iexact HS7
              isplitl [HS8]; · iexact HS8
              iexact HS9
            isplitl [Hg]
            · iexact Hg
            isplitl [Hq0 Hq1 Hq2 Hq3]
            · isplitl [Hq0]; · iexact Hq0
              isplitl [Hq1]; · iexact Hq1
              isplitl [Hq2]; · iexact Hq2
              iexact Hq3
            isplitl [Hh0]; · iexact Hh0
            isplitl [Hh1]; · iexact Hh1
            isplitl [Hh2]; · iexact Hh2
            iexact Hh3
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover0_B_9 m c t h0 h1 h2 _)
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2)], after0_9]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2]
          unfold stepC; (try dsimp only)
          iintro ⟨⟨⟨HS0, HS1, HS2, HS3, HS4, HS5, HS6, HS7, HS8, HS9⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((runC m c t h0 h1 h2 _).2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          isplitl [Hq0]; · iexact Hq0
          isplitl [Hq1]; · iexact Hq1
          isplitl [Hq2]; · iexact Hq2
          isplitl [Hq3]; · iexact Hq3
          isplitl [Hh0]; · iexact Hh0
          isplitl [Hh1]; · iexact Hh1
          isplitl [Hh2]; · iexact Hh2
          isplitl [Hh3]; · iexact Hh3
          isplitl [HW]; · iexact HW
          iintro ⟨H0, H1, H2, H3, H4, H5, H6, H7, H8, ⟨%e9, H9⟩, HS0, HS1, HS2, HS3, HS4, HS5, HS6, HS7, HS8, HS9, Hq0, Hq1, Hq2, Hq3, Hh0, Hh1, Hh2, Hh3, ⟨%W', HW'⟩⟩
          isplitl [HS0 HS1 HS2 HS3 HS4 HS5 HS6 HS7 HS8 HS9 Hg Hq0 Hq1 Hq2 Hq3 Hh0 Hh1 Hh2 Hh3]
          · isplitl [HS0 HS1 HS2 HS3 HS4 HS5 HS6 HS7 HS8 HS9]
            · isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              iexact HS9
            isplitl [Hg]
            · iexact Hg
            isplitl [Hq0 Hq1 Hq2 Hq3]
            · isplitl [Hq0]; · iexact Hq0
              isplitl [Hq1]; · iexact Hq1
              isplitl [Hq2]; · iexact Hq2
              iexact Hq3
            isplitl [Hh0]; · iexact Hh0
            isplitl [Hh1]; · iexact Hh1
            isplitl [Hh2]; · iexact Hh2
            iexact Hh3
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          unfold owns; iexists _; isplitr
          swap; · iexact H9
          ipureintro; exact View.read_writes_of_cover _ _ _ _ _ (cover0_C_9 m c t h0 h1 h2 _)
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7, HS8, HS9⟩, Hg, ⟨Hq0, Hq1, Hq2, Hq3⟩, ⟨Hh0, Hh1, Hh2, Hh3⟩⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexists _; iexact HS3
    isplitl [HS4]
    · iexact HS4
    isplitl [HS5]
    · iexists _; iexact HS5
    isplitl [HS6]
    · iexists _; iexact HS6
    isplitl [HS7]
    · iexists _; iexact HS7
    isplitl [HS8]
    · iexists _; iexact HS8
    iexact HS9
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  isplitl [Hh1]; · iexact Hh1
  isplitl [Hh2]; · iexact Hh2
  iexact Hh3

theorem hout (c : Dev nD) : (dats m 0 c).Φ (Fin.last cfg0.N) ⊢ Pipeline.ΦD osem0 spec0 H0 (V m) c :=
  Phi_out m c _ (by rw [Fin.val_last]; have : cfg0.N = 65 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.Result.lean ====
/- What the kernel leaves in the result array: the layer's rows, one tile of 512 rows a grid point from the second point on. The buffers
   between the points are followed by induction, and the array is read off the tiles. -/
module

public import proofs.«01_k».proof.Proof.CarryA
public import proofs.«01_k».proof.Proof.IFrame
public import Idealize.ShloMosaic.Lib.Pipeline.ValueKit
public import Idealize.ShloMosaic.Lib.Pipeline.Value

@[expose] public section

set_option maxRecDepth 16384

noncomputable section

open Idealize.ShloMosaic Idealize.ShloMosaic.TcCoe Idealize.SL.Sem

namespace Cert.KernelIdeal.Gen

variable (m : (ℓ : Loc nD τ sig) → Buf (Elt Ideal) ℓ) (ρ : Dev nD → PrngReg) (c : Dev nD)

/-- Every point but the last leaves the buffers ready for the point after. -/
theorem holds_all : ∀ (n : ℕ) (hn : n < cfg0.N), n < 64 → Holds (par m c) (512 * n) (outsAt0 m c n hn) := by
  intro n
  induction n with
  | zero =>
    intro hn _
    have e := outsAt0_A m c ⟨0, hn⟩ (by simp) (by simp) (by simp)
    dsimp only at e
    rw [e]
    exact holds_A m c ⟨0, hn⟩ _ _ _
  | succ n ih =>
    intro hn h64
    have e := outsAt0_B m c ⟨n + 1, hn⟩ (by simp only; omega) (by simp only; omega) (by simp only; omega)
    have H := ih (by omega) (by omega)
    dsimp only at e
    rw [e]
    exact holds_B m c ⟨n + 1, hn⟩ _ _ _ _ H

/-- The tile a point from the second on leaves. -/
theorem tile_at (t : Fin cfg0.N) (ht : 1 ≤ t.val) (r : Fin 512) (l : Fin 1024) :
    ((outsAt0 m c t.val t.isLt).1 (ix2 r l) : EReal) = (par m c).out (512 * (t.val - 1) + r) l := by
  have hN : t.val < 65 := lt_of_lt_of_eq t.isLt N_0
  have H := holds_all m c (t.val - 1) (Nat.lt_of_le_of_lt (Nat.sub_le _ _) t.isLt) (by omega)
  by_cases h : t.val % 65 = 64
  · rw [outsAt0_C m c t (by omega) (by omega) h]
    exact out_C_at m c t _ _ _ _ H r l
  · rw [outsAt0_B m c t (by omega) (by omega) h]
    exact out_B_at m c t _ _ _ _ H r l

theorem flush9 : ∀ t : Fin cfg0.N, (cfg0.win 9).flush t = true → 1 ≤ t.val := (by decide +kernel : ∀ t : Fin grid0.N, _)

/-- The result array after the run. -/
theorem result (r : Fin 32768) (l : Fin 1024) : ((dats m 0 c).arrAt 9 cfg0.N (ix2 r l) : EReal) = (par m c).out r l := by
  have key : (dats m 0 c).arrAt 9 cfg0.N = fun i => (par m c).out (i 0).val (i 1).val := by
    refine (dats m 0 c).arrAt_eq_of_covers 9 _ (by decide +kernel) fun t hf y => ?_
    have ht := flush9 t hf
    rw [after0_9]
    have hT := tile_at m c t ht
    generalize (outsAt0 m c t.val t.isLt).1 = T at hT ⊢
    blk_simp [idx9 t]
    refine (congrArg T (eq_ix2 (n0 := 512) (n1 := 1024) y)).trans ((hT (y 0) (y 1)).trans ?_)
    rw [Nat.mul_comm 512]
  rw [key]
  rfl

/-- A run leaves the arguments as given, and the result array as above. -/
theorem run_blocks : θ_run defs (onTc (τ := τ) (main (F := Ideal))) ⟨m, fun _ => 0, ρ⟩ (fun r => ∀ c : Dev nD,
      r.2.mem ((c : Thread nD τ).loc main_v6) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)) :=
  (θ_run defs _ _).mono (fun r h c => ⟨(h c).1 9,
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).1 7).trans (((dats m 0 c).arrAt_in 7 rfl _).trans ((A_eq m c 7).trans (V_main_arg7 m c))),
      ((h c).1 6).trans (((dats m 0 c).arrAt_in 6 rfl _).trans ((A_eq m c 6).trans (V_main_arg8 m c))),
      ((h c).2 main_arg9 (Pipeline.mem_restRefs_of main_arg9 (by decide) (by decide))).trans (V_main_arg9 m c),
      ((h c).1 8).trans (((dats m 0 c).arrAt_in 8 rfl _).trans ((A_eq m c 8).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.KernelIdeal.Gen

end
-- ==== Proof.RefA.lean ====
/- The reference's values at an index, up to the projection, the queries, keys and values and the convolution: the numbers of the layer
   (Spec.lean) at row `8192·batch + position`. -/
module

public import proofs.«01_k».proof.Proof.Params
public import proofs.«01_k».proof.Proof.Gen.ReferenceIdeal.Run
public import Idealize.ShloMosaic.Lib.Pointwise
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.Rows

open Cert.ReferenceIdeal Cert.ReferenceIdeal.Gen Cert.ReferenceIdeal.Value

/-- The arrays that a valuation holds as the program's arguments. -/
def arrays (V : Valuation τ sig (Elt Ideal)) : Layer.Arrays where
  x := V (Proc.devRef .tc main_arg0)
  g1 := V (Proc.devRef .tc main_arg1)
  win := V (Proc.devRef .tc main_arg2)
  gq := V (Proc.devRef .tc main_arg3)
  gk := V (Proc.devRef .tc main_arg4)
  sinks := V (Proc.devRef .tc main_arg5)
  cw := V (Proc.devRef .tc main_arg6)
  ga := V (Proc.devRef .tc main_arg7)
  gc := V (Proc.devRef .tc main_arg8)
  wo := V (Proc.devRef .tc main_arg9)
  g2 := V (Proc.devRef .tc main_arg10)
  wu := V (Proc.devRef .tc main_arg11)
  wd := V (Proc.devRef .tc main_arg12)

variable (V : Valuation τ sig (Elt Ideal))

/-- The layer's rows and parameters. -/
def par : Layer.Par := (arrays V).par

theorem x_at (b : Fin 4) (s : Fin 8192) (c : Fin 1024) : (V (Proc.devRef .tc main_arg0) (ix3 b s c) : EReal) = (par V).x (8192 * b + s) c :=
  ((arrays V).x_eq b s c).symm
theorem g1_at (c : Fin 1024) : (V (Proc.devRef .tc main_arg1) (ix2 0 c) : EReal) = (par V).g1 c := ((arrays V).g1_eq c).symm
theorem win_at (r : Fin 1024) (c : Fin 2304) : (V (Proc.devRef .tc main_arg2) (ix3 0 r c) : EReal) = (par V).win r c :=
  ((arrays V).win_eq r c c.isLt).symm
theorem gq_at (c : Fin 64) : (V (Proc.devRef .tc main_arg3) (ix2 0 c) : EReal) = (par V).gq c := ((arrays V).gq_eq c).symm
theorem gk_at (c : Fin 64) : (V (Proc.devRef .tc main_arg4) (ix2 0 c) : EReal) = (par V).gk c := ((arrays V).gk_eq c).symm
theorem sinks_at (c : Fin 8) : (V (Proc.devRef .tc main_arg5) (ix2 0 c) : EReal) = (par V).sinks c := ((arrays V).sinks_eq c c.isLt).symm
theorem cw_at (r : Fin 3) (c : Fin 512) : (V (Proc.devRef .tc main_arg6) (ix3 0 r c) : EReal) = (par V).cw r c :=
  ((arrays V).cw_eq r r.isLt c).symm
theorem ga_at (c : Fin 512) : (V (Proc.devRef .tc main_arg7) (ix2 0 c) : EReal) = (par V).ga c := ((arrays V).ga_eq c).symm
theorem gc_at (c : Fin 512) : (V (Proc.devRef .tc main_arg8) (ix2 0 c) : EReal) = (par V).gc c := ((arrays V).gc_eq c).symm
theorem wo_at (r c : Fin 1024) : (V (Proc.devRef .tc main_arg9) (ix3 0 r c) : EReal) = (par V).wo r c :=
  ((arrays V).wo_eq r r.isLt c).symm
theorem g2_at (c : Fin 1024) : (V (Proc.devRef .tc main_arg10) (ix2 0 c) : EReal) = (par V).g2 c := ((arrays V).g2_eq c).symm
theorem wu_at (r : Fin 1024) (c : Fin 4096) : (V (Proc.devRef .tc main_arg11) (ix3 0 r c) : EReal) = (par V).wu r c :=
  ((arrays V).wu_eq r c c.isLt).symm
theorem wd_at (r : Fin 4096) (c : Fin 1024) : (V (Proc.devRef .tc main_arg12) (ix3 0 r c) : EReal) = (par V).wd r c :=
  ((arrays V).wd_eq r r.isLt c).symm

/-- The joint projection. -/
theorem z_at (b : Fin 4) (s : Fin 8192) (c : Fin 2304) : (res_main_v15 V (ix3 b s c) : EReal) = (par V).z (8192 * b + s) c := by
  pointwise [res_main_v15, x_at, g1_at, win_at]
  simp only [zero_add, Layer.div1024]
  rfl

/-- Query and key columns. -/
theorem q_at (b : Fin 4) (s : Fin 8192) (h : Fin 8) (e : Fin 64) :
    (res_main_v17 V (ix4 b s h e) : EReal) = (par V).z (8192 * b + s) (64 * h + e) := by
  pointwise [res_main_v17, z_at]
  rw [mul_comm (h : ℕ)]
theorem k_at (b : Fin 4) (s : Fin 8192) (g : Fin 2) (e : Fin 64) :
    (res_main_v19 V (ix4 b s g e) : EReal) = (par V).z (8192 * b + s) (512 + (64 * g + e)) := by
  pointwise [res_main_v19, z_at]
  rw [mul_comm (g : ℕ)]

theorem sitofp_zero : (FloatOps.sitofp (F := Ideal) FTy.f32 (0#32) : EReal) = 0 := by
  change (((0#32 : BitVec 32).toInt : ℝ) : EReal) = 0
  simp

/-- A sequence of keys or values cut into blocks, block 0 standing for the rows before the sequence. -/
def blocks (f : FVec Ideal S4x8192x2x64 .f32) : FVec Ideal S4x65x128x2x64 .f32 :=
  shapeCast _ (pad S4x8320x2x64 ![0, 128, 0, 0] ![0, 0, 0, 0] ![0, 0, 0, 0] f (sitofp .f32 (constantI S_ 32 0#32))
    pads_S4x8192x2x64_S4x8320x2x64_000_12800_000_000 h_S_) shapeCasts_S4x8320x2x64_S4x65x128x2x64

theorem blocks_at (f : FVec Ideal S4x8192x2x64 .f32) (F : ℕ → ℕ → EReal)
    (hf : ∀ (b : Fin 4) (s : Fin 8192) (g : Fin 2) (e : Fin 64), (f (ix4 b s g e) : EReal) = F (8192 * b + s) (64 * g + e))
    (b : Fin 4) (n : Fin 65) (r : Fin 128) (g : Fin 2) (e : Fin 64) : (blocks f (ix5 b n r g e) : EReal)
      = if (n : ℕ) = 0 then 0 else F (8192 * b + (128 * (n - 1) + r)) (64 * g + e) := by
  pointwise [blocks, hf, sitofp_zero]
  by_cases hn : (n : ℕ) = 0
  · rw [if_pos hn, dif_neg (by omega)]
  · rw [if_neg hn, dif_pos (by omega), show (n : ℕ) * 128 + r - 128 = 128 * (n - 1) + r by omega]

/-- The normed keys. -/
theorem kn_at (b : Fin 4) (n : Fin 65) (r : Fin 128) (g : Fin 2) (e : Fin 64) : (res_main_v56 V (ix5 b n r g e) : EReal)
    = if (n : ℕ) = 0 then 0 else (par V).kn (8192 * b + (128 * (n - 1) + r)) (64 * g + e) := by
  refine blocks_at _ (par V).kn (fun b s g e => ?_) b n r g e
  pointwise [k_at, gk_at]
  rw [Layer.div64, Layer.Par.kn, show (64 * (g : ℕ) + e) / 64 = g by omega, show (64 * (g : ℕ) + e) % 64 = e by omega]
  rfl

theorem v_at (b : Fin 4) (n : Fin 65) (r : Fin 128) (g : Fin 2) (e : Fin 64) : (res_main_v58 V (ix5 b n r g e) : EReal)
    = if (n : ℕ) = 0 then 0 else (par V).v (8192 * b + (128 * (n - 1) + r)) (64 * g + e) := by
  refine blocks_at _ (par V).v (fun b s g e => ?_) b n r g e
  pointwise [z_at]
  rw [mul_comm (g : ℕ)]
  rfl

/-- The convolution's input with two zero rows before the sequence. -/
theorem u_at (b : Fin 4) (s : Fin 8194) (c : Fin 512) : (res_main_v122 V (ix3 b s c) : EReal)
    = if (s : ℕ) < 2 then 0 else (par V).u (8192 * b + (s - 2)) c := by
  pointwise [res_main_v122, z_at, sitofp_zero]
  by_cases hn : (s : ℕ) < 2
  · rw [if_pos hn, dif_neg (by omega)]
  · rw [if_neg hn, dif_pos (by omega)]
    rfl

/-- The gated convolution. -/
theorem yc_at (b : Fin 4) (s : Fin 8192) (c : Fin 512) : (res_main_v143 V (ix3 b s c) : EReal) = (par V).yc (8192 * b + s) c := by
  pointwise [res_main_v143, res_main_v121, z_at, u_at, cw_at]
  unfold Layer.Par.yc Layer.Par.ub
  have h : (8192 * (b : ℕ) + s) % 8192 = s := by omega
  rw [h]
  by_cases h1 : (s : ℕ) < 1
  · rw [if_pos (by omega), if_pos (by omega), if_pos (by omega), if_pos (by omega)]
  by_cases h2 : (s : ℕ) < 2
  · rw [if_pos (by omega), if_neg (by omega), if_pos (by omega), if_neg (by omega),
      show 8192 * (b : ℕ) + s - 1 = 8192 * b + (1 + s - 2) by omega]
  · rw [if_neg (by omega), if_neg (by omega), if_neg (by omega), if_neg (by omega),
      show 8192 * (b : ℕ) + s - 1 = 8192 * b + (1 + s - 2) by omega, show 8192 * (b : ℕ) + s - 2 = 8192 * b + (s - 2) by omega]

/-- The convolution's half of the layer's normed mix. -/
theorem conv_half_at (b : Fin 4) (s : Fin 8192) (c : Fin 512) :
    (par V).yc (8192 * b + s) c * Ideal.rsqrt (Ideal.div (∑ k : Fin 512, (par V).yc (8192 * b + s) k * (par V).yc (8192 * b + s) k)
        (Ideal.ofBits .f32 0x44000000#32) + Ideal.ofBits .f32 0x358637BD#32) * (par V).gc c
      = Layer.normRow 512 Layer.c512 (par V).gc ((par V).yc (8192 * b + s)) c := by
  rw [Layer.div512]; rfl

end Cert.ReferenceIdeal.Rows

end
-- ==== Proof.RefB.lean ====
/- The reference's attention at an index: the numbers of the layer (Spec.lean), where the gains of
   queries and keys are real and no sink is infinitely large. -/
module

public import proofs.«01_k».proof.Proof.RefA

@[expose] public section

set_option maxRecDepth 16384

noncomputable section

open Idealize.ShloMosaic Idealize.ShloMosaic.TcCoe Idealize.SL.Sem Idealize.ShloMosaic.StableHlo

namespace Cert.ReferenceIdeal.Rows

open Cert.ReferenceIdeal Cert.ReferenceIdeal.Gen Cert.ReferenceIdeal.Value

variable (V : Valuation τ sig (Elt Ideal))

/-- Lane `w` of the 256 rows of block `n` and the block before it is one of those that query row `i` sees. -/
def sees (n i w : ℕ) : Prop := (i < w ∧ w ≤ i + 128) ∧ 128 ≤ 128 * n + w
instance (n i w : ℕ) : Decidable (sees n i w) := inferInstanceAs (Decidable (_ ∧ _))

theorem bmod_small (z : ℤ) (h : -1000000 ≤ z ∧ z ≤ 1000000) : z.bmod (2 ^ 32) = z := by
  rw [Int.bmod_def]; split_ifs <;> omega

theorem int_add (x y : BitVec 32) (a b : ℤ) (hx : x.toInt = a) (hy : y.toInt = b) (h : -1000000 ≤ a + b ∧ a + b ≤ 1000000) :
    (IntOp.addi x y).toInt = a + b := (BitVec.toInt_add x y).trans (by rw [hx, hy, bmod_small _ h])
theorem int_sub (x y : BitVec 32) (a b : ℤ) (hx : x.toInt = a) (hy : y.toInt = b) (h : -1000000 ≤ a - b ∧ a - b ≤ 1000000) :
    (IntOp.subi x y).toInt = a - b := BitVec.toInt_sub.trans (by rw [hx, hy, bmod_small _ h])
theorem int_mul (x y : BitVec 32) (a b : ℤ) (hx : x.toInt = a) (hy : y.toInt = b) (h : -1000000 ≤ a * b ∧ a * b ≤ 1000000) :
    (IntOp.muli x y).toInt = a * b := (BitVec.toInt_mul x y).trans (by rw [hx, hy, bmod_small _ h])
theorem int_nat (n : ℕ) (h : n ≤ 1000000) : (BitVec.ofNat 32 n).toInt = n := WordCmp.toInt_ofNat_of_lt (by norm_num; omega)
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The three comparisons of the mask. -/
theorem mask_at (n : Fin 64) (i : Fin 128) (w : Fin 256) :
    IntOp.andi (IntOp.andi (IntOp.cmpi .sge (res_main_v89 V (ix3 n i w)) 0#32) (IntOp.cmpi .slt (res_main_v89 V (ix3 n i w)) 128#32))
      (IntOp.cmpi .sge (res_main_v84 V (ix2 n w)) 0#32) = BitVec.ofBool (decide (sees n i w)) := by
  pointwise [res_main_v89, res_main_v84, res_main_v72]
  have hb := int_mul _ _ _ _ (int_nat n (by omega)) (int_nat 128 (by omega)) (by omega)
  have hk := int_add _ _ _ _ (int_sub _ _ _ _ hb (int_nat 128 (by omega)) (by omega)) (int_nat w (by omega)) (by omega)
  have hd := int_sub _ _ _ _ (int_add _ _ _ _ hb (int_nat i (by omega)) (by omega)) hk (by omega)
  rw [WordCmp.cmpi_sge_eq, WordCmp.cmpi_sge_eq, WordCmp.cmpi_slt_eq, and_bits, and_bits]
  congr 1
  refine decide_eq_decide.2 ?_
  rw [hk, hd, int_nat 0 (by omega), int_nat 128 (by omega)]
  unfold sees
  omega

/-- Row `w` of the window of block `n`, in rows of its batch: row `128·n + w - 128`. The score of a head there, the sink's score last. -/
def wscore (P : Layer.Par) (b n i hd w : ℕ) : EReal :=
  if w = 256 then P.sinks hd else if sees n i w then
    (∑ e : Fin 64, P.kn (8192 * b + (128 * n + w - 128)) (64 * (hd / 4) + e) * P.qr (8192 * b + (128 * n + i)) (64 * hd + e))
      * Ideal.ofBits .f32 0x3E000000#32 else ⊥

/-- The indices that lose their last coordinate to a given one. -/
theorem fiber (h : S4x64x2x4x128x257.ReducesTo [5] S4x64x2x4x128) (b : Fin 4) (n : Fin 64) (g : Fin 2) (d : Fin 4) (i : Fin 128)
    (x : S4x64x2x4x128x257.Idx) : h.drop x = (ix5 b n g d i : S4x64x2x4x128.Idx) ↔ ∃ w : Fin 257, (ix6 b n g d i w : S4x64x2x4x128x257.Idx) = x := by
  constructor
  · intro e
    refine ⟨x 5, funext fun a => ?_⟩
    match a with
    | ⟨0, _⟩ => exact Fin.ext (congrArg Fin.val (congrFun e ⟨0, by decide⟩)).symm
    | ⟨1, _⟩ => exact Fin.ext (congrArg Fin.val (congrFun e ⟨1, by decide⟩)).symm
    | ⟨2, _⟩ => exact Fin.ext (congrArg Fin.val (congrFun e ⟨2, by decide⟩)).symm
    | ⟨3, _⟩ => exact Fin.ext (congrArg Fin.val (congrFun e ⟨3, by decide⟩)).symm
    | ⟨4, _⟩ => exact Fin.ext (congrArg Fin.val (congrFun e ⟨4, by decide⟩)).symm
    | ⟨5, _⟩ => rfl
  · rintro ⟨w, rfl⟩
    funext a
    match a with
    | ⟨0, _⟩ => rfl
    | ⟨1, _⟩ => rfl
    | ⟨2, _⟩ => rfl
    | ⟨3, _⟩ => rfl
    | ⟨4, _⟩ => rfl

theorem ix6_last (b : Fin 4) (n : Fin 64) (g : Fin 2) (d : Fin 4) (i : Fin 128) :
    Function.Injective fun w : Fin 257 => (ix6 b n g d i w : S4x64x2x4x128x257.Idx) := fun _ _ e => congrFun e 5

/-- The reductions of the scores along their last axis. -/
theorem sum_last (v : FVec Ideal S4x64x2x4x128x257 .f32) (b : Fin 4) (n : Fin 64) (g : Fin 2) (d : Fin 4) (i : Fin 128) :
    (Host.reduceAdd v (constant S_ .f32 0x00000000#32) reducesTo_S4x64x2x4x128x257_S4x64x2x4x128_d5 h_S_ (ix5 b n g d i) : EReal)
      = ∑ w : Fin 257, (v (ix6 b n g d i w) : EReal) := by
  have h0 : Ideal.ofBits .f32 0x00000000#32 = 0 := by simp [Ideal.ofBits, Ideal.ieee]
  show Ideal.ofBits .f32 0x00000000#32 + ∑ x ∈ Finset.univ.filter (fun x => reducesTo_S4x64x2x4x128x257_S4x64x2x4x128_d5.drop x = ix5 b n g d i), v x = _
  rw [h0, zero_add]
  exact Finset.sum_filter_eq_sum_of_fiber _ _ (ix6_last b n g d i) (fiber _ b n g d i) v

theorem max_last (v : FVec Ideal S4x64x2x4x128x257 .f32) (b : Fin 4) (n : Fin 64) (g : Fin 2) (d : Fin 4) (i : Fin 128) :
    (Host.reduce (FloatOps.maximumf (F := Ideal) (φ := .f32)) v (constant (F := Ideal) S_ .f32 0xFF800000#32) reducesTo_S4x64x2x4x128x257_S4x64x2x4x128_d5 h_S_ (ix5 b n g d i) : EReal)
      = Finset.univ.fold max ⊥ fun w : Fin 257 => (v (ix6 b n g d i w) : EReal) := by
  have h0 : Ideal.ofBits .f32 0xFF800000#32 = ⊥ := by simp [Ideal.ofBits, Ideal.ieee]
  refine (Host.reduce_eq_fold (FloatOps.maximumf (F := Ideal) (φ := .f32)) v _ _ _ _).trans ?_
  show (Finset.univ.filter (fun x => reducesTo_S4x64x2x4x128x257_S4x64x2x4x128_d5.drop x = ix5 b n g d i)).fold max (Ideal.ofBits .f32 0xFF800000#32) v = _
  rw [h0]
  exact Finset.fold_filter_eq_fold_of_fiber max _ _ (ix6_last b n g d i) (fiber _ b n g d i) ⊥ v

theorem score_at (b : Fin 4) (n : Fin 64) (g : Fin 2) (d : Fin 4) (i : Fin 128) (w : Fin 257) :
    (res_main_v104 V (ix6 b n g d i w) : EReal) = wscore (par V) b n i (4 * g + d) w := by
  pointwise [res_main_v104, q_at, gq_at, kn_at, sinks_at, mask_at]
  have hs : (g : ℕ) * 4 + d = 4 * g + d := by omega
  have hr : (n : ℕ) * 128 + i = 128 * n + i := by omega
  simp only [hs, hr, Layer.div64]
  unfold wscore
  by_cases hw : (w : ℕ) < 256
  · rw [dif_pos hw, if_neg (by omega : ¬(w : ℕ) = 256)]
    by_cases hv : sees n i w
    · rw [if_pos hv, if_pos hv]
      congr 1
      refine Finset.sum_congr rfl fun e _ => ?_
      have hn : 128 ≤ 128 * (n : ℕ) + w := hv.2
      congr 1
      · split_ifs with h1 h2
        · omega
        · rw [show 128 * ((n : ℕ) - 1) + w = 128 * n + w - 128 by omega, show (4 * (g : ℕ) + d) / 4 = g by omega]
        · omega
        · rw [show 128 * (n : ℕ) + (w - 128) = 128 * n + w - 128 by omega, show (4 * (g : ℕ) + d) / 4 = g by omega]
      · rw [Layer.Par.qr, show (64 * (4 * (g : ℕ) + d) + e) / 64 = 4 * g + d by omega, show (64 * (4 * (g : ℕ) + d) + e) % 64 = e by omega]
        rfl
    · rw [if_neg hv, if_neg hv]
      show Ideal.ofBits .f32 0xFF800000#32 = ⊥
      simp [Ideal.ofBits, Ideal.ieee]
  · rw [dif_neg hw, if_pos (by omega : (w : ℕ) = 256)]

/-- The weight of lane `w`, not yet divided by their sum. -/
def weight (P : Layer.Par) (b n i hd w : ℕ) : EReal :=
  Ideal.exp (wscore P b n i hd w - Finset.univ.fold max ⊥ fun w : Fin 257 => wscore P b n i hd w)

theorem exp_at (s : FVec Ideal S4x64x2x4x128x257 .f32) (r : FVec Ideal S4x64x2x4x128 .f32) (b : Fin 4) (n : Fin 64) (g : Fin 2) (d : Fin 4) (i : Fin 128) (w : Fin 257) :
    (Host.exp (subf s (broadcastInDim S4x64x2x4x128x257 ![0, 1, 2, 3, 4, 5] bcast_S4x64x2x4x128x1_S4x64x2x4x128x257_0_1_2_3_4_5 (broadcastInDim S4x64x2x4x128x1 ![0, 1, 2, 3, 4] bcast_S4x64x2x4x128_S4x64x2x4x128x1_0_1_2_3_4 (maximumf (broadcastInDim S4x64x2x4x128 ![] bcast_S_S4x64x2x4x128 (constant S_ .f32 0xFF800000#32)) r)))) (ix6 b n g d i w) : EReal)
      = Ideal.exp (s (ix6 b n g d i w) - max (Ideal.ofBits .f32 0xFF800000#32) (r (ix5 b n g d i))) := by
  pointwise

theorem weight_at (b : Fin 4) (n : Fin 64) (g : Fin 2) (d : Fin 4) (i : Fin 128) (w : Fin 257) :
    (res_main_v111 V (ix6 b n g d i w) : EReal) = weight (par V) b n i (4 * g + d) w := by
  have h0 : Ideal.ofBits .f32 0xFF800000#32 = ⊥ := by simp [Ideal.ofBits, Ideal.ieee]
  unfold res_main_v111 weight
  refine (exp_at _ _ b n g d i w).trans ?_
  rw [max_last, h0, bot_sup_eq]
  simp only [score_at]

theorem total_at (b : Fin 4) (n : Fin 64) (g : Fin 2) (d : Fin 4) (i : Fin 128) :
    Ideal.hostReduceAdd reducesTo_S4x64x2x4x128x257_S4x64x2x4x128_d5 (res_main_v111 V) 0 (ix5 b n g d i)
      = ∑ w : Fin 257, weight (par V) b n i (4 * g + d) w := by
  refine Eq.trans ?_ ((sum_last (res_main_v111 V) b n g d i).trans (by simp only [weight_at]))
  show (0 : EReal) + _ = Ideal.ofBits .f32 0x00000000#32 + _
  congr 1
  simp [Ideal.ofBits, Ideal.ieee]

/-- The scores of a block's row are the row's scores, lane by lane. -/
theorem wscore_lane (P : Layer.Par) (b s hd : ℕ) (hs : s < 8192) (j : ℕ) (hj : j < 128) :
    wscore P b (s / 128) (s % 128) hd (Layer.lane (s % 128) j) = P.sr (8192 * b + s) hd j := by
  have h3 : 128 * (s / 128) + s % 128 = s := by omega
  have hne : ¬Layer.lane (s % 128) j = 256 := by unfold Layer.lane; split_ifs <;> omega
  have hsee : sees (s / 128) (s % 128) (Layer.lane (s % 128) j) ↔ ¬Layer.Par.hidden (8192 * b + s) j := by
    unfold sees Layer.Par.hidden Layer.lane; split_ifs <;> omega
  have hrow : ¬Layer.Par.hidden (8192 * b + s) j → 8192 * b + (128 * (s / 128) + Layer.lane (s % 128) j - 128) = Layer.Par.key (8192 * b + s) j := by
    unfold Layer.Par.hidden Layer.Par.key Layer.lane; intro h; split_ifs <;> omega
  unfold wscore Layer.Par.sr
  rw [if_neg hne]
  by_cases hh : Layer.Par.hidden (8192 * b + s) j
  · rw [if_neg fun h => hsee.1 h hh, if_pos hh]
  · rw [if_pos (hsee.2 hh), if_neg hh, hrow hh, h3]

theorem wscore_sink (P : Layer.Par) (b n i hd : ℕ) : wscore P b n i hd 256 = P.sinks hd := if_pos rfl

theorem wscore_out (P : Layer.Par) (b n i hd w : ℕ) (hw : w < 256) (h : ¬(i < w ∧ w ≤ i + 128)) : wscore P b n i hd w = ⊥ := by
  unfold wscore
  rw [if_neg (by omega), if_neg fun hs => h hs.1]

theorem largest (P : Layer.Par) (b s hd : ℕ) (hs : s < 8192) :
    (Finset.univ.fold max ⊥ fun w : Fin 257 => wscore P b (s / 128) (s % 128) hd w) = P.mr (8192 * b + s) hd := by
  rw [Layer.fold_window ⟨s % 128, Nat.mod_lt _ (by norm_num)⟩ (wscore P b (s / 128) (s % 128) hd) fun w hw h => wscore_out P b _ _ hd w hw h, wscore_sink]
  unfold Layer.Par.mr
  congr 2
  funext j
  exact wscore_lane P b s hd hs j j.isLt

theorem weight_out (P : Layer.Par) (b n i hd w : ℕ) (hw : w < 256) (h : ¬(i < w ∧ w ≤ i + 128)) : weight P b n i hd w = 0 := by
  unfold weight
  rw [wscore_out P b n i hd w hw h, EReal.bot_sub]
  rfl

theorem total (P : Layer.Par) (b s hd : ℕ) (hs : s < 8192) :
    (∑ w : Fin 257, weight P b (s / 128) (s % 128) hd w)
      = (∑ j : Fin 128, Ideal.exp (P.sr (8192 * b + s) hd j - P.mr (8192 * b + s) hd)) + Ideal.exp (P.sinks hd - P.mr (8192 * b + s) hd) := by
  rw [Fin.sum_univ_castSucc]
  congr 1
  · refine (Finset.sum_congr rfl fun w _ => ?_).trans
      ((Layer.sum_window ⟨s % 128, Nat.mod_lt _ (by norm_num)⟩ (fun w => if w < 256 then weight P b (s / 128) (s % 128) hd w else 0) fun w h => ?_).trans
        (Finset.sum_congr rfl fun j _ => ?_))
    · exact (if_pos w.isLt).symm
    · split_ifs with hw
      · exact weight_out P b _ _ hd w hw h
      · rfl
    · have hl : Layer.lane (s % 128) j < 256 := by unfold Layer.lane; split_ifs <;> omega
      dsimp only
      rw [if_pos hl, weight, largest P b s hd hs, wscore_lane P b s hd hs j j.isLt]
  · show weight P b (s / 128) (s % 128) hd 256 = _
    rw [weight, largest P b s hd hs, wscore_sink]

/-- The value row of lane `w` of block `n`, zero before the sequence's first row. -/
def wvalue (P : Layer.Par) (b n c w : ℕ) : EReal := if 128 ≤ 128 * n + w then P.v (8192 * b + (128 * n + w - 128)) c else 0

theorem div_zero_left (y : EReal) (hy : y ≠ 0) : Ideal.div 0 y = 0 := by
  rw [Ideal.div, if_neg hy, zero_mul]

theorem att_at (hF : (par V).Fine) (b : Fin 4) (s : Fin 8192) (c : Fin 512) :
    (res_main_v119 V (ix3 b s c) : EReal) = (par V).o (8192 * b + s) c := by
  have hs := s.isLt
  pointwise [res_main_v119, weight_at, total_at, v_at]
  rw [hF.o_eq, show 4 * ((c : ℕ) / 256) + (c : ℕ) / 64 % 4 = c / 64 by omega, show (c : ℕ) / 256 = c / 64 / 4 by omega, total _ _ _ _ hs]
  have hZ := hF.total_ne (8192 * b + s) (c / 64)
  generalize (∑ j : Fin 128, Ideal.exp ((par V).sr (8192 * b + s) (c / 64) j - (par V).mr (8192 * b + s) (c / 64))) + Ideal.exp ((par V).sinks (c / 64) - (par V).mr (8192 * b + s) (c / 64)) = Z at hZ
  have hw := Layer.sum_window ⟨s % 128, Nat.mod_lt _ (by norm_num)⟩
    (fun w => if w < 256 then wvalue (par V) b (s / 128) (64 * (c / 64 / 4) + c % 64) w * Ideal.div (weight (par V) b (s / 128) (s % 128) (c / 64) w) Z else 0)
    fun w h => by
      split_ifs with hw
      · rw [weight_out _ _ _ _ _ _ hw h, div_zero_left _ hZ, mul_zero]
      · rfl
  rw [Fin.sum_univ_two_halves 128 128 rfl] at hw
  refine Eq.trans ?_ (hw.trans ?_)
  · congr 1
    · refine Finset.sum_congr rfl fun x _ => ?_
      dsimp only
      rw [if_pos (by omega : ((x : ℕ)) < 256)]
      congr 1
      unfold wvalue
      split_ifs with h1 h2 h2
      · omega
      · rfl
      · rw [show 128 * ((s : ℕ) / 128 - 1) + x = 128 * (s / 128) + x - 128 by omega]
      · omega
    · refine Finset.sum_congr rfl fun x _ => ?_
      dsimp only
      rw [if_pos (by omega : 128 + (x : ℕ) < 256)]
      congr 1
      unfold wvalue
      rw [if_neg (by omega), if_pos (by omega), show 128 * ((s : ℕ) / 128) + (128 + x) - 128 = 128 * (s / 128) + x by omega]
  · refine Finset.sum_congr rfl fun j _ => ?_
    have hl : Layer.lane (s % 128) j < 256 := by unfold Layer.lane; split_ifs <;> omega
    dsimp only
    rw [if_pos hl, weight, largest _ _ _ _ hs, wscore_lane _ _ _ _ hs j j.isLt, mul_comm]
    by_cases hh : Layer.Par.hidden (8192 * b + s) j
    · rw [Layer.Par.sr, if_pos hh, EReal.bot_sub, show Ideal.exp ⊥ = 0 from rfl, div_zero_left _ hZ, zero_mul, zero_mul]
    · congr 1
      unfold Layer.Par.hidden at hh
      unfold wvalue Layer.lane Layer.Par.key
      have h1 : (8192 * (b : ℕ) + s) % 128 = s % 128 := by omega
      rw [h1]
      split_ifs with h2 h3 h3
      · congr 1; omega
      · omega
      · congr 1; omega
      · omega

end Cert.ReferenceIdeal.Rows

end
-- ==== Proof.RefC.lean ====
/- The reference's output projection and channel mixer at an index: the numbers of the layer (Spec.lean), where the gains of
   queries and keys are real and no sink is infinitely large. -/
module

public import proofs.«01_k».proof.Proof.RefB

@[expose] public section

set_option maxRecDepth 16384

noncomputable section

open Idealize.ShloMosaic Idealize.ShloMosaic.TcCoe Idealize.SL.Sem Idealize.ShloMosaic.StableHlo

namespace Cert.ReferenceIdeal.Rows

open Cert.ReferenceIdeal Cert.ReferenceIdeal.Gen Cert.ReferenceIdeal.Value

variable (V : Valuation τ sig (Elt Ideal))

/-- The attention's and the convolution's rows, normed, side by side. -/
def mixed (A B : FVec Ideal S4x8192x512 .f32) : FVec Ideal S4x8192x1024 .f32 :=
  concatenate S4x8192x1024 2 [⟨S4x8192x512, (mulf (mulf A (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf A A) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x358637BD#32)))))) (broadcastInDim S4x8192x512 ![0, 1, 2] bcast_S1x1x512_S4x8192x512_0_1_2 (broadcastInDim S1x1x512 ![2] bcast_S512_S1x1x512_2 (shapeCast _ (V (Proc.devRef .tc main_arg7)) shapeCasts_S1x512_S512))))⟩, ⟨S4x8192x512, (mulf (mulf B (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf B B) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x358637BD#32)))))) (broadcastInDim S4x8192x512 ![0, 1, 2] bcast_S1x1x512_S4x8192x512_0_1_2 (broadcastInDim S1x1x512 ![2] bcast_S512_S1x1x512_2 (shapeCast _ (V (Proc.devRef .tc main_arg8)) shapeCasts_S1x512_S512))))⟩] concatenates_S4x8192x512_S4x8192x512_S4x8192x1024_d2

theorem mixed_lo (A B : FVec Ideal S4x8192x512 .f32) (b : Fin 4) (s : Fin 8192) (c : Fin 512) :
    (mixed V A B (ix3 b s ⟨c, by omega⟩) : EReal) = A (ix3 b s c) * Ideal.rsqrt ((∑ k : Fin 512, A (ix3 b s k) * A (ix3 b s k)) * Layer.c512 + Layer.eps) * (par V).ga c := by
  pointwise [mixed, ga_at, Layer.div512]
  rfl

theorem mixed_hi (A B : FVec Ideal S4x8192x512 .f32) (b : Fin 4) (s : Fin 8192) (c : Fin 512) :
    (mixed V A B (ix3 b s ⟨512 + c, by omega⟩) : EReal) = B (ix3 b s c) * Ideal.rsqrt ((∑ k : Fin 512, B (ix3 b s k) * B (ix3 b s k)) * Layer.c512 + Layer.eps) * (par V).gc c := by
  pointwise [mixed, gc_at, Layer.div512]
  rfl

theorem x1_sum (b : Fin 4) (s : Fin 8192) (l : Fin 1024) : (res_main_v175 V (ix3 b s l) : EReal)
    = (par V).x (8192 * b + s) l + ∑ k : Fin 1024, mixed V (res_main_v119 V) (res_main_v143 V) (ix3 b s k) * (par V).wo k l := by
  have h : res_main_v175 V = addf (V (Proc.devRef .tc main_arg0)) (Host.dotGeneral dot_S4x8192x1024_S1024x1024_S4x8192x1024_2_0_01_1_n_n none (mixed V (res_main_v119 V) (res_main_v143 V)) (shapeCast _ (V (Proc.devRef .tc main_arg9)) shapeCasts_S1x1024x1024_S1024x1024)) := rfl
  rw [h]
  generalize mixed V (res_main_v119 V) (res_main_v143 V) = M
  pointwise [x_at, wo_at]

omit V in
/-- A sum over 4096 entries in four runs of 1024. -/
theorem sum_four (f : ℕ → EReal) : ∑ k : Fin 4096, f k = (∑ k : Fin 1024, f (1024 * 0 + k)) + (∑ k : Fin 1024, f (1024 * 1 + k))
    + (∑ k : Fin 1024, f (1024 * 2 + k)) + ∑ k : Fin 1024, f (1024 * 3 + k) := by
  rw [Fin.sum_univ_eq_sum_range f 4096, show 4096 = 1024 + 1024 + 1024 + 1024 from rfl, Finset.sum_range_add, Finset.sum_range_add,
    Finset.sum_range_add]
  simp only [Fin.sum_univ_eq_sum_range (fun k => f (1024 * 0 + k)), Fin.sum_univ_eq_sum_range (fun k => f (1024 * 1 + k)),
    Fin.sum_univ_eq_sum_range (fun k => f (1024 * 2 + k)), Fin.sum_univ_eq_sum_range (fun k => f (1024 * 3 + k))]
  simp only [Nat.mul_zero, Nat.zero_add, Nat.mul_one]

variable (hF : (par V).Fine)

include hF

/-- The rows after attention and convolution. -/
theorem x1_at (b : Fin 4) (s : Fin 8192) (l : Fin 1024) : (res_main_v175 V (ix3 b s l) : EReal) = (par V).x1 (8192 * b + s) l := by
  rw [x1_sum]
  refine (congrArg _ (Fin.sum_univ_add (a := 512) (b := 512) _)).trans ?_
  rw [Layer.Par.x1, add_assoc, add_comm (∑ k : Fin 512, _ * (par V).wo (512 + k) l)]
  refine congrArg₂ _ rfl (congrArg₂ _ (Finset.sum_congr rfl fun k _ => ?_) (Finset.sum_congr rfl fun k _ => ?_))
  · refine congrArg₂ _ ((mixed_lo V _ _ b s k).trans ?_) rfl
    simp only [att_at V hF]
    rfl
  · refine congrArg₂ _ ((mixed_hi V _ _ b s k).trans ?_) rfl
    simp only [yc_at]
    rfl

/-- The channel mixer's rectified rows. -/
theorem up_at (b : Fin 4) (s : Fin 8192) (f : Fin 4096) :
    (res_main_v192 V (ix3 b s f) : EReal) = max (∑ k : Fin 1024, (par V).hm (8192 * b + s) k * (par V).wu k f) 0 := by
  pointwise [res_main_v192, x1_at V hF, g2_at, wu_at, Layer.div1024]
  rfl

omit hF in
/-- The result before its rows are put in order. -/
def rows : FVec Ideal S4x8192x1024 .f32 :=
  addf (res_main_v175 V) (Host.dotGeneral (φ₁ := .f32) (φ₂ := .f32) dot_S4x8192x4096_S4096x1024_S4x8192x1024_2_0_01_1_n_n none
    (mulf (φ := .f32) (res_main_v192 V) (res_main_v192 V))
    (shapeCast S4096x1024 (V (Proc.devRef .tc main_arg12)) shapeCasts_S1x4096x1024_S4096x1024))

/-- The layer's rows. -/
theorem rows_at (b : Fin 4) (s : Fin 8192) (l : Fin 1024) : (rows V (ix3 b s l) : EReal) = (par V).out (8192 * b + s) l := by
  pointwise [rows, x1_at V hF, up_at V hF, wd_at]
  refine (congrArg _ (sum_four fun f => (max (∑ k : Fin 1024, (par V).hm (8192 * b + s) k * (par V).wu k f) 0
    * max (∑ k : Fin 1024, (par V).hm (8192 * b + s) k * (par V).wu k f) 0) * (par V).wd f l)).trans ?_
  rw [Layer.Par.out]
  simp only [← add_assoc]
  rfl

/-- The result array: the layer's rows in order. -/
theorem result_at (r : Fin 32768) (l : Fin 1024) :
    (shapeCast S32768x1024 (rows V) shapeCasts_S4x8192x1024_S32768x1024 (ix2 r l) : EReal) = (par V).out r l := by
  have h := rows_at V hF ⟨r / 8192, by omega⟩ ⟨r % 8192, by omega⟩ l
  generalize rows V = M at h ⊢
  pointwise
  refine h.trans ?_
  dsimp only
  rw [show 8192 * ((r : ℕ) / 8192) + r % 8192 = r by omega]

end Cert.ReferenceIdeal.Rows

end
-- ==== Proof.Finite.lean ====
/- What the claim's precondition says of one value: below the largest value it is not `+∞`, and its absolute value below it, it is a number. -/
module

public import Idealize.ShloMosaic.Lib.StableHlo
public import Idealize.ShloMosaic.PureOps
public import Idealize.ShloMosaic.Lib.KernelVsHost

@[expose] public section

noncomputable section

open Idealize.ShloMosaic

namespace Layer

theorem inf_bits : (Ideal.ofBits .f32 0x7F800000#32 : EReal) = ⊤ := by simp [Ideal.ofBits, Ideal.ieee]

theorem lt_inf (x : EReal) (h : Ideal.cmp .olt x (Ideal.ofBits .f32 0x7F800000#32) = 1#1) : x < ⊤ := by
  rw [inf_bits] at h
  by_contra hn
  simp [Ideal.cmp, hn] at h

theorem ne_top_of (x : EReal) (h : Ideal.cmp .olt x (Ideal.ofBits .f32 0x7F800000#32) = 1#1) : x ≠ ⊤ := (lt_inf x h).ne

theorem real_of (x : EReal) (h : Ideal.cmp .olt (max x (-x)) (Ideal.ofBits .f32 0x7F800000#32) = 1#1) : ∃ r : ℝ, x = r := by
  have hm := lt_inf _ h
  rw [max_lt_iff] at hm
  refine ⟨x.toReal, (EReal.coe_toReal hm.1.ne fun hb => ?_).symm⟩
  subst hb
  simp at hm

end Layer

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KFrame
public import proofs.«01_k».proof.Proof.Result
public import proofs.«01_k».proof.Proof.RefC
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The kernel with named constants differs from the kernel at three constants: the scale of the queries, the logarithm
    that turns the exponential into a power of two, and the score of a masked key. -/
theorem constants : preserves_Kernel_KernelIdeal :=
  ⟨IdealRules.named_const.statement Cert.KernelIdeal.κ "qscale" .f32 0x3E38AA3B#32 (((Real.log 256)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

/-- The reference runs, leaves its arguments alone and ends with every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The shapes of the precondition. -/
theorem pre_facts : Cert.Pre_finite_score_rows.Facts := ⟨by decide, by decide⟩

/-- Under the precondition the gains of the queries and keys are numbers and no sink is `+∞`. -/
theorem fine (m : (ℓ : Loc Cert.KernelIdeal.nD Cert.KernelIdeal.τ Cert.KernelIdeal.sig) → Buf (Elt Ideal) ℓ)
    (h : Pre_KernelIdeal_finite_score_rows (hPre_finite_score_rows := pre_facts) m) (c : Dev Cert.KernelIdeal.nD) :
    (Cert.KernelIdeal.Gen.par m c).Fine :=
  Layer.Arrays.fine _ (fun i => Layer.real_of _ (congrFun (h c).1 i)) (fun i => Layer.real_of _ (congrFun (h c).2.1 i))
    (fun i => Layer.ne_top_of _ (congrFun (h c).2.2 i))

/-- Launched on the same arguments, the reference works on the same layer. -/
theorem same_par (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h : Cert.ReferenceIdeal.Rows.arrays V = Cert.KernelIdeal.Gen.arrays m c) :
    Cert.ReferenceIdeal.Rows.par V = Cert.KernelIdeal.Gen.par m c := by
  unfold Cert.ReferenceIdeal.Rows.par Cert.KernelIdeal.Gen.par
  rw [h]

/-- The kernel's result is the reference's. -/
theorem same_result : algebraic_KernelIdeal_ReferenceIdeal_pre_finite_score_rows (hKernelIdeal := Cert.KernelIdeal.Gen.facts)
    (hReferenceIdeal := Cert.ReferenceIdeal.Gen.facts) (hPre_finite_score_rows := pre_facts) := by
  intro m ρ m' ρ' hpre hagree
  refine ⟨_, Cert.KernelIdeal.Gen.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  have harr : Cert.ReferenceIdeal.Rows.arrays (StableHlo.launchContents m' c) = Cert.KernelIdeal.Gen.arrays m c := by
    unfold Cert.ReferenceIdeal.Rows.arrays Cert.KernelIdeal.Gen.arrays
    congr 1
  have hp := same_par m (StableHlo.launchContents m' c) c harr
  have hF : (Cert.ReferenceIdeal.Rows.par (StableHlo.launchContents m' c)).Fine := hp ▸ fine m hpre c
  refine funext fun i => ?_
  rw [eq_ix2 i]
  refine Eq.trans (Cert.ReferenceIdeal.Rows.result_at (StableHlo.launchContents m' c) hF (i 0) (i 1)) ?_
  rw [hp]
  exact (Cert.KernelIdeal.Gen.result m c (i 0) (i 1)).symm

theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, constants, same_result⟩

end Cert.Proof

end
